-- ==== Defs.lean ====
def Pre_PostA (m : (ℓ : Loc Cert.PostA.nD Cert.PostA.τ Cert.PostA.sig) → Buf (Elt Bits) ℓ) : Prop :=
  True

def Pre_PostAIdeal (m : (ℓ : Loc Cert.PostAIdeal.nD Cert.PostAIdeal.τ Cert.PostAIdeal.sig) → Buf (Elt Ideal) ℓ) : Prop :=
  True

def Pre_PostARefIdeal (m : (ℓ : Loc Cert.PostARefIdeal.nD Cert.PostARefIdeal.τ Cert.PostARefIdeal.sig) → Buf (Elt Ideal) ℓ) : Prop :=
  True

def Pre_PostB (m : (ℓ : Loc Cert.PostB.nD Cert.PostB.τ Cert.PostB.sig) → Buf (Elt Bits) ℓ) : Prop :=
  True

def Pre_PostBIdeal (m : (ℓ : Loc Cert.PostBIdeal.nD Cert.PostBIdeal.τ Cert.PostBIdeal.sig) → Buf (Elt Ideal) ℓ) : Prop :=
  True

def Pre_PostBIdeal_greatest_lse_finite [hPre_greatest_lse_finite : Cert.Pre_greatest_lse_finite.Facts] (m : (ℓ : Loc Cert.PostBIdeal.nD Cert.PostBIdeal.τ Cert.PostBIdeal.sig) → Buf (Elt Ideal) ℓ) : Prop :=
  ∀ c : Dev Cert.PostBIdeal.nD,
    (Cert.Pre_greatest_lse_finite.fn (F := Ideal) (m ((c.tc : Thread Cert.PostBIdeal.nD Cert.PostBIdeal.τ).loc Cert.PostBIdeal.main_arg0)) (m ((c.tc : Thread Cert.PostBIdeal.nD Cert.PostBIdeal.τ).loc Cert.PostBIdeal.main_arg1)) (m ((c.tc : Thread Cert.PostBIdeal.nD Cert.PostBIdeal.τ).loc Cert.PostBIdeal.main_arg2)) (m ((c.tc : Thread Cert.PostBIdeal.nD Cert.PostBIdeal.τ).loc Cert.PostBIdeal.main_arg3)) (m ((c.tc : Thread Cert.PostBIdeal.nD Cert.PostBIdeal.τ).loc Cert.PostBIdeal.main_arg4)) (m ((c.tc : Thread Cert.PostBIdeal.nD Cert.PostBIdeal.τ).loc Cert.PostBIdeal.main_arg5)) (m ((c.tc : Thread Cert.PostBIdeal.nD Cert.PostBIdeal.τ).loc Cert.PostBIdeal.main_arg6)) (m ((c.tc : Thread Cert.PostBIdeal.nD Cert.PostBIdeal.τ).loc Cert.PostBIdeal.main_arg7)) (m ((c.tc : Thread Cert.PostBIdeal.nD Cert.PostBIdeal.τ).loc Cert.PostBIdeal.main_arg8)) (m ((c.tc : Thread Cert.PostBIdeal.nD Cert.PostBIdeal.τ).loc Cert.PostBIdeal.main_arg9)) (m ((c.tc : Thread Cert.PostBIdeal.nD Cert.PostBIdeal.τ).loc Cert.PostBIdeal.main_arg10)) (m ((c.tc : Thread Cert.PostBIdeal.nD Cert.PostBIdeal.τ).loc Cert.PostBIdeal.main_arg11)) (m ((c.tc : Thread Cert.PostBIdeal.nD Cert.PostBIdeal.τ).loc Cert.PostBIdeal.main_arg12)) (m ((c.tc : Thread Cert.PostBIdeal.nD Cert.PostBIdeal.τ).loc Cert.PostBIdeal.main_arg13)) (m ((c.tc : Thread Cert.PostBIdeal.nD Cert.PostBIdeal.τ).loc Cert.PostBIdeal.main_arg14)) (m ((c.tc : Thread Cert.PostBIdeal.nD Cert.PostBIdeal.τ).loc Cert.PostBIdeal.main_arg15))) = (fun _ => 1#1)

def Pre_PostBRefIdeal (m : (ℓ : Loc Cert.PostBRefIdeal.nD Cert.PostBRefIdeal.τ Cert.PostBRefIdeal.sig) → Buf (Elt Ideal) ℓ) : Prop :=
  True

def Pre_PostBRefIdeal_greatest_lse_finite [hPre_greatest_lse_finite : Cert.Pre_greatest_lse_finite.Facts] (m : (ℓ : Loc Cert.PostBRefIdeal.nD Cert.PostBRefIdeal.τ Cert.PostBRefIdeal.sig) → Buf (Elt Ideal) ℓ) : Prop :=
  ∀ c : Dev Cert.PostBRefIdeal.nD,
    (Cert.Pre_greatest_lse_finite.fn (F := Ideal) (m ((c.tc : Thread Cert.PostBRefIdeal.nD Cert.PostBRefIdeal.τ).loc Cert.PostBRefIdeal.main_arg0)) (m ((c.tc : Thread Cert.PostBRefIdeal.nD Cert.PostBRefIdeal.τ).loc Cert.PostBRefIdeal.main_arg1)) (m ((c.tc : Thread Cert.PostBRefIdeal.nD Cert.PostBRefIdeal.τ).loc Cert.PostBRefIdeal.main_arg2)) (m ((c.tc : Thread Cert.PostBRefIdeal.nD Cert.PostBRefIdeal.τ).loc Cert.PostBRefIdeal.main_arg3)) (m ((c.tc : Thread Cert.PostBRefIdeal.nD Cert.PostBRefIdeal.τ).loc Cert.PostBRefIdeal.main_arg4)) (m ((c.tc : Thread Cert.PostBRefIdeal.nD Cert.PostBRefIdeal.τ).loc Cert.PostBRefIdeal.main_arg5)) (m ((c.tc : Thread Cert.PostBRefIdeal.nD Cert.PostBRefIdeal.τ).loc Cert.PostBRefIdeal.main_arg6)) (m ((c.tc : Thread Cert.PostBRefIdeal.nD Cert.PostBRefIdeal.τ).loc Cert.PostBRefIdeal.main_arg7)) (m ((c.tc : Thread Cert.PostBRefIdeal.nD Cert.PostBRefIdeal.τ).loc Cert.PostBRefIdeal.main_arg8)) (m ((c.tc : Thread Cert.PostBRefIdeal.nD Cert.PostBRefIdeal.τ).loc Cert.PostBRefIdeal.main_arg9)) (m ((c.tc : Thread Cert.PostBRefIdeal.nD Cert.PostBRefIdeal.τ).loc Cert.PostBRefIdeal.main_arg10)) (m ((c.tc : Thread Cert.PostBRefIdeal.nD Cert.PostBRefIdeal.τ).loc Cert.PostBRefIdeal.main_arg11)) (m ((c.tc : Thread Cert.PostBRefIdeal.nD Cert.PostBRefIdeal.τ).loc Cert.PostBRefIdeal.main_arg12)) (m ((c.tc : Thread Cert.PostBRefIdeal.nD Cert.PostBRefIdeal.τ).loc Cert.PostBRefIdeal.main_arg13)) (m ((c.tc : Thread Cert.PostBRefIdeal.nD Cert.PostBRefIdeal.τ).loc Cert.PostBRefIdeal.main_arg14)) (m ((c.tc : Thread Cert.PostBRefIdeal.nD Cert.PostBRefIdeal.τ).loc Cert.PostBRefIdeal.main_arg15))) = (fun _ => 1#1)

def Pre_PostBS (m : (ℓ : Loc Cert.PostBS.nD Cert.PostBS.τ Cert.PostBS.sig) → Buf (Elt Bits) ℓ) : Prop :=
  True

def Pre_PostBSIdeal (m : (ℓ : Loc Cert.PostBSIdeal.nD Cert.PostBSIdeal.τ Cert.PostBSIdeal.sig) → Buf (Elt Ideal) ℓ) : Prop :=
  True

def Pre_PostBSIdeal_greatest_lse_finite_sample [hPre_greatest_lse_finite_sample : Cert.Pre_greatest_lse_finite_sample.Facts] (m : (ℓ : Loc Cert.PostBSIdeal.nD Cert.PostBSIdeal.τ Cert.PostBSIdeal.sig) → Buf (Elt Ideal) ℓ) : Prop :=
  ∀ c : Dev Cert.PostBSIdeal.nD,
    (Cert.Pre_greatest_lse_finite_sample.fn (F := Ideal) (m ((c.tc : Thread Cert.PostBSIdeal.nD Cert.PostBSIdeal.τ).loc Cert.PostBSIdeal.main_arg0)) (m ((c.tc : Thread Cert.PostBSIdeal.nD Cert.PostBSIdeal.τ).loc Cert.PostBSIdeal.main_arg1)) (m ((c.tc : Thread Cert.PostBSIdeal.nD Cert.PostBSIdeal.τ).loc Cert.PostBSIdeal.main_arg2)) (m ((c.tc : Thread Cert.PostBSIdeal.nD Cert.PostBSIdeal.τ).loc Cert.PostBSIdeal.main_arg3)) (m ((c.tc : Thread Cert.PostBSIdeal.nD Cert.PostBSIdeal.τ).loc Cert.PostBSIdeal.main_arg4)) (m ((c.tc : Thread Cert.PostBSIdeal.nD Cert.PostBSIdeal.τ).loc Cert.PostBSIdeal.main_arg5)) (m ((c.tc : Thread Cert.PostBSIdeal.nD Cert.PostBSIdeal.τ).loc Cert.PostBSIdeal.main_arg6)) (m ((c.tc : Thread Cert.PostBSIdeal.nD Cert.PostBSIdeal.τ).loc Cert.PostBSIdeal.main_arg7)) (m ((c.tc : Thread Cert.PostBSIdeal.nD Cert.PostBSIdeal.τ).loc Cert.PostBSIdeal.main_arg8)) (m ((c.tc : Thread Cert.PostBSIdeal.nD Cert.PostBSIdeal.τ).loc Cert.PostBSIdeal.main_arg9)) (m ((c.tc : Thread Cert.PostBSIdeal.nD Cert.PostBSIdeal.τ).loc Cert.PostBSIdeal.main_arg10)) (m ((c.tc : Thread Cert.PostBSIdeal.nD Cert.PostBSIdeal.τ).loc Cert.PostBSIdeal.main_arg11)) (m ((c.tc : Thread Cert.PostBSIdeal.nD Cert.PostBSIdeal.τ).loc Cert.PostBSIdeal.main_arg12)) (m ((c.tc : Thread Cert.PostBSIdeal.nD Cert.PostBSIdeal.τ).loc Cert.PostBSIdeal.main_arg13)) (m ((c.tc : Thread Cert.PostBSIdeal.nD Cert.PostBSIdeal.τ).loc Cert.PostBSIdeal.main_arg14)) (m ((c.tc : Thread Cert.PostBSIdeal.nD Cert.PostBSIdeal.τ).loc Cert.PostBSIdeal.main_arg15))) = (fun _ => 1#1)

def Pre_PostBSRefIdeal (m : (ℓ : Loc Cert.PostBSRefIdeal.nD Cert.PostBSRefIdeal.τ Cert.PostBSRefIdeal.sig) → Buf (Elt Ideal) ℓ) : Prop :=
  True

def Pre_PostBSRefIdeal_greatest_lse_finite_sample [hPre_greatest_lse_finite_sample : Cert.Pre_greatest_lse_finite_sample.Facts] (m : (ℓ : Loc Cert.PostBSRefIdeal.nD Cert.PostBSRefIdeal.τ Cert.PostBSRefIdeal.sig) → Buf (Elt Ideal) ℓ) : Prop :=
  ∀ c : Dev Cert.PostBSRefIdeal.nD,
    (Cert.Pre_greatest_lse_finite_sample.fn (F := Ideal) (m ((c.tc : Thread Cert.PostBSRefIdeal.nD Cert.PostBSRefIdeal.τ).loc Cert.PostBSRefIdeal.main_arg0)) (m ((c.tc : Thread Cert.PostBSRefIdeal.nD Cert.PostBSRefIdeal.τ).loc Cert.PostBSRefIdeal.main_arg1)) (m ((c.tc : Thread Cert.PostBSRefIdeal.nD Cert.PostBSRefIdeal.τ).loc Cert.PostBSRefIdeal.main_arg2)) (m ((c.tc : Thread Cert.PostBSRefIdeal.nD Cert.PostBSRefIdeal.τ).loc Cert.PostBSRefIdeal.main_arg3)) (m ((c.tc : Thread Cert.PostBSRefIdeal.nD Cert.PostBSRefIdeal.τ).loc Cert.PostBSRefIdeal.main_arg4)) (m ((c.tc : Thread Cert.PostBSRefIdeal.nD Cert.PostBSRefIdeal.τ).loc Cert.PostBSRefIdeal.main_arg5)) (m ((c.tc : Thread Cert.PostBSRefIdeal.nD Cert.PostBSRefIdeal.τ).loc Cert.PostBSRefIdeal.main_arg6)) (m ((c.tc : Thread Cert.PostBSRefIdeal.nD Cert.PostBSRefIdeal.τ).loc Cert.PostBSRefIdeal.main_arg7)) (m ((c.tc : Thread Cert.PostBSRefIdeal.nD Cert.PostBSRefIdeal.τ).loc Cert.PostBSRefIdeal.main_arg8)) (m ((c.tc : Thread Cert.PostBSRefIdeal.nD Cert.PostBSRefIdeal.τ).loc Cert.PostBSRefIdeal.main_arg9)) (m ((c.tc : Thread Cert.PostBSRefIdeal.nD Cert.PostBSRefIdeal.τ).loc Cert.PostBSRefIdeal.main_arg10)) (m ((c.tc : Thread Cert.PostBSRefIdeal.nD Cert.PostBSRefIdeal.τ).loc Cert.PostBSRefIdeal.main_arg11)) (m ((c.tc : Thread Cert.PostBSRefIdeal.nD Cert.PostBSRefIdeal.τ).loc Cert.PostBSRefIdeal.main_arg12)) (m ((c.tc : Thread Cert.PostBSRefIdeal.nD Cert.PostBSRefIdeal.τ).loc Cert.PostBSRefIdeal.main_arg13)) (m ((c.tc : Thread Cert.PostBSRefIdeal.nD Cert.PostBSRefIdeal.τ).loc Cert.PostBSRefIdeal.main_arg14)) (m ((c.tc : Thread Cert.PostBSRefIdeal.nD Cert.PostBSRefIdeal.τ).loc Cert.PostBSRefIdeal.main_arg15))) = (fun _ => 1#1)

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvARefIdeal (m : (ℓ : Loc Cert.QkvARefIdeal.nD Cert.QkvARefIdeal.τ Cert.QkvARefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def quiescent_PostA [hPostA : Cert.PostA.Facts] : Prop :=
  ∀ (m : (ℓ : Loc Cert.PostA.nD Cert.PostA.τ Cert.PostA.sig) → Buf (Elt Bits) ℓ) (g : Dev Cert.PostA.nD → PrngReg), Pre_PostA m →
    θ_run (Cert.PostA.defs (F := Bits)) (onTc (τ := Cert.PostA.τ) (Cert.PostA.main (F := Bits))) ⟨m, fun _ => 0, g⟩ (fun r => (∀ c : Dev Cert.PostA.nD,
      r.2.mem ((c.tc : Thread Cert.PostA.nD Cert.PostA.τ).loc Cert.PostA.main_arg0) = m ((c.tc : Thread Cert.PostA.nD Cert.PostA.τ).loc Cert.PostA.main_arg0)
      ∧ r.2.mem ((c.tc : Thread Cert.PostA.nD Cert.PostA.τ).loc Cert.PostA.main_arg1) = m ((c.tc : Thread Cert.PostA.nD Cert.PostA.τ).loc Cert.PostA.main_arg1)
      ∧ r.2.mem ((c.tc : Thread Cert.PostA.nD Cert.PostA.τ).loc Cert.PostA.main_arg2) = m ((c.tc : Thread Cert.PostA.nD Cert.PostA.τ).loc Cert.PostA.main_arg2)
      ∧ r.2.mem ((c.tc : Thread Cert.PostA.nD Cert.PostA.τ).loc Cert.PostA.main_arg3) = m ((c.tc : Thread Cert.PostA.nD Cert.PostA.τ).loc Cert.PostA.main_arg3)
      ∧ r.2.mem ((c.tc : Thread Cert.PostA.nD Cert.PostA.τ).loc Cert.PostA.main_arg4) = m ((c.tc : Thread Cert.PostA.nD Cert.PostA.τ).loc Cert.PostA.main_arg4)
      ∧ r.2.mem ((c.tc : Thread Cert.PostA.nD Cert.PostA.τ).loc Cert.PostA.main_arg5) = m ((c.tc : Thread Cert.PostA.nD Cert.PostA.τ).loc Cert.PostA.main_arg5)
      ∧ r.2.mem ((c.tc : Thread Cert.PostA.nD Cert.PostA.τ).loc Cert.PostA.main_arg6) = m ((c.tc : Thread Cert.PostA.nD Cert.PostA.τ).loc Cert.PostA.main_arg6)
      ∧ r.2.mem ((c.tc : Thread Cert.PostA.nD Cert.PostA.τ).loc Cert.PostA.main_arg7) = m ((c.tc : Thread Cert.PostA.nD Cert.PostA.τ).loc Cert.PostA.main_arg7)
      ∧ r.2.mem ((c.tc : Thread Cert.PostA.nD Cert.PostA.τ).loc Cert.PostA.main_arg8) = m ((c.tc : Thread Cert.PostA.nD Cert.PostA.τ).loc Cert.PostA.main_arg8)
      ∧ r.2.mem ((c.tc : Thread Cert.PostA.nD Cert.PostA.τ).loc Cert.PostA.main_arg9) = m ((c.tc : Thread Cert.PostA.nD Cert.PostA.τ).loc Cert.PostA.main_arg9)
      ∧ r.2.mem ((c.tc : Thread Cert.PostA.nD Cert.PostA.τ).loc Cert.PostA.main_arg10) = m ((c.tc : Thread Cert.PostA.nD Cert.PostA.τ).loc Cert.PostA.main_arg10))
      ∧ r.2.sem = fun _ => 0)

def quiescent_PostAIdeal [hPostAIdeal : Cert.PostAIdeal.Facts] : Prop :=
  ∀ (m : (ℓ : Loc Cert.PostAIdeal.nD Cert.PostAIdeal.τ Cert.PostAIdeal.sig) → Buf (Elt Ideal) ℓ) (g : Dev Cert.PostAIdeal.nD → PrngReg), Pre_PostAIdeal m →
    θ_run (Cert.PostAIdeal.defs (F := Ideal)) (onTc (τ := Cert.PostAIdeal.τ) (Cert.PostAIdeal.main (F := Ideal))) ⟨m, fun _ => 0, g⟩ (fun r => (∀ c : Dev Cert.PostAIdeal.nD,
      r.2.mem ((c.tc : Thread Cert.PostAIdeal.nD Cert.PostAIdeal.τ).loc Cert.PostAIdeal.main_arg0) = m ((c.tc : Thread Cert.PostAIdeal.nD Cert.PostAIdeal.τ).loc Cert.PostAIdeal.main_arg0)
      ∧ r.2.mem ((c.tc : Thread Cert.PostAIdeal.nD Cert.PostAIdeal.τ).loc Cert.PostAIdeal.main_arg1) = m ((c.tc : Thread Cert.PostAIdeal.nD Cert.PostAIdeal.τ).loc Cert.PostAIdeal.main_arg1)
      ∧ r.2.mem ((c.tc : Thread Cert.PostAIdeal.nD Cert.PostAIdeal.τ).loc Cert.PostAIdeal.main_arg2) = m ((c.tc : Thread Cert.PostAIdeal.nD Cert.PostAIdeal.τ).loc Cert.PostAIdeal.main_arg2)
      ∧ r.2.mem ((c.tc : Thread Cert.PostAIdeal.nD Cert.PostAIdeal.τ).loc Cert.PostAIdeal.main_arg3) = m ((c.tc : Thread Cert.PostAIdeal.nD Cert.PostAIdeal.τ).loc Cert.PostAIdeal.main_arg3)
      ∧ r.2.mem ((c.tc : Thread Cert.PostAIdeal.nD Cert.PostAIdeal.τ).loc Cert.PostAIdeal.main_arg4) = m ((c.tc : Thread Cert.PostAIdeal.nD Cert.PostAIdeal.τ).loc Cert.PostAIdeal.main_arg4)
      ∧ r.2.mem ((c.tc : Thread Cert.PostAIdeal.nD Cert.PostAIdeal.τ).loc Cert.PostAIdeal.main_arg5) = m ((c.tc : Thread Cert.PostAIdeal.nD Cert.PostAIdeal.τ).loc Cert.PostAIdeal.main_arg5)
      ∧ r.2.mem ((c.tc : Thread Cert.PostAIdeal.nD Cert.PostAIdeal.τ).loc Cert.PostAIdeal.main_arg6) = m ((c.tc : Thread Cert.PostAIdeal.nD Cert.PostAIdeal.τ).loc Cert.PostAIdeal.main_arg6)
      ∧ r.2.mem ((c.tc : Thread Cert.PostAIdeal.nD Cert.PostAIdeal.τ).loc Cert.PostAIdeal.main_arg7) = m ((c.tc : Thread Cert.PostAIdeal.nD Cert.PostAIdeal.τ).loc Cert.PostAIdeal.main_arg7)
      ∧ r.2.mem ((c.tc : Thread Cert.PostAIdeal.nD Cert.PostAIdeal.τ).loc Cert.PostAIdeal.main_arg8) = m ((c.tc : Thread Cert.PostAIdeal.nD Cert.PostAIdeal.τ).loc Cert.PostAIdeal.main_arg8)
      ∧ r.2.mem ((c.tc : Thread Cert.PostAIdeal.nD Cert.PostAIdeal.τ).loc Cert.PostAIdeal.main_arg9) = m ((c.tc : Thread Cert.PostAIdeal.nD Cert.PostAIdeal.τ).loc Cert.PostAIdeal.main_arg9)
      ∧ r.2.mem ((c.tc : Thread Cert.PostAIdeal.nD Cert.PostAIdeal.τ).loc Cert.PostAIdeal.main_arg10) = m ((c.tc : Thread Cert.PostAIdeal.nD Cert.PostAIdeal.τ).loc Cert.PostAIdeal.main_arg10))
      ∧ r.2.sem = fun _ => 0)

def quiescent_PostARefIdeal [hPostARefIdeal : Cert.PostARefIdeal.Facts] : Prop :=
  ∀ (m : (ℓ : Loc Cert.PostARefIdeal.nD Cert.PostARefIdeal.τ Cert.PostARefIdeal.sig) → Buf (Elt Ideal) ℓ) (g : Dev Cert.PostARefIdeal.nD → PrngReg), Pre_PostARefIdeal m →
    θ_run (Cert.PostARefIdeal.defs (F := Ideal)) (onTc (τ := Cert.PostARefIdeal.τ) (Cert.PostARefIdeal.main (F := Ideal))) ⟨m, fun _ => 0, g⟩ (fun r => (∀ c : Dev Cert.PostARefIdeal.nD,
      r.2.mem ((c.tc : Thread Cert.PostARefIdeal.nD Cert.PostARefIdeal.τ).loc Cert.PostARefIdeal.main_arg0) = m ((c.tc : Thread Cert.PostARefIdeal.nD Cert.PostARefIdeal.τ).loc Cert.PostARefIdeal.main_arg0)
      ∧ r.2.mem ((c.tc : Thread Cert.PostARefIdeal.nD Cert.PostARefIdeal.τ).loc Cert.PostARefIdeal.main_arg1) = m ((c.tc : Thread Cert.PostARefIdeal.nD Cert.PostARefIdeal.τ).loc Cert.PostARefIdeal.main_arg1)
      ∧ r.2.mem ((c.tc : Thread Cert.PostARefIdeal.nD Cert.PostARefIdeal.τ).loc Cert.PostARefIdeal.main_arg2) = m ((c.tc : Thread Cert.PostARefIdeal.nD Cert.PostARefIdeal.τ).loc Cert.PostARefIdeal.main_arg2)
      ∧ r.2.mem ((c.tc : Thread Cert.PostARefIdeal.nD Cert.PostARefIdeal.τ).loc Cert.PostARefIdeal.main_arg3) = m ((c.tc : Thread Cert.PostARefIdeal.nD Cert.PostARefIdeal.τ).loc Cert.PostARefIdeal.main_arg3)
      ∧ r.2.mem ((c.tc : Thread Cert.PostARefIdeal.nD Cert.PostARefIdeal.τ).loc Cert.PostARefIdeal.main_arg4) = m ((c.tc : Thread Cert.PostARefIdeal.nD Cert.PostARefIdeal.τ).loc Cert.PostARefIdeal.main_arg4)
      ∧ r.2.mem ((c.tc : Thread Cert.PostARefIdeal.nD Cert.PostARefIdeal.τ).loc Cert.PostARefIdeal.main_arg5) = m ((c.tc : Thread Cert.PostARefIdeal.nD Cert.PostARefIdeal.τ).loc Cert.PostARefIdeal.main_arg5)
      ∧ r.2.mem ((c.tc : Thread Cert.PostARefIdeal.nD Cert.PostARefIdeal.τ).loc Cert.PostARefIdeal.main_arg6) = m ((c.tc : Thread Cert.PostARefIdeal.nD Cert.PostARefIdeal.τ).loc Cert.PostARefIdeal.main_arg6)
      ∧ r.2.mem ((c.tc : Thread Cert.PostARefIdeal.nD Cert.PostARefIdeal.τ).loc Cert.PostARefIdeal.main_arg7) = m ((c.tc : Thread Cert.PostARefIdeal.nD Cert.PostARefIdeal.τ).loc Cert.PostARefIdeal.main_arg7)
      ∧ r.2.mem ((c.tc : Thread Cert.PostARefIdeal.nD Cert.PostARefIdeal.τ).loc Cert.PostARefIdeal.main_arg8) = m ((c.tc : Thread Cert.PostARefIdeal.nD Cert.PostARefIdeal.τ).loc Cert.PostARefIdeal.main_arg8)
      ∧ r.2.mem ((c.tc : Thread Cert.PostARefIdeal.nD Cert.PostARefIdeal.τ).loc Cert.PostARefIdeal.main_arg9) = m ((c.tc : Thread Cert.PostARefIdeal.nD Cert.PostARefIdeal.τ).loc Cert.PostARefIdeal.main_arg9)
      ∧ r.2.mem ((c.tc : Thread Cert.PostARefIdeal.nD Cert.PostARefIdeal.τ).loc Cert.PostARefIdeal.main_arg10) = m ((c.tc : Thread Cert.PostARefIdeal.nD Cert.PostARefIdeal.τ).loc Cert.PostARefIdeal.main_arg10))
      ∧ r.2.sem = fun _ => 0)

def quiescent_PostB [hPostB : Cert.PostB.Facts] : Prop :=
  ∀ (m : (ℓ : Loc Cert.PostB.nD Cert.PostB.τ Cert.PostB.sig) → Buf (Elt Bits) ℓ) (g : Dev Cert.PostB.nD → PrngReg), Pre_PostB m →
    θ_run (Cert.PostB.defs (F := Bits)) (onTc (τ := Cert.PostB.τ) (Cert.PostB.main (F := Bits))) ⟨m, fun _ => 0, g⟩ (fun r => (∀ c : Dev Cert.PostB.nD,
      r.2.mem ((c.tc : Thread Cert.PostB.nD Cert.PostB.τ).loc Cert.PostB.main_arg0) = m ((c.tc : Thread Cert.PostB.nD Cert.PostB.τ).loc Cert.PostB.main_arg0)
      ∧ r.2.mem ((c.tc : Thread Cert.PostB.nD Cert.PostB.τ).loc Cert.PostB.main_arg1) = m ((c.tc : Thread Cert.PostB.nD Cert.PostB.τ).loc Cert.PostB.main_arg1)
      ∧ r.2.mem ((c.tc : Thread Cert.PostB.nD Cert.PostB.τ).loc Cert.PostB.main_arg2) = m ((c.tc : Thread Cert.PostB.nD Cert.PostB.τ).loc Cert.PostB.main_arg2)
      ∧ r.2.mem ((c.tc : Thread Cert.PostB.nD Cert.PostB.τ).loc Cert.PostB.main_arg3) = m ((c.tc : Thread Cert.PostB.nD Cert.PostB.τ).loc Cert.PostB.main_arg3)
      ∧ r.2.mem ((c.tc : Thread Cert.PostB.nD Cert.PostB.τ).loc Cert.PostB.main_arg4) = m ((c.tc : Thread Cert.PostB.nD Cert.PostB.τ).loc Cert.PostB.main_arg4)
      ∧ r.2.mem ((c.tc : Thread Cert.PostB.nD Cert.PostB.τ).loc Cert.PostB.main_arg5) = m ((c.tc : Thread Cert.PostB.nD Cert.PostB.τ).loc Cert.PostB.main_arg5)
      ∧ r.2.mem ((c.tc : Thread Cert.PostB.nD Cert.PostB.τ).loc Cert.PostB.main_arg6) = m ((c.tc : Thread Cert.PostB.nD Cert.PostB.τ).loc Cert.PostB.main_arg6)
      ∧ r.2.mem ((c.tc : Thread Cert.PostB.nD Cert.PostB.τ).loc Cert.PostB.main_arg7) = m ((c.tc : Thread Cert.PostB.nD Cert.PostB.τ).loc Cert.PostB.main_arg7)
      ∧ r.2.mem ((c.tc : Thread Cert.PostB.nD Cert.PostB.τ).loc Cert.PostB.main_arg8) = m ((c.tc : Thread Cert.PostB.nD Cert.PostB.τ).loc Cert.PostB.main_arg8)
      ∧ r.2.mem ((c.tc : Thread Cert.PostB.nD Cert.PostB.τ).loc Cert.PostB.main_arg9) = m ((c.tc : Thread Cert.PostB.nD Cert.PostB.τ).loc Cert.PostB.main_arg9)
      ∧ r.2.mem ((c.tc : Thread Cert.PostB.nD Cert.PostB.τ).loc Cert.PostB.main_arg10) = m ((c.tc : Thread Cert.PostB.nD Cert.PostB.τ).loc Cert.PostB.main_arg10)
      ∧ r.2.mem ((c.tc : Thread Cert.PostB.nD Cert.PostB.τ).loc Cert.PostB.main_arg11) = m ((c.tc : Thread Cert.PostB.nD Cert.PostB.τ).loc Cert.PostB.main_arg11)
      ∧ r.2.mem ((c.tc : Thread Cert.PostB.nD Cert.PostB.τ).loc Cert.PostB.main_arg12) = m ((c.tc : Thread Cert.PostB.nD Cert.PostB.τ).loc Cert.PostB.main_arg12)
      ∧ r.2.mem ((c.tc : Thread Cert.PostB.nD Cert.PostB.τ).loc Cert.PostB.main_arg13) = m ((c.tc : Thread Cert.PostB.nD Cert.PostB.τ).loc Cert.PostB.main_arg13)
      ∧ r.2.mem ((c.tc : Thread Cert.PostB.nD Cert.PostB.τ).loc Cert.PostB.main_arg14) = m ((c.tc : Thread Cert.PostB.nD Cert.PostB.τ).loc Cert.PostB.main_arg14)
      ∧ r.2.mem ((c.tc : Thread Cert.PostB.nD Cert.PostB.τ).loc Cert.PostB.main_arg15) = m ((c.tc : Thread Cert.PostB.nD Cert.PostB.τ).loc Cert.PostB.main_arg15))
      ∧ r.2.sem = fun _ => 0)

def quiescent_PostBIdeal [hPostBIdeal : Cert.PostBIdeal.Facts] : Prop :=
  ∀ (m : (ℓ : Loc Cert.PostBIdeal.nD Cert.PostBIdeal.τ Cert.PostBIdeal.sig) → Buf (Elt Ideal) ℓ) (g : Dev Cert.PostBIdeal.nD → PrngReg), Pre_PostBIdeal m →
    θ_run (Cert.PostBIdeal.defs (F := Ideal)) (onTc (τ := Cert.PostBIdeal.τ) (Cert.PostBIdeal.main (F := Ideal))) ⟨m, fun _ => 0, g⟩ (fun r => (∀ c : Dev Cert.PostBIdeal.nD,
      r.2.mem ((c.tc : Thread Cert.PostBIdeal.nD Cert.PostBIdeal.τ).loc Cert.PostBIdeal.main_arg0) = m ((c.tc : Thread Cert.PostBIdeal.nD Cert.PostBIdeal.τ).loc Cert.PostBIdeal.main_arg0)
      ∧ r.2.mem ((c.tc : Thread Cert.PostBIdeal.nD Cert.PostBIdeal.τ).loc Cert.PostBIdeal.main_arg1) = m ((c.tc : Thread Cert.PostBIdeal.nD Cert.PostBIdeal.τ).loc Cert.PostBIdeal.main_arg1)
      ∧ r.2.mem ((c.tc : Thread Cert.PostBIdeal.nD Cert.PostBIdeal.τ).loc Cert.PostBIdeal.main_arg2) = m ((c.tc : Thread Cert.PostBIdeal.nD Cert.PostBIdeal.τ).loc Cert.PostBIdeal.main_arg2)
      ∧ r.2.mem ((c.tc : Thread Cert.PostBIdeal.nD Cert.PostBIdeal.τ).loc Cert.PostBIdeal.main_arg3) = m ((c.tc : Thread Cert.PostBIdeal.nD Cert.PostBIdeal.τ).loc Cert.PostBIdeal.main_arg3)
      ∧ r.2.mem ((c.tc : Thread Cert.PostBIdeal.nD Cert.PostBIdeal.τ).loc Cert.PostBIdeal.main_arg4) = m ((c.tc : Thread Cert.PostBIdeal.nD Cert.PostBIdeal.τ).loc Cert.PostBIdeal.main_arg4)
      ∧ r.2.mem ((c.tc : Thread Cert.PostBIdeal.nD Cert.PostBIdeal.τ).loc Cert.PostBIdeal.main_arg5) = m ((c.tc : Thread Cert.PostBIdeal.nD Cert.PostBIdeal.τ).loc Cert.PostBIdeal.main_arg5)
      ∧ r.2.mem ((c.tc : Thread Cert.PostBIdeal.nD Cert.PostBIdeal.τ).loc Cert.PostBIdeal.main_arg6) = m ((c.tc : Thread Cert.PostBIdeal.nD Cert.PostBIdeal.τ).loc Cert.PostBIdeal.main_arg6)
      ∧ r.2.mem ((c.tc : Thread Cert.PostBIdeal.nD Cert.PostBIdeal.τ).loc Cert.PostBIdeal.main_arg7) = m ((c.tc : Thread Cert.PostBIdeal.nD Cert.PostBIdeal.τ).loc Cert.PostBIdeal.main_arg7)
      ∧ r.2.mem ((c.tc : Thread Cert.PostBIdeal.nD Cert.PostBIdeal.τ).loc Cert.PostBIdeal.main_arg8) = m ((c.tc : Thread Cert.PostBIdeal.nD Cert.PostBIdeal.τ).loc Cert.PostBIdeal.main_arg8)
      ∧ r.2.mem ((c.tc : Thread Cert.PostBIdeal.nD Cert.PostBIdeal.τ).loc Cert.PostBIdeal.main_arg9) = m ((c.tc : Thread Cert.PostBIdeal.nD Cert.PostBIdeal.τ).loc Cert.PostBIdeal.main_arg9)
      ∧ r.2.mem ((c.tc : Thread Cert.PostBIdeal.nD Cert.PostBIdeal.τ).loc Cert.PostBIdeal.main_arg10) = m ((c.tc : Thread Cert.PostBIdeal.nD Cert.PostBIdeal.τ).loc Cert.PostBIdeal.main_arg10)
      ∧ r.2.mem ((c.tc : Thread Cert.PostBIdeal.nD Cert.PostBIdeal.τ).loc Cert.PostBIdeal.main_arg11) = m ((c.tc : Thread Cert.PostBIdeal.nD Cert.PostBIdeal.τ).loc Cert.PostBIdeal.main_arg11)
      ∧ r.2.mem ((c.tc : Thread Cert.PostBIdeal.nD Cert.PostBIdeal.τ).loc Cert.PostBIdeal.main_arg12) = m ((c.tc : Thread Cert.PostBIdeal.nD Cert.PostBIdeal.τ).loc Cert.PostBIdeal.main_arg12)
      ∧ r.2.mem ((c.tc : Thread Cert.PostBIdeal.nD Cert.PostBIdeal.τ).loc Cert.PostBIdeal.main_arg13) = m ((c.tc : Thread Cert.PostBIdeal.nD Cert.PostBIdeal.τ).loc Cert.PostBIdeal.main_arg13)
      ∧ r.2.mem ((c.tc : Thread Cert.PostBIdeal.nD Cert.PostBIdeal.τ).loc Cert.PostBIdeal.main_arg14) = m ((c.tc : Thread Cert.PostBIdeal.nD Cert.PostBIdeal.τ).loc Cert.PostBIdeal.main_arg14)
      ∧ r.2.mem ((c.tc : Thread Cert.PostBIdeal.nD Cert.PostBIdeal.τ).loc Cert.PostBIdeal.main_arg15) = m ((c.tc : Thread Cert.PostBIdeal.nD Cert.PostBIdeal.τ).loc Cert.PostBIdeal.main_arg15))
      ∧ r.2.sem = fun _ => 0)

def quiescent_PostBIdeal_pre_greatest_lse_finite [hPostBIdeal : Cert.PostBIdeal.Facts] [hPre_greatest_lse_finite : Cert.Pre_greatest_lse_finite.Facts] : Prop :=
  ∀ (m : (ℓ : Loc Cert.PostBIdeal.nD Cert.PostBIdeal.τ Cert.PostBIdeal.sig) → Buf (Elt Ideal) ℓ) (g : Dev Cert.PostBIdeal.nD → PrngReg), Pre_PostBIdeal_greatest_lse_finite m →
    θ_run (Cert.PostBIdeal.defs (F := Ideal)) (onTc (τ := Cert.PostBIdeal.τ) (Cert.PostBIdeal.main (F := Ideal))) ⟨m, fun _ => 0, g⟩ (fun r => (∀ c : Dev Cert.PostBIdeal.nD,
      r.2.mem ((c.tc : Thread Cert.PostBIdeal.nD Cert.PostBIdeal.τ).loc Cert.PostBIdeal.main_arg0) = m ((c.tc : Thread Cert.PostBIdeal.nD Cert.PostBIdeal.τ).loc Cert.PostBIdeal.main_arg0)
      ∧ r.2.mem ((c.tc : Thread Cert.PostBIdeal.nD Cert.PostBIdeal.τ).loc Cert.PostBIdeal.main_arg1) = m ((c.tc : Thread Cert.PostBIdeal.nD Cert.PostBIdeal.τ).loc Cert.PostBIdeal.main_arg1)
      ∧ r.2.mem ((c.tc : Thread Cert.PostBIdeal.nD Cert.PostBIdeal.τ).loc Cert.PostBIdeal.main_arg2) = m ((c.tc : Thread Cert.PostBIdeal.nD Cert.PostBIdeal.τ).loc Cert.PostBIdeal.main_arg2)
      ∧ r.2.mem ((c.tc : Thread Cert.PostBIdeal.nD Cert.PostBIdeal.τ).loc Cert.PostBIdeal.main_arg3) = m ((c.tc : Thread Cert.PostBIdeal.nD Cert.PostBIdeal.τ).loc Cert.PostBIdeal.main_arg3)
      ∧ r.2.mem ((c.tc : Thread Cert.PostBIdeal.nD Cert.PostBIdeal.τ).loc Cert.PostBIdeal.main_arg4) = m ((c.tc : Thread Cert.PostBIdeal.nD Cert.PostBIdeal.τ).loc Cert.PostBIdeal.main_arg4)
      ∧ r.2.mem ((c.tc : Thread Cert.PostBIdeal.nD Cert.PostBIdeal.τ).loc Cert.PostBIdeal.main_arg5) = m ((c.tc : Thread Cert.PostBIdeal.nD Cert.PostBIdeal.τ).loc Cert.PostBIdeal.main_arg5)
      ∧ r.2.mem ((c.tc : Thread Cert.PostBIdeal.nD Cert.PostBIdeal.τ).loc Cert.PostBIdeal.main_arg6) = m ((c.tc : Thread Cert.PostBIdeal.nD Cert.PostBIdeal.τ).loc Cert.PostBIdeal.main_arg6)
      ∧ r.2.mem ((c.tc : Thread Cert.PostBIdeal.nD Cert.PostBIdeal.τ).loc Cert.PostBIdeal.main_arg7) = m ((c.tc : Thread Cert.PostBIdeal.nD Cert.PostBIdeal.τ).loc Cert.PostBIdeal.main_arg7)
      ∧ r.2.mem ((c.tc : Thread Cert.PostBIdeal.nD Cert.PostBIdeal.τ).loc Cert.PostBIdeal.main_arg8) = m ((c.tc : Thread Cert.PostBIdeal.nD Cert.PostBIdeal.τ).loc Cert.PostBIdeal.main_arg8)
      ∧ r.2.mem ((c.tc : Thread Cert.PostBIdeal.nD Cert.PostBIdeal.τ).loc Cert.PostBIdeal.main_arg9) = m ((c.tc : Thread Cert.PostBIdeal.nD Cert.PostBIdeal.τ).loc Cert.PostBIdeal.main_arg9)
      ∧ r.2.mem ((c.tc : Thread Cert.PostBIdeal.nD Cert.PostBIdeal.τ).loc Cert.PostBIdeal.main_arg10) = m ((c.tc : Thread Cert.PostBIdeal.nD Cert.PostBIdeal.τ).loc Cert.PostBIdeal.main_arg10)
      ∧ r.2.mem ((c.tc : Thread Cert.PostBIdeal.nD Cert.PostBIdeal.τ).loc Cert.PostBIdeal.main_arg11) = m ((c.tc : Thread Cert.PostBIdeal.nD Cert.PostBIdeal.τ).loc Cert.PostBIdeal.main_arg11)
      ∧ r.2.mem ((c.tc : Thread Cert.PostBIdeal.nD Cert.PostBIdeal.τ).loc Cert.PostBIdeal.main_arg12) = m ((c.tc : Thread Cert.PostBIdeal.nD Cert.PostBIdeal.τ).loc Cert.PostBIdeal.main_arg12)
      ∧ r.2.mem ((c.tc : Thread Cert.PostBIdeal.nD Cert.PostBIdeal.τ).loc Cert.PostBIdeal.main_arg13) = m ((c.tc : Thread Cert.PostBIdeal.nD Cert.PostBIdeal.τ).loc Cert.PostBIdeal.main_arg13)
      ∧ r.2.mem ((c.tc : Thread Cert.PostBIdeal.nD Cert.PostBIdeal.τ).loc Cert.PostBIdeal.main_arg14) = m ((c.tc : Thread Cert.PostBIdeal.nD Cert.PostBIdeal.τ).loc Cert.PostBIdeal.main_arg14)
      ∧ r.2.mem ((c.tc : Thread Cert.PostBIdeal.nD Cert.PostBIdeal.τ).loc Cert.PostBIdeal.main_arg15) = m ((c.tc : Thread Cert.PostBIdeal.nD Cert.PostBIdeal.τ).loc Cert.PostBIdeal.main_arg15))
      ∧ r.2.sem = fun _ => 0)

def quiescent_PostBRefIdeal [hPostBRefIdeal : Cert.PostBRefIdeal.Facts] : Prop :=
  ∀ (m : (ℓ : Loc Cert.PostBRefIdeal.nD Cert.PostBRefIdeal.τ Cert.PostBRefIdeal.sig) → Buf (Elt Ideal) ℓ) (g : Dev Cert.PostBRefIdeal.nD → PrngReg), Pre_PostBRefIdeal m →
    θ_run (Cert.PostBRefIdeal.defs (F := Ideal)) (onTc (τ := Cert.PostBRefIdeal.τ) (Cert.PostBRefIdeal.main (F := Ideal))) ⟨m, fun _ => 0, g⟩ (fun r => (∀ c : Dev Cert.PostBRefIdeal.nD,
      r.2.mem ((c.tc : Thread Cert.PostBRefIdeal.nD Cert.PostBRefIdeal.τ).loc Cert.PostBRefIdeal.main_arg0) = m ((c.tc : Thread Cert.PostBRefIdeal.nD Cert.PostBRefIdeal.τ).loc Cert.PostBRefIdeal.main_arg0)
      ∧ r.2.mem ((c.tc : Thread Cert.PostBRefIdeal.nD Cert.PostBRefIdeal.τ).loc Cert.PostBRefIdeal.main_arg1) = m ((c.tc : Thread Cert.PostBRefIdeal.nD Cert.PostBRefIdeal.τ).loc Cert.PostBRefIdeal.main_arg1)
      ∧ r.2.mem ((c.tc : Thread Cert.PostBRefIdeal.nD Cert.PostBRefIdeal.τ).loc Cert.PostBRefIdeal.main_arg2) = m ((c.tc : Thread Cert.PostBRefIdeal.nD Cert.PostBRefIdeal.τ).loc Cert.PostBRefIdeal.main_arg2)
      ∧ r.2.mem ((c.tc : Thread Cert.PostBRefIdeal.nD Cert.PostBRefIdeal.τ).loc Cert.PostBRefIdeal.main_arg3) = m ((c.tc : Thread Cert.PostBRefIdeal.nD Cert.PostBRefIdeal.τ).loc Cert.PostBRefIdeal.main_arg3)
      ∧ r.2.mem ((c.tc : Thread Cert.PostBRefIdeal.nD Cert.PostBRefIdeal.τ).loc Cert.PostBRefIdeal.main_arg4) = m ((c.tc : Thread Cert.PostBRefIdeal.nD Cert.PostBRefIdeal.τ).loc Cert.PostBRefIdeal.main_arg4)
      ∧ r.2.mem ((c.tc : Thread Cert.PostBRefIdeal.nD Cert.PostBRefIdeal.τ).loc Cert.PostBRefIdeal.main_arg5) = m ((c.tc : Thread Cert.PostBRefIdeal.nD Cert.PostBRefIdeal.τ).loc Cert.PostBRefIdeal.main_arg5)
      ∧ r.2.mem ((c.tc : Thread Cert.PostBRefIdeal.nD Cert.PostBRefIdeal.τ).loc Cert.PostBRefIdeal.main_arg6) = m ((c.tc : Thread Cert.PostBRefIdeal.nD Cert.PostBRefIdeal.τ).loc Cert.PostBRefIdeal.main_arg6)
      ∧ r.2.mem ((c.tc : Thread Cert.PostBRefIdeal.nD Cert.PostBRefIdeal.τ).loc Cert.PostBRefIdeal.main_arg7) = m ((c.tc : Thread Cert.PostBRefIdeal.nD Cert.PostBRefIdeal.τ).loc Cert.PostBRefIdeal.main_arg7)
      ∧ r.2.mem ((c.tc : Thread Cert.PostBRefIdeal.nD Cert.PostBRefIdeal.τ).loc Cert.PostBRefIdeal.main_arg8) = m ((c.tc : Thread Cert.PostBRefIdeal.nD Cert.PostBRefIdeal.τ).loc Cert.PostBRefIdeal.main_arg8)
      ∧ r.2.mem ((c.tc : Thread Cert.PostBRefIdeal.nD Cert.PostBRefIdeal.τ).loc Cert.PostBRefIdeal.main_arg9) = m ((c.tc : Thread Cert.PostBRefIdeal.nD Cert.PostBRefIdeal.τ).loc Cert.PostBRefIdeal.main_arg9)
      ∧ r.2.mem ((c.tc : Thread Cert.PostBRefIdeal.nD Cert.PostBRefIdeal.τ).loc Cert.PostBRefIdeal.main_arg10) = m ((c.tc : Thread Cert.PostBRefIdeal.nD Cert.PostBRefIdeal.τ).loc Cert.PostBRefIdeal.main_arg10)
      ∧ r.2.mem ((c.tc : Thread Cert.PostBRefIdeal.nD Cert.PostBRefIdeal.τ).loc Cert.PostBRefIdeal.main_arg11) = m ((c.tc : Thread Cert.PostBRefIdeal.nD Cert.PostBRefIdeal.τ).loc Cert.PostBRefIdeal.main_arg11)
      ∧ r.2.mem ((c.tc : Thread Cert.PostBRefIdeal.nD Cert.PostBRefIdeal.τ).loc Cert.PostBRefIdeal.main_arg12) = m ((c.tc : Thread Cert.PostBRefIdeal.nD Cert.PostBRefIdeal.τ).loc Cert.PostBRefIdeal.main_arg12)
      ∧ r.2.mem ((c.tc : Thread Cert.PostBRefIdeal.nD Cert.PostBRefIdeal.τ).loc Cert.PostBRefIdeal.main_arg13) = m ((c.tc : Thread Cert.PostBRefIdeal.nD Cert.PostBRefIdeal.τ).loc Cert.PostBRefIdeal.main_arg13)
      ∧ r.2.mem ((c.tc : Thread Cert.PostBRefIdeal.nD Cert.PostBRefIdeal.τ).loc Cert.PostBRefIdeal.main_arg14) = m ((c.tc : Thread Cert.PostBRefIdeal.nD Cert.PostBRefIdeal.τ).loc Cert.PostBRefIdeal.main_arg14)
      ∧ r.2.mem ((c.tc : Thread Cert.PostBRefIdeal.nD Cert.PostBRefIdeal.τ).loc Cert.PostBRefIdeal.main_arg15) = m ((c.tc : Thread Cert.PostBRefIdeal.nD Cert.PostBRefIdeal.τ).loc Cert.PostBRefIdeal.main_arg15))
      ∧ r.2.sem = fun _ => 0)

def quiescent_PostBRefIdeal_pre_greatest_lse_finite [hPostBRefIdeal : Cert.PostBRefIdeal.Facts] [hPre_greatest_lse_finite : Cert.Pre_greatest_lse_finite.Facts] : Prop :=
  ∀ (m : (ℓ : Loc Cert.PostBRefIdeal.nD Cert.PostBRefIdeal.τ Cert.PostBRefIdeal.sig) → Buf (Elt Ideal) ℓ) (g : Dev Cert.PostBRefIdeal.nD → PrngReg), Pre_PostBRefIdeal_greatest_lse_finite m →
    θ_run (Cert.PostBRefIdeal.defs (F := Ideal)) (onTc (τ := Cert.PostBRefIdeal.τ) (Cert.PostBRefIdeal.main (F := Ideal))) ⟨m, fun _ => 0, g⟩ (fun r => (∀ c : Dev Cert.PostBRefIdeal.nD,
      r.2.mem ((c.tc : Thread Cert.PostBRefIdeal.nD Cert.PostBRefIdeal.τ).loc Cert.PostBRefIdeal.main_arg0) = m ((c.tc : Thread Cert.PostBRefIdeal.nD Cert.PostBRefIdeal.τ).loc Cert.PostBRefIdeal.main_arg0)
      ∧ r.2.mem ((c.tc : Thread Cert.PostBRefIdeal.nD Cert.PostBRefIdeal.τ).loc Cert.PostBRefIdeal.main_arg1) = m ((c.tc : Thread Cert.PostBRefIdeal.nD Cert.PostBRefIdeal.τ).loc Cert.PostBRefIdeal.main_arg1)
      ∧ r.2.mem ((c.tc : Thread Cert.PostBRefIdeal.nD Cert.PostBRefIdeal.τ).loc Cert.PostBRefIdeal.main_arg2) = m ((c.tc : Thread Cert.PostBRefIdeal.nD Cert.PostBRefIdeal.τ).loc Cert.PostBRefIdeal.main_arg2)
      ∧ r.2.mem ((c.tc : Thread Cert.PostBRefIdeal.nD Cert.PostBRefIdeal.τ).loc Cert.PostBRefIdeal.main_arg3) = m ((c.tc : Thread Cert.PostBRefIdeal.nD Cert.PostBRefIdeal.τ).loc Cert.PostBRefIdeal.main_arg3)
      ∧ r.2.mem ((c.tc : Thread Cert.PostBRefIdeal.nD Cert.PostBRefIdeal.τ).loc Cert.PostBRefIdeal.main_arg4) = m ((c.tc : Thread Cert.PostBRefIdeal.nD Cert.PostBRefIdeal.τ).loc Cert.PostBRefIdeal.main_arg4)
      ∧ r.2.mem ((c.tc : Thread Cert.PostBRefIdeal.nD Cert.PostBRefIdeal.τ).loc Cert.PostBRefIdeal.main_arg5) = m ((c.tc : Thread Cert.PostBRefIdeal.nD Cert.PostBRefIdeal.τ).loc Cert.PostBRefIdeal.main_arg5)
      ∧ r.2.mem ((c.tc : Thread Cert.PostBRefIdeal.nD Cert.PostBRefIdeal.τ).loc Cert.PostBRefIdeal.main_arg6) = m ((c.tc : Thread Cert.PostBRefIdeal.nD Cert.PostBRefIdeal.τ).loc Cert.PostBRefIdeal.main_arg6)
      ∧ r.2.mem ((c.tc : Thread Cert.PostBRefIdeal.nD Cert.PostBRefIdeal.τ).loc Cert.PostBRefIdeal.main_arg7) = m ((c.tc : Thread Cert.PostBRefIdeal.nD Cert.PostBRefIdeal.τ).loc Cert.PostBRefIdeal.main_arg7)
      ∧ r.2.mem ((c.tc : Thread Cert.PostBRefIdeal.nD Cert.PostBRefIdeal.τ).loc Cert.PostBRefIdeal.main_arg8) = m ((c.tc : Thread Cert.PostBRefIdeal.nD Cert.PostBRefIdeal.τ).loc Cert.PostBRefIdeal.main_arg8)
      ∧ r.2.mem ((c.tc : Thread Cert.PostBRefIdeal.nD Cert.PostBRefIdeal.τ).loc Cert.PostBRefIdeal.main_arg9) = m ((c.tc : Thread Cert.PostBRefIdeal.nD Cert.PostBRefIdeal.τ).loc Cert.PostBRefIdeal.main_arg9)
      ∧ r.2.mem ((c.tc : Thread Cert.PostBRefIdeal.nD Cert.PostBRefIdeal.τ).loc Cert.PostBRefIdeal.main_arg10) = m ((c.tc : Thread Cert.PostBRefIdeal.nD Cert.PostBRefIdeal.τ).loc Cert.PostBRefIdeal.main_arg10)
      ∧ r.2.mem ((c.tc : Thread Cert.PostBRefIdeal.nD Cert.PostBRefIdeal.τ).loc Cert.PostBRefIdeal.main_arg11) = m ((c.tc : Thread Cert.PostBRefIdeal.nD Cert.PostBRefIdeal.τ).loc Cert.PostBRefIdeal.main_arg11)
      ∧ r.2.mem ((c.tc : Thread Cert.PostBRefIdeal.nD Cert.PostBRefIdeal.τ).loc Cert.PostBRefIdeal.main_arg12) = m ((c.tc : Thread Cert.PostBRefIdeal.nD Cert.PostBRefIdeal.τ).loc Cert.PostBRefIdeal.main_arg12)
      ∧ r.2.mem ((c.tc : Thread Cert.PostBRefIdeal.nD Cert.PostBRefIdeal.τ).loc Cert.PostBRefIdeal.main_arg13) = m ((c.tc : Thread Cert.PostBRefIdeal.nD Cert.PostBRefIdeal.τ).loc Cert.PostBRefIdeal.main_arg13)
      ∧ r.2.mem ((c.tc : Thread Cert.PostBRefIdeal.nD Cert.PostBRefIdeal.τ).loc Cert.PostBRefIdeal.main_arg14) = m ((c.tc : Thread Cert.PostBRefIdeal.nD Cert.PostBRefIdeal.τ).loc Cert.PostBRefIdeal.main_arg14)
      ∧ r.2.mem ((c.tc : Thread Cert.PostBRefIdeal.nD Cert.PostBRefIdeal.τ).loc Cert.PostBRefIdeal.main_arg15) = m ((c.tc : Thread Cert.PostBRefIdeal.nD Cert.PostBRefIdeal.τ).loc Cert.PostBRefIdeal.main_arg15))
      ∧ r.2.sem = fun _ => 0)

def quiescent_PostBS [hPostBS : Cert.PostBS.Facts] : Prop :=
  ∀ (m : (ℓ : Loc Cert.PostBS.nD Cert.PostBS.τ Cert.PostBS.sig) → Buf (Elt Bits) ℓ) (g : Dev Cert.PostBS.nD → PrngReg), Pre_PostBS m →
    θ_run (Cert.PostBS.defs (F := Bits)) (onTc (τ := Cert.PostBS.τ) (Cert.PostBS.main (F := Bits))) ⟨m, fun _ => 0, g⟩ (fun r => (∀ c : Dev Cert.PostBS.nD,
      r.2.mem ((c.tc : Thread Cert.PostBS.nD Cert.PostBS.τ).loc Cert.PostBS.main_arg0) = m ((c.tc : Thread Cert.PostBS.nD Cert.PostBS.τ).loc Cert.PostBS.main_arg0)
      ∧ r.2.mem ((c.tc : Thread Cert.PostBS.nD Cert.PostBS.τ).loc Cert.PostBS.main_arg1) = m ((c.tc : Thread Cert.PostBS.nD Cert.PostBS.τ).loc Cert.PostBS.main_arg1)
      ∧ r.2.mem ((c.tc : Thread Cert.PostBS.nD Cert.PostBS.τ).loc Cert.PostBS.main_arg2) = m ((c.tc : Thread Cert.PostBS.nD Cert.PostBS.τ).loc Cert.PostBS.main_arg2)
      ∧ r.2.mem ((c.tc : Thread Cert.PostBS.nD Cert.PostBS.τ).loc Cert.PostBS.main_arg3) = m ((c.tc : Thread Cert.PostBS.nD Cert.PostBS.τ).loc Cert.PostBS.main_arg3)
      ∧ r.2.mem ((c.tc : Thread Cert.PostBS.nD Cert.PostBS.τ).loc Cert.PostBS.main_arg4) = m ((c.tc : Thread Cert.PostBS.nD Cert.PostBS.τ).loc Cert.PostBS.main_arg4)
      ∧ r.2.mem ((c.tc : Thread Cert.PostBS.nD Cert.PostBS.τ).loc Cert.PostBS.main_arg5) = m ((c.tc : Thread Cert.PostBS.nD Cert.PostBS.τ).loc Cert.PostBS.main_arg5)
      ∧ r.2.mem ((c.tc : Thread Cert.PostBS.nD Cert.PostBS.τ).loc Cert.PostBS.main_arg6) = m ((c.tc : Thread Cert.PostBS.nD Cert.PostBS.τ).loc Cert.PostBS.main_arg6)
      ∧ r.2.mem ((c.tc : Thread Cert.PostBS.nD Cert.PostBS.τ).loc Cert.PostBS.main_arg7) = m ((c.tc : Thread Cert.PostBS.nD Cert.PostBS.τ).loc Cert.PostBS.main_arg7)
      ∧ r.2.mem ((c.tc : Thread Cert.PostBS.nD Cert.PostBS.τ).loc Cert.PostBS.main_arg8) = m ((c.tc : Thread Cert.PostBS.nD Cert.PostBS.τ).loc Cert.PostBS.main_arg8)
      ∧ r.2.mem ((c.tc : Thread Cert.PostBS.nD Cert.PostBS.τ).loc Cert.PostBS.main_arg9) = m ((c.tc : Thread Cert.PostBS.nD Cert.PostBS.τ).loc Cert.PostBS.main_arg9)
      ∧ r.2.mem ((c.tc : Thread Cert.PostBS.nD Cert.PostBS.τ).loc Cert.PostBS.main_arg10) = m ((c.tc : Thread Cert.PostBS.nD Cert.PostBS.τ).loc Cert.PostBS.main_arg10)
      ∧ r.2.mem ((c.tc : Thread Cert.PostBS.nD Cert.PostBS.τ).loc Cert.PostBS.main_arg11) = m ((c.tc : Thread Cert.PostBS.nD Cert.PostBS.τ).loc Cert.PostBS.main_arg11)
      ∧ r.2.mem ((c.tc : Thread Cert.PostBS.nD Cert.PostBS.τ).loc Cert.PostBS.main_arg12) = m ((c.tc : Thread Cert.PostBS.nD Cert.PostBS.τ).loc Cert.PostBS.main_arg12)
      ∧ r.2.mem ((c.tc : Thread Cert.PostBS.nD Cert.PostBS.τ).loc Cert.PostBS.main_arg13) = m ((c.tc : Thread Cert.PostBS.nD Cert.PostBS.τ).loc Cert.PostBS.main_arg13)
      ∧ r.2.mem ((c.tc : Thread Cert.PostBS.nD Cert.PostBS.τ).loc Cert.PostBS.main_arg14) = m ((c.tc : Thread Cert.PostBS.nD Cert.PostBS.τ).loc Cert.PostBS.main_arg14)
      ∧ r.2.mem ((c.tc : Thread Cert.PostBS.nD Cert.PostBS.τ).loc Cert.PostBS.main_arg15) = m ((c.tc : Thread Cert.PostBS.nD Cert.PostBS.τ).loc Cert.PostBS.main_arg15))
      ∧ r.2.sem = fun _ => 0)

def quiescent_PostBSIdeal [hPostBSIdeal : Cert.PostBSIdeal.Facts] : Prop :=
  ∀ (m : (ℓ : Loc Cert.PostBSIdeal.nD Cert.PostBSIdeal.τ Cert.PostBSIdeal.sig) → Buf (Elt Ideal) ℓ) (g : Dev Cert.PostBSIdeal.nD → PrngReg), Pre_PostBSIdeal m →
    θ_run (Cert.PostBSIdeal.defs (F := Ideal)) (onTc (τ := Cert.PostBSIdeal.τ) (Cert.PostBSIdeal.main (F := Ideal))) ⟨m, fun _ => 0, g⟩ (fun r => (∀ c : Dev Cert.PostBSIdeal.nD,
      r.2.mem ((c.tc : Thread Cert.PostBSIdeal.nD Cert.PostBSIdeal.τ).loc Cert.PostBSIdeal.main_arg0) = m ((c.tc : Thread Cert.PostBSIdeal.nD Cert.PostBSIdeal.τ).loc Cert.PostBSIdeal.main_arg0)
      ∧ r.2.mem ((c.tc : Thread Cert.PostBSIdeal.nD Cert.PostBSIdeal.τ).loc Cert.PostBSIdeal.main_arg1) = m ((c.tc : Thread Cert.PostBSIdeal.nD Cert.PostBSIdeal.τ).loc Cert.PostBSIdeal.main_arg1)
      ∧ r.2.mem ((c.tc : Thread Cert.PostBSIdeal.nD Cert.PostBSIdeal.τ).loc Cert.PostBSIdeal.main_arg2) = m ((c.tc : Thread Cert.PostBSIdeal.nD Cert.PostBSIdeal.τ).loc Cert.PostBSIdeal.main_arg2)
      ∧ r.2.mem ((c.tc : Thread Cert.PostBSIdeal.nD Cert.PostBSIdeal.τ).loc Cert.PostBSIdeal.main_arg3) = m ((c.tc : Thread Cert.PostBSIdeal.nD Cert.PostBSIdeal.τ).loc Cert.PostBSIdeal.main_arg3)
      ∧ r.2.mem ((c.tc : Thread Cert.PostBSIdeal.nD Cert.PostBSIdeal.τ).loc Cert.PostBSIdeal.main_arg4) = m ((c.tc : Thread Cert.PostBSIdeal.nD Cert.PostBSIdeal.τ).loc Cert.PostBSIdeal.main_arg4)
      ∧ r.2.mem ((c.tc : Thread Cert.PostBSIdeal.nD Cert.PostBSIdeal.τ).loc Cert.PostBSIdeal.main_arg5) = m ((c.tc : Thread Cert.PostBSIdeal.nD Cert.PostBSIdeal.τ).loc Cert.PostBSIdeal.main_arg5)
      ∧ r.2.mem ((c.tc : Thread Cert.PostBSIdeal.nD Cert.PostBSIdeal.τ).loc Cert.PostBSIdeal.main_arg6) = m ((c.tc : Thread Cert.PostBSIdeal.nD Cert.PostBSIdeal.τ).loc Cert.PostBSIdeal.main_arg6)
      ∧ r.2.mem ((c.tc : Thread Cert.PostBSIdeal.nD Cert.PostBSIdeal.τ).loc Cert.PostBSIdeal.main_arg7) = m ((c.tc : Thread Cert.PostBSIdeal.nD Cert.PostBSIdeal.τ).loc Cert.PostBSIdeal.main_arg7)
      ∧ r.2.mem ((c.tc : Thread Cert.PostBSIdeal.nD Cert.PostBSIdeal.τ).loc Cert.PostBSIdeal.main_arg8) = m ((c.tc : Thread Cert.PostBSIdeal.nD Cert.PostBSIdeal.τ).loc Cert.PostBSIdeal.main_arg8)
      ∧ r.2.mem ((c.tc : Thread Cert.PostBSIdeal.nD Cert.PostBSIdeal.τ).loc Cert.PostBSIdeal.main_arg9) = m ((c.tc : Thread Cert.PostBSIdeal.nD Cert.PostBSIdeal.τ).loc Cert.PostBSIdeal.main_arg9)
      ∧ r.2.mem ((c.tc : Thread Cert.PostBSIdeal.nD Cert.PostBSIdeal.τ).loc Cert.PostBSIdeal.main_arg10) = m ((c.tc : Thread Cert.PostBSIdeal.nD Cert.PostBSIdeal.τ).loc Cert.PostBSIdeal.main_arg10)
      ∧ r.2.mem ((c.tc : Thread Cert.PostBSIdeal.nD Cert.PostBSIdeal.τ).loc Cert.PostBSIdeal.main_arg11) = m ((c.tc : Thread Cert.PostBSIdeal.nD Cert.PostBSIdeal.τ).loc Cert.PostBSIdeal.main_arg11)
      ∧ r.2.mem ((c.tc : Thread Cert.PostBSIdeal.nD Cert.PostBSIdeal.τ).loc Cert.PostBSIdeal.main_arg12) = m ((c.tc : Thread Cert.PostBSIdeal.nD Cert.PostBSIdeal.τ).loc Cert.PostBSIdeal.main_arg12)
      ∧ r.2.mem ((c.tc : Thread Cert.PostBSIdeal.nD Cert.PostBSIdeal.τ).loc Cert.PostBSIdeal.main_arg13) = m ((c.tc : Thread Cert.PostBSIdeal.nD Cert.PostBSIdeal.τ).loc Cert.PostBSIdeal.main_arg13)
      ∧ r.2.mem ((c.tc : Thread Cert.PostBSIdeal.nD Cert.PostBSIdeal.τ).loc Cert.PostBSIdeal.main_arg14) = m ((c.tc : Thread Cert.PostBSIdeal.nD Cert.PostBSIdeal.τ).loc Cert.PostBSIdeal.main_arg14)
      ∧ r.2.mem ((c.tc : Thread Cert.PostBSIdeal.nD Cert.PostBSIdeal.τ).loc Cert.PostBSIdeal.main_arg15) = m ((c.tc : Thread Cert.PostBSIdeal.nD Cert.PostBSIdeal.τ).loc Cert.PostBSIdeal.main_arg15))
      ∧ r.2.sem = fun _ => 0)

def quiescent_PostBSIdeal_pre_greatest_lse_finite_sample [hPostBSIdeal : Cert.PostBSIdeal.Facts] [hPre_greatest_lse_finite_sample : Cert.Pre_greatest_lse_finite_sample.Facts] : Prop :=
  ∀ (m : (ℓ : Loc Cert.PostBSIdeal.nD Cert.PostBSIdeal.τ Cert.PostBSIdeal.sig) → Buf (Elt Ideal) ℓ) (g : Dev Cert.PostBSIdeal.nD → PrngReg), Pre_PostBSIdeal_greatest_lse_finite_sample m →
    θ_run (Cert.PostBSIdeal.defs (F := Ideal)) (onTc (τ := Cert.PostBSIdeal.τ) (Cert.PostBSIdeal.main (F := Ideal))) ⟨m, fun _ => 0, g⟩ (fun r => (∀ c : Dev Cert.PostBSIdeal.nD,
      r.2.mem ((c.tc : Thread Cert.PostBSIdeal.nD Cert.PostBSIdeal.τ).loc Cert.PostBSIdeal.main_arg0) = m ((c.tc : Thread Cert.PostBSIdeal.nD Cert.PostBSIdeal.τ).loc Cert.PostBSIdeal.main_arg0)
      ∧ r.2.mem ((c.tc : Thread Cert.PostBSIdeal.nD Cert.PostBSIdeal.τ).loc Cert.PostBSIdeal.main_arg1) = m ((c.tc : Thread Cert.PostBSIdeal.nD Cert.PostBSIdeal.τ).loc Cert.PostBSIdeal.main_arg1)
      ∧ r.2.mem ((c.tc : Thread Cert.PostBSIdeal.nD Cert.PostBSIdeal.τ).loc Cert.PostBSIdeal.main_arg2) = m ((c.tc : Thread Cert.PostBSIdeal.nD Cert.PostBSIdeal.τ).loc Cert.PostBSIdeal.main_arg2)
      ∧ r.2.mem ((c.tc : Thread Cert.PostBSIdeal.nD Cert.PostBSIdeal.τ).loc Cert.PostBSIdeal.main_arg3) = m ((c.tc : Thread Cert.PostBSIdeal.nD Cert.PostBSIdeal.τ).loc Cert.PostBSIdeal.main_arg3)
      ∧ r.2.mem ((c.tc : Thread Cert.PostBSIdeal.nD Cert.PostBSIdeal.τ).loc Cert.PostBSIdeal.main_arg4) = m ((c.tc : Thread Cert.PostBSIdeal.nD Cert.PostBSIdeal.τ).loc Cert.PostBSIdeal.main_arg4)
      ∧ r.2.mem ((c.tc : Thread Cert.PostBSIdeal.nD Cert.PostBSIdeal.τ).loc Cert.PostBSIdeal.main_arg5) = m ((c.tc : Thread Cert.PostBSIdeal.nD Cert.PostBSIdeal.τ).loc Cert.PostBSIdeal.main_arg5)
      ∧ r.2.mem ((c.tc : Thread Cert.PostBSIdeal.nD Cert.PostBSIdeal.τ).loc Cert.PostBSIdeal.main_arg6) = m ((c.tc : Thread Cert.PostBSIdeal.nD Cert.PostBSIdeal.τ).loc Cert.PostBSIdeal.main_arg6)
      ∧ r.2.mem ((c.tc : Thread Cert.PostBSIdeal.nD Cert.PostBSIdeal.τ).loc Cert.PostBSIdeal.main_arg7) = m ((c.tc : Thread Cert.PostBSIdeal.nD Cert.PostBSIdeal.τ).loc Cert.PostBSIdeal.main_arg7)
      ∧ r.2.mem ((c.tc : Thread Cert.PostBSIdeal.nD Cert.PostBSIdeal.τ).loc Cert.PostBSIdeal.main_arg8) = m ((c.tc : Thread Cert.PostBSIdeal.nD Cert.PostBSIdeal.τ).loc Cert.PostBSIdeal.main_arg8)
      ∧ r.2.mem ((c.tc : Thread Cert.PostBSIdeal.nD Cert.PostBSIdeal.τ).loc Cert.PostBSIdeal.main_arg9) = m ((c.tc : Thread Cert.PostBSIdeal.nD Cert.PostBSIdeal.τ).loc Cert.PostBSIdeal.main_arg9)
      ∧ r.2.mem ((c.tc : Thread Cert.PostBSIdeal.nD Cert.PostBSIdeal.τ).loc Cert.PostBSIdeal.main_arg10) = m ((c.tc : Thread Cert.PostBSIdeal.nD Cert.PostBSIdeal.τ).loc Cert.PostBSIdeal.main_arg10)
      ∧ r.2.mem ((c.tc : Thread Cert.PostBSIdeal.nD Cert.PostBSIdeal.τ).loc Cert.PostBSIdeal.main_arg11) = m ((c.tc : Thread Cert.PostBSIdeal.nD Cert.PostBSIdeal.τ).loc Cert.PostBSIdeal.main_arg11)
      ∧ r.2.mem ((c.tc : Thread Cert.PostBSIdeal.nD Cert.PostBSIdeal.τ).loc Cert.PostBSIdeal.main_arg12) = m ((c.tc : Thread Cert.PostBSIdeal.nD Cert.PostBSIdeal.τ).loc Cert.PostBSIdeal.main_arg12)
      ∧ r.2.mem ((c.tc : Thread Cert.PostBSIdeal.nD Cert.PostBSIdeal.τ).loc Cert.PostBSIdeal.main_arg13) = m ((c.tc : Thread Cert.PostBSIdeal.nD Cert.PostBSIdeal.τ).loc Cert.PostBSIdeal.main_arg13)
      ∧ r.2.mem ((c.tc : Thread Cert.PostBSIdeal.nD Cert.PostBSIdeal.τ).loc Cert.PostBSIdeal.main_arg14) = m ((c.tc : Thread Cert.PostBSIdeal.nD Cert.PostBSIdeal.τ).loc Cert.PostBSIdeal.main_arg14)
      ∧ r.2.mem ((c.tc : Thread Cert.PostBSIdeal.nD Cert.PostBSIdeal.τ).loc Cert.PostBSIdeal.main_arg15) = m ((c.tc : Thread Cert.PostBSIdeal.nD Cert.PostBSIdeal.τ).loc Cert.PostBSIdeal.main_arg15))
      ∧ r.2.sem = fun _ => 0)

def quiescent_PostBSRefIdeal [hPostBSRefIdeal : Cert.PostBSRefIdeal.Facts] : Prop :=
  ∀ (m : (ℓ : Loc Cert.PostBSRefIdeal.nD Cert.PostBSRefIdeal.τ Cert.PostBSRefIdeal.sig) → Buf (Elt Ideal) ℓ) (g : Dev Cert.PostBSRefIdeal.nD → PrngReg), Pre_PostBSRefIdeal m →
    θ_run (Cert.PostBSRefIdeal.defs (F := Ideal)) (onTc (τ := Cert.PostBSRefIdeal.τ) (Cert.PostBSRefIdeal.main (F := Ideal))) ⟨m, fun _ => 0, g⟩ (fun r => (∀ c : Dev Cert.PostBSRefIdeal.nD,
      r.2.mem ((c.tc : Thread Cert.PostBSRefIdeal.nD Cert.PostBSRefIdeal.τ).loc Cert.PostBSRefIdeal.main_arg0) = m ((c.tc : Thread Cert.PostBSRefIdeal.nD Cert.PostBSRefIdeal.τ).loc Cert.PostBSRefIdeal.main_arg0)
      ∧ r.2.mem ((c.tc : Thread Cert.PostBSRefIdeal.nD Cert.PostBSRefIdeal.τ).loc Cert.PostBSRefIdeal.main_arg1) = m ((c.tc : Thread Cert.PostBSRefIdeal.nD Cert.PostBSRefIdeal.τ).loc Cert.PostBSRefIdeal.main_arg1)
      ∧ r.2.mem ((c.tc : Thread Cert.PostBSRefIdeal.nD Cert.PostBSRefIdeal.τ).loc Cert.PostBSRefIdeal.main_arg2) = m ((c.tc : Thread Cert.PostBSRefIdeal.nD Cert.PostBSRefIdeal.τ).loc Cert.PostBSRefIdeal.main_arg2)
      ∧ r.2.mem ((c.tc : Thread Cert.PostBSRefIdeal.nD Cert.PostBSRefIdeal.τ).loc Cert.PostBSRefIdeal.main_arg3) = m ((c.tc : Thread Cert.PostBSRefIdeal.nD Cert.PostBSRefIdeal.τ).loc Cert.PostBSRefIdeal.main_arg3)
      ∧ r.2.mem ((c.tc : Thread Cert.PostBSRefIdeal.nD Cert.PostBSRefIdeal.τ).loc Cert.PostBSRefIdeal.main_arg4) = m ((c.tc : Thread Cert.PostBSRefIdeal.nD Cert.PostBSRefIdeal.τ).loc Cert.PostBSRefIdeal.main_arg4)
      ∧ r.2.mem ((c.tc : Thread Cert.PostBSRefIdeal.nD Cert.PostBSRefIdeal.τ).loc Cert.PostBSRefIdeal.main_arg5) = m ((c.tc : Thread Cert.PostBSRefIdeal.nD Cert.PostBSRefIdeal.τ).loc Cert.PostBSRefIdeal.main_arg5)
      ∧ r.2.mem ((c.tc : Thread Cert.PostBSRefIdeal.nD Cert.PostBSRefIdeal.τ).loc Cert.PostBSRefIdeal.main_arg6) = m ((c.tc : Thread Cert.PostBSRefIdeal.nD Cert.PostBSRefIdeal.τ).loc Cert.PostBSRefIdeal.main_arg6)
      ∧ r.2.mem ((c.tc : Thread Cert.PostBSRefIdeal.nD Cert.PostBSRefIdeal.τ).loc Cert.PostBSRefIdeal.main_arg7) = m ((c.tc : Thread Cert.PostBSRefIdeal.nD Cert.PostBSRefIdeal.τ).loc Cert.PostBSRefIdeal.main_arg7)
      ∧ r.2.mem ((c.tc : Thread Cert.PostBSRefIdeal.nD Cert.PostBSRefIdeal.τ).loc Cert.PostBSRefIdeal.main_arg8) = m ((c.tc : Thread Cert.PostBSRefIdeal.nD Cert.PostBSRefIdeal.τ).loc Cert.PostBSRefIdeal.main_arg8)
      ∧ r.2.mem ((c.tc : Thread Cert.PostBSRefIdeal.nD Cert.PostBSRefIdeal.τ).loc Cert.PostBSRefIdeal.main_arg9) = m ((c.tc : Thread Cert.PostBSRefIdeal.nD Cert.PostBSRefIdeal.τ).loc Cert.PostBSRefIdeal.main_arg9)
      ∧ r.2.mem ((c.tc : Thread Cert.PostBSRefIdeal.nD Cert.PostBSRefIdeal.τ).loc Cert.PostBSRefIdeal.main_arg10) = m ((c.tc : Thread Cert.PostBSRefIdeal.nD Cert.PostBSRefIdeal.τ).loc Cert.PostBSRefIdeal.main_arg10)
      ∧ r.2.mem ((c.tc : Thread Cert.PostBSRefIdeal.nD Cert.PostBSRefIdeal.τ).loc Cert.PostBSRefIdeal.main_arg11) = m ((c.tc : Thread Cert.PostBSRefIdeal.nD Cert.PostBSRefIdeal.τ).loc Cert.PostBSRefIdeal.main_arg11)
      ∧ r.2.mem ((c.tc : Thread Cert.PostBSRefIdeal.nD Cert.PostBSRefIdeal.τ).loc Cert.PostBSRefIdeal.main_arg12) = m ((c.tc : Thread Cert.PostBSRefIdeal.nD Cert.PostBSRefIdeal.τ).loc Cert.PostBSRefIdeal.main_arg12)
      ∧ r.2.mem ((c.tc : Thread Cert.PostBSRefIdeal.nD Cert.PostBSRefIdeal.τ).loc Cert.PostBSRefIdeal.main_arg13) = m ((c.tc : Thread Cert.PostBSRefIdeal.nD Cert.PostBSRefIdeal.τ).loc Cert.PostBSRefIdeal.main_arg13)
      ∧ r.2.mem ((c.tc : Thread Cert.PostBSRefIdeal.nD Cert.PostBSRefIdeal.τ).loc Cert.PostBSRefIdeal.main_arg14) = m ((c.tc : Thread Cert.PostBSRefIdeal.nD Cert.PostBSRefIdeal.τ).loc Cert.PostBSRefIdeal.main_arg14)
      ∧ r.2.mem ((c.tc : Thread Cert.PostBSRefIdeal.nD Cert.PostBSRefIdeal.τ).loc Cert.PostBSRefIdeal.main_arg15) = m ((c.tc : Thread Cert.PostBSRefIdeal.nD Cert.PostBSRefIdeal.τ).loc Cert.PostBSRefIdeal.main_arg15))
      ∧ r.2.sem = fun _ => 0)

def quiescent_PostBSRefIdeal_pre_greatest_lse_finite_sample [hPostBSRefIdeal : Cert.PostBSRefIdeal.Facts] [hPre_greatest_lse_finite_sample : Cert.Pre_greatest_lse_finite_sample.Facts] : Prop :=
  ∀ (m : (ℓ : Loc Cert.PostBSRefIdeal.nD Cert.PostBSRefIdeal.τ Cert.PostBSRefIdeal.sig) → Buf (Elt Ideal) ℓ) (g : Dev Cert.PostBSRefIdeal.nD → PrngReg), Pre_PostBSRefIdeal_greatest_lse_finite_sample m →
    θ_run (Cert.PostBSRefIdeal.defs (F := Ideal)) (onTc (τ := Cert.PostBSRefIdeal.τ) (Cert.PostBSRefIdeal.main (F := Ideal))) ⟨m, fun _ => 0, g⟩ (fun r => (∀ c : Dev Cert.PostBSRefIdeal.nD,
      r.2.mem ((c.tc : Thread Cert.PostBSRefIdeal.nD Cert.PostBSRefIdeal.τ).loc Cert.PostBSRefIdeal.main_arg0) = m ((c.tc : Thread Cert.PostBSRefIdeal.nD Cert.PostBSRefIdeal.τ).loc Cert.PostBSRefIdeal.main_arg0)
      ∧ r.2.mem ((c.tc : Thread Cert.PostBSRefIdeal.nD Cert.PostBSRefIdeal.τ).loc Cert.PostBSRefIdeal.main_arg1) = m ((c.tc : Thread Cert.PostBSRefIdeal.nD Cert.PostBSRefIdeal.τ).loc Cert.PostBSRefIdeal.main_arg1)
      ∧ r.2.mem ((c.tc : Thread Cert.PostBSRefIdeal.nD Cert.PostBSRefIdeal.τ).loc Cert.PostBSRefIdeal.main_arg2) = m ((c.tc : Thread Cert.PostBSRefIdeal.nD Cert.PostBSRefIdeal.τ).loc Cert.PostBSRefIdeal.main_arg2)
      ∧ r.2.mem ((c.tc : Thread Cert.PostBSRefIdeal.nD Cert.PostBSRefIdeal.τ).loc Cert.PostBSRefIdeal.main_arg3) = m ((c.tc : Thread Cert.PostBSRefIdeal.nD Cert.PostBSRefIdeal.τ).loc Cert.PostBSRefIdeal.main_arg3)
      ∧ r.2.mem ((c.tc : Thread Cert.PostBSRefIdeal.nD Cert.PostBSRefIdeal.τ).loc Cert.PostBSRefIdeal.main_arg4) = m ((c.tc : Thread Cert.PostBSRefIdeal.nD Cert.PostBSRefIdeal.τ).loc Cert.PostBSRefIdeal.main_arg4)
      ∧ r.2.mem ((c.tc : Thread Cert.PostBSRefIdeal.nD Cert.PostBSRefIdeal.τ).loc Cert.PostBSRefIdeal.main_arg5) = m ((c.tc : Thread Cert.PostBSRefIdeal.nD Cert.PostBSRefIdeal.τ).loc Cert.PostBSRefIdeal.main_arg5)
      ∧ r.2.mem ((c.tc : Thread Cert.PostBSRefIdeal.nD Cert.PostBSRefIdeal.τ).loc Cert.PostBSRefIdeal.main_arg6) = m ((c.tc : Thread Cert.PostBSRefIdeal.nD Cert.PostBSRefIdeal.τ).loc Cert.PostBSRefIdeal.main_arg6)
      ∧ r.2.mem ((c.tc : Thread Cert.PostBSRefIdeal.nD Cert.PostBSRefIdeal.τ).loc Cert.PostBSRefIdeal.main_arg7) = m ((c.tc : Thread Cert.PostBSRefIdeal.nD Cert.PostBSRefIdeal.τ).loc Cert.PostBSRefIdeal.main_arg7)
      ∧ r.2.mem ((c.tc : Thread Cert.PostBSRefIdeal.nD Cert.PostBSRefIdeal.τ).loc Cert.PostBSRefIdeal.main_arg8) = m ((c.tc : Thread Cert.PostBSRefIdeal.nD Cert.PostBSRefIdeal.τ).loc Cert.PostBSRefIdeal.main_arg8)
      ∧ r.2.mem ((c.tc : Thread Cert.PostBSRefIdeal.nD Cert.PostBSRefIdeal.τ).loc Cert.PostBSRefIdeal.main_arg9) = m ((c.tc : Thread Cert.PostBSRefIdeal.nD Cert.PostBSRefIdeal.τ).loc Cert.PostBSRefIdeal.main_arg9)
      ∧ r.2.mem ((c.tc : Thread Cert.PostBSRefIdeal.nD Cert.PostBSRefIdeal.τ).loc Cert.PostBSRefIdeal.main_arg10) = m ((c.tc : Thread Cert.PostBSRefIdeal.nD Cert.PostBSRefIdeal.τ).loc Cert.PostBSRefIdeal.main_arg10)
      ∧ r.2.mem ((c.tc : Thread Cert.PostBSRefIdeal.nD Cert.PostBSRefIdeal.τ).loc Cert.PostBSRefIdeal.main_arg11) = m ((c.tc : Thread Cert.PostBSRefIdeal.nD Cert.PostBSRefIdeal.τ).loc Cert.PostBSRefIdeal.main_arg11)
      ∧ r.2.mem ((c.tc : Thread Cert.PostBSRefIdeal.nD Cert.PostBSRefIdeal.τ).loc Cert.PostBSRefIdeal.main_arg12) = m ((c.tc : Thread Cert.PostBSRefIdeal.nD Cert.PostBSRefIdeal.τ).loc Cert.PostBSRefIdeal.main_arg12)
      ∧ r.2.mem ((c.tc : Thread Cert.PostBSRefIdeal.nD Cert.PostBSRefIdeal.τ).loc Cert.PostBSRefIdeal.main_arg13) = m ((c.tc : Thread Cert.PostBSRefIdeal.nD Cert.PostBSRefIdeal.τ).loc Cert.PostBSRefIdeal.main_arg13)
      ∧ r.2.mem ((c.tc : Thread Cert.PostBSRefIdeal.nD Cert.PostBSRefIdeal.τ).loc Cert.PostBSRefIdeal.main_arg14) = m ((c.tc : Thread Cert.PostBSRefIdeal.nD Cert.PostBSRefIdeal.τ).loc Cert.PostBSRefIdeal.main_arg14)
      ∧ r.2.mem ((c.tc : Thread Cert.PostBSRefIdeal.nD Cert.PostBSRefIdeal.τ).loc Cert.PostBSRefIdeal.main_arg15) = m ((c.tc : Thread Cert.PostBSRefIdeal.nD Cert.PostBSRefIdeal.τ).loc Cert.PostBSRefIdeal.main_arg15))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1)
      ∧ r.2.mem ((c.tc : Thread Cert.QkvA.nD Cert.QkvA.τ).loc Cert.QkvA.main_arg2) = m ((c.tc : Thread Cert.QkvA.nD Cert.QkvA.τ).loc Cert.QkvA.main_arg2)
      ∧ r.2.mem ((c.tc : Thread Cert.QkvA.nD Cert.QkvA.τ).loc Cert.QkvA.main_arg3) = m ((c.tc : Thread Cert.QkvA.nD Cert.QkvA.τ).loc Cert.QkvA.main_arg3)
      ∧ r.2.mem ((c.tc : Thread Cert.QkvA.nD Cert.QkvA.τ).loc Cert.QkvA.main_arg4) = m ((c.tc : Thread Cert.QkvA.nD Cert.QkvA.τ).loc Cert.QkvA.main_arg4))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1)
      ∧ r.2.mem ((c.tc : Thread Cert.QkvAIdeal.nD Cert.QkvAIdeal.τ).loc Cert.QkvAIdeal.main_arg2) = m ((c.tc : Thread Cert.QkvAIdeal.nD Cert.QkvAIdeal.τ).loc Cert.QkvAIdeal.main_arg2)
      ∧ r.2.mem ((c.tc : Thread Cert.QkvAIdeal.nD Cert.QkvAIdeal.τ).loc Cert.QkvAIdeal.main_arg3) = m ((c.tc : Thread Cert.QkvAIdeal.nD Cert.QkvAIdeal.τ).loc Cert.QkvAIdeal.main_arg3)
      ∧ r.2.mem ((c.tc : Thread Cert.QkvAIdeal.nD Cert.QkvAIdeal.τ).loc Cert.QkvAIdeal.main_arg4) = m ((c.tc : Thread Cert.QkvAIdeal.nD Cert.QkvAIdeal.τ).loc Cert.QkvAIdeal.main_arg4))
      ∧ r.2.sem = fun _ => 0)

def quiescent_QkvARefIdeal [hQkvARefIdeal : Cert.QkvARefIdeal.Facts] : Prop :=
  ∀ (m : (ℓ : Loc Cert.QkvARefIdeal.nD Cert.QkvARefIdeal.τ Cert.QkvARefIdeal.sig) → Buf (Elt Ideal) ℓ) (g : Dev Cert.QkvARefIdeal.nD → PrngReg), Pre_QkvARefIdeal m →
    θ_run (Cert.QkvARefIdeal.defs (F := Ideal)) (onTc (τ := Cert.QkvARefIdeal.τ) (Cert.QkvARefIdeal.main (F := Ideal))) ⟨m, fun _ => 0, g⟩ (fun r => (∀ c : Dev Cert.QkvARefIdeal.nD,
      r.2.mem ((c.tc : Thread Cert.QkvARefIdeal.nD Cert.QkvARefIdeal.τ).loc Cert.QkvARefIdeal.main_arg0) = m ((c.tc : Thread Cert.QkvARefIdeal.nD Cert.QkvARefIdeal.τ).loc Cert.QkvARefIdeal.main_arg0)
      ∧ r.2.mem ((c.tc : Thread Cert.QkvARefIdeal.nD Cert.QkvARefIdeal.τ).loc Cert.QkvARefIdeal.main_arg1) = m ((c.tc : Thread Cert.QkvARefIdeal.nD Cert.QkvARefIdeal.τ).loc Cert.QkvARefIdeal.main_arg1)
      ∧ r.2.mem ((c.tc : Thread Cert.QkvARefIdeal.nD Cert.QkvARefIdeal.τ).loc Cert.QkvARefIdeal.main_arg2) = m ((c.tc : Thread Cert.QkvARefIdeal.nD Cert.QkvARefIdeal.τ).loc Cert.QkvARefIdeal.main_arg2)
      ∧ r.2.mem ((c.tc : Thread Cert.QkvARefIdeal.nD Cert.QkvARefIdeal.τ).loc Cert.QkvARefIdeal.main_arg3) = m ((c.tc : Thread Cert.QkvARefIdeal.nD Cert.QkvARefIdeal.τ).loc Cert.QkvARefIdeal.main_arg3)
      ∧ r.2.mem ((c.tc : Thread Cert.QkvARefIdeal.nD Cert.QkvARefIdeal.τ).loc Cert.QkvARefIdeal.main_arg4) = m ((c.tc : Thread Cert.QkvARefIdeal.nD Cert.QkvARefIdeal.τ).loc Cert.QkvARefIdeal.main_arg4))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1)
      ∧ r.2.mem ((c.tc : Thread Cert.QkvB.nD Cert.QkvB.τ).loc Cert.QkvB.main_arg2) = m ((c.tc : Thread Cert.QkvB.nD Cert.QkvB.τ).loc Cert.QkvB.main_arg2)
      ∧ r.2.mem ((c.tc : Thread Cert.QkvB.nD Cert.QkvB.τ).loc Cert.QkvB.main_arg3) = m ((c.tc : Thread Cert.QkvB.nD Cert.QkvB.τ).loc Cert.QkvB.main_arg3)
      ∧ r.2.mem ((c.tc : Thread Cert.QkvB.nD Cert.QkvB.τ).loc Cert.QkvB.main_arg4) = m ((c.tc : Thread Cert.QkvB.nD Cert.QkvB.τ).loc Cert.QkvB.main_arg4))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
      ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2)
      ∧ r.2.mem ((c.tc : Thread Cert.QkvBIdeal.nD Cert.QkvBIdeal.τ).loc Cert.QkvBIdeal.main_arg3) = m ((c.tc : Thread Cert.QkvBIdeal.nD Cert.QkvBIdeal.τ).loc Cert.QkvBIdeal.main_arg3)
      ∧ r.2.mem ((c.tc : Thread Cert.QkvBIdeal.nD Cert.QkvBIdeal.τ).loc Cert.QkvBIdeal.main_arg4) = m ((c.tc : Thread Cert.QkvBIdeal.nD Cert.QkvBIdeal.τ).loc Cert.QkvBIdeal.main_arg4))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1)
      ∧ r.2.mem ((c.tc : Thread Cert.QkvBRefIdeal.nD Cert.QkvBRefIdeal.τ).loc Cert.QkvBRefIdeal.main_arg2) = m ((c.tc : Thread Cert.QkvBRefIdeal.nD Cert.QkvBRefIdeal.τ).loc Cert.QkvBRefIdeal.main_arg2)
      ∧ r.2.mem ((c.tc : Thread Cert.QkvBRefIdeal.nD Cert.QkvBRefIdeal.τ).loc Cert.QkvBRefIdeal.main_arg3) = m ((c.tc : Thread Cert.QkvBRefIdeal.nD Cert.QkvBRefIdeal.τ).loc Cert.QkvBRefIdeal.main_arg3)
      ∧ r.2.mem ((c.tc : Thread Cert.QkvBRefIdeal.nD Cert.QkvBRefIdeal.τ).loc Cert.QkvBRefIdeal.main_arg4) = m ((c.tc : Thread Cert.QkvBRefIdeal.nD Cert.QkvBRefIdeal.τ).loc Cert.QkvBRefIdeal.main_arg4))
      ∧ r.2.sem = fun _ => 0)

def preserves_PostA_PostAIdeal : Prop :=
  True

def algebraic_PostAIdeal_PostARefIdeal [hPostAIdeal : Cert.PostAIdeal.Facts] [hPostARefIdeal : Cert.PostARefIdeal.Facts] : Prop :=
  ∀ (m : (ℓ : Loc Cert.PostAIdeal.nD Cert.PostAIdeal.τ Cert.PostAIdeal.sig) → Buf (Elt Ideal) ℓ) (g : Dev Cert.PostAIdeal.nD → PrngReg)
    (m' : (ℓ : Loc Cert.PostARefIdeal.nD Cert.PostARefIdeal.τ Cert.PostARefIdeal.sig) → Buf (Elt Ideal) ℓ) (g' : Dev Cert.PostARefIdeal.nD → PrngReg), Pre_PostAIdeal m →
    (∀ c : Dev Cert.PostAIdeal.nD,
      m' ((c.tc : Thread Cert.PostARefIdeal.nD Cert.PostARefIdeal.τ).loc Cert.PostARefIdeal.main_arg0) = m ((c.tc : Thread Cert.PostAIdeal.nD Cert.PostAIdeal.τ).loc Cert.PostAIdeal.main_arg0)
      ∧ m' ((c.tc : Thread Cert.PostARefIdeal.nD Cert.PostARefIdeal.τ).loc Cert.PostARefIdeal.main_arg1) = m ((c.tc : Thread Cert.PostAIdeal.nD Cert.PostAIdeal.τ).loc Cert.PostAIdeal.main_arg1)
      ∧ m' ((c.tc : Thread Cert.PostARefIdeal.nD Cert.PostARefIdeal.τ).loc Cert.PostARefIdeal.main_arg2) = m ((c.tc : Thread Cert.PostAIdeal.nD Cert.PostAIdeal.τ).loc Cert.PostAIdeal.main_arg2)
      ∧ m' ((c.tc : Thread Cert.PostARefIdeal.nD Cert.PostARefIdeal.τ).loc Cert.PostARefIdeal.main_arg3) = m ((c.tc : Thread Cert.PostAIdeal.nD Cert.PostAIdeal.τ).loc Cert.PostAIdeal.main_arg3)
      ∧ m' ((c.tc : Thread Cert.PostARefIdeal.nD Cert.PostARefIdeal.τ).loc Cert.PostARefIdeal.main_arg4) = m ((c.tc : Thread Cert.PostAIdeal.nD Cert.PostAIdeal.τ).loc Cert.PostAIdeal.main_arg4)
      ∧ m' ((c.tc : Thread Cert.PostARefIdeal.nD Cert.PostARefIdeal.τ).loc Cert.PostARefIdeal.main_arg5) = m ((c.tc : Thread Cert.PostAIdeal.nD Cert.PostAIdeal.τ).loc Cert.PostAIdeal.main_arg5)
      ∧ m' ((c.tc : Thread Cert.PostARefIdeal.nD Cert.PostARefIdeal.τ).loc Cert.PostARefIdeal.main_arg6) = m ((c.tc : Thread Cert.PostAIdeal.nD Cert.PostAIdeal.τ).loc Cert.PostAIdeal.main_arg6)
      ∧ m' ((c.tc : Thread Cert.PostARefIdeal.nD Cert.PostARefIdeal.τ).loc Cert.PostARefIdeal.main_arg7) = m ((c.tc : Thread Cert.PostAIdeal.nD Cert.PostAIdeal.τ).loc Cert.PostAIdeal.main_arg7)
      ∧ m' ((c.tc : Thread Cert.PostARefIdeal.nD Cert.PostARefIdeal.τ).loc Cert.PostARefIdeal.main_arg8) = m ((c.tc : Thread Cert.PostAIdeal.nD Cert.PostAIdeal.τ).loc Cert.PostAIdeal.main_arg8)
      ∧ m' ((c.tc : Thread Cert.PostARefIdeal.nD Cert.PostARefIdeal.τ).loc Cert.PostARefIdeal.main_arg9) = m ((c.tc : Thread Cert.PostAIdeal.nD Cert.PostAIdeal.τ).loc Cert.PostAIdeal.main_arg9)
      ∧ m' ((c.tc : Thread Cert.PostARefIdeal.nD Cert.PostARefIdeal.τ).loc Cert.PostARefIdeal.main_arg10) = m ((c.tc : Thread Cert.PostAIdeal.nD Cert.PostAIdeal.τ).loc Cert.PostAIdeal.main_arg10)) →
    ∃ (v0 : (c : Dev Cert.PostAIdeal.nD) → Buf (Elt Ideal) ((c.tc : Thread Cert.PostAIdeal.nD Cert.PostAIdeal.τ).loc Cert.PostAIdeal.main_v21)),
      θ_run (Cert.PostAIdeal.defs (F := Ideal)) (onTc (τ := Cert.PostAIdeal.τ) (Cert.PostAIdeal.main (F := Ideal))) ⟨m, fun _ => 0, g⟩ (fun r => ∀ c : Dev Cert.PostAIdeal.nD,
          r.2.mem ((c.tc : Thread Cert.PostAIdeal.nD Cert.PostAIdeal.τ).loc Cert.PostAIdeal.main_v21) = v0 c
          ∧ r.2.mem ((c.tc : Thread Cert.PostAIdeal.nD Cert.PostAIdeal.τ).loc Cert.PostAIdeal.main_arg0) = m ((c.tc : Thread Cert.PostAIdeal.nD Cert.PostAIdeal.τ).loc Cert.PostAIdeal.main_arg0)
          ∧ r.2.mem ((c.tc : Thread Cert.PostAIdeal.nD Cert.PostAIdeal.τ).loc Cert.PostAIdeal.main_arg1) = m ((c.tc : Thread Cert.PostAIdeal.nD Cert.PostAIdeal.τ).loc Cert.PostAIdeal.main_arg1)
          ∧ r.2.mem ((c.tc : Thread Cert.PostAIdeal.nD Cert.PostAIdeal.τ).loc Cert.PostAIdeal.main_arg2) = m ((c.tc : Thread Cert.PostAIdeal.nD Cert.PostAIdeal.τ).loc Cert.PostAIdeal.main_arg2)
          ∧ r.2.mem ((c.tc : Thread Cert.PostAIdeal.nD Cert.PostAIdeal.τ).loc Cert.PostAIdeal.main_arg3) = m ((c.tc : Thread Cert.PostAIdeal.nD Cert.PostAIdeal.τ).loc Cert.PostAIdeal.main_arg3)
          ∧ r.2.mem ((c.tc : Thread Cert.PostAIdeal.nD Cert.PostAIdeal.τ).loc Cert.PostAIdeal.main_arg4) = m ((c.tc : Thread Cert.PostAIdeal.nD Cert.PostAIdeal.τ).loc Cert.PostAIdeal.main_arg4)
          ∧ r.2.mem ((c.tc : Thread Cert.PostAIdeal.nD Cert.PostAIdeal.τ).loc Cert.PostAIdeal.main_arg5) = m ((c.tc : Thread Cert.PostAIdeal.nD Cert.PostAIdeal.τ).loc Cert.PostAIdeal.main_arg5)
          ∧ r.2.mem ((c.tc : Thread Cert.PostAIdeal.nD Cert.PostAIdeal.τ).loc Cert.PostAIdeal.main_arg6) = m ((c.tc : Thread Cert.PostAIdeal.nD Cert.PostAIdeal.τ).loc Cert.PostAIdeal.main_arg6)
          ∧ r.2.mem ((c.tc : Thread Cert.PostAIdeal.nD Cert.PostAIdeal.τ).loc Cert.PostAIdeal.main_arg7) = m ((c.tc : Thread Cert.PostAIdeal.nD Cert.PostAIdeal.τ).loc Cert.PostAIdeal.main_arg7)
          ∧ r.2.mem ((c.tc : Thread Cert.PostAIdeal.nD Cert.PostAIdeal.τ).loc Cert.PostAIdeal.main_arg8) = m ((c.tc : Thread Cert.PostAIdeal.nD Cert.PostAIdeal.τ).loc Cert.PostAIdeal.main_arg8)
          ∧ r.2.mem ((c.tc : Thread Cert.PostAIdeal.nD Cert.PostAIdeal.τ).loc Cert.PostAIdeal.main_arg9) = m ((c.tc : Thread Cert.PostAIdeal.nD Cert.PostAIdeal.τ).loc Cert.PostAIdeal.main_arg9)
          ∧ r.2.mem ((c.tc : Thread Cert.PostAIdeal.nD Cert.PostAIdeal.τ).loc Cert.PostAIdeal.main_arg10) = m ((c.tc : Thread Cert.PostAIdeal.nD Cert.PostAIdeal.τ).loc Cert.PostAIdeal.main_arg10))
      ∧ θ_run (Cert.PostARefIdeal.defs (F := Ideal)) (onTc (τ := Cert.PostARefIdeal.τ) (Cert.PostARefIdeal.main (F := Ideal))) ⟨m', fun _ => 0, g'⟩ (fun r => ∀ c : Dev Cert.PostARefIdeal.nD,
          r.2.mem ((c.tc : Thread Cert.PostARefIdeal.nD Cert.PostARefIdeal.τ).loc Cert.PostARefIdeal.main_v61) = v0 c
          ∧ r.2.mem ((c.tc : Thread Cert.PostARefIdeal.nD Cert.PostARefIdeal.τ).loc Cert.PostARefIdeal.main_arg0) = m' ((c.tc : Thread Cert.PostARefIdeal.nD Cert.PostARefIdeal.τ).loc Cert.PostARefIdeal.main_arg0)
          ∧ r.2.mem ((c.tc : Thread Cert.PostARefIdeal.nD Cert.PostARefIdeal.τ).loc Cert.PostARefIdeal.main_arg1) = m' ((c.tc : Thread Cert.PostARefIdeal.nD Cert.PostARefIdeal.τ).loc Cert.PostARefIdeal.main_arg1)
          ∧ r.2.mem ((c.tc : Thread Cert.PostARefIdeal.nD Cert.PostARefIdeal.τ).loc Cert.PostARefIdeal.main_arg2) = m' ((c.tc : Thread Cert.PostARefIdeal.nD Cert.PostARefIdeal.τ).loc Cert.PostARefIdeal.main_arg2)
          ∧ r.2.mem ((c.tc : Thread Cert.PostARefIdeal.nD Cert.PostARefIdeal.τ).loc Cert.PostARefIdeal.main_arg3) = m' ((c.tc : Thread Cert.PostARefIdeal.nD Cert.PostARefIdeal.τ).loc Cert.PostARefIdeal.main_arg3)
          ∧ r.2.mem ((c.tc : Thread Cert.PostARefIdeal.nD Cert.PostARefIdeal.τ).loc Cert.PostARefIdeal.main_arg4) = m' ((c.tc : Thread Cert.PostARefIdeal.nD Cert.PostARefIdeal.τ).loc Cert.PostARefIdeal.main_arg4)
          ∧ r.2.mem ((c.tc : Thread Cert.PostARefIdeal.nD Cert.PostARefIdeal.τ).loc Cert.PostARefIdeal.main_arg5) = m' ((c.tc : Thread Cert.PostARefIdeal.nD Cert.PostARefIdeal.τ).loc Cert.PostARefIdeal.main_arg5)
          ∧ r.2.mem ((c.tc : Thread Cert.PostARefIdeal.nD Cert.PostARefIdeal.τ).loc Cert.PostARefIdeal.main_arg6) = m' ((c.tc : Thread Cert.PostARefIdeal.nD Cert.PostARefIdeal.τ).loc Cert.PostARefIdeal.main_arg6)
          ∧ r.2.mem ((c.tc : Thread Cert.PostARefIdeal.nD Cert.PostARefIdeal.τ).loc Cert.PostARefIdeal.main_arg7) = m' ((c.tc : Thread Cert.PostARefIdeal.nD Cert.PostARefIdeal.τ).loc Cert.PostARefIdeal.main_arg7)
          ∧ r.2.mem ((c.tc : Thread Cert.PostARefIdeal.nD Cert.PostARefIdeal.τ).loc Cert.PostARefIdeal.main_arg8) = m' ((c.tc : Thread Cert.PostARefIdeal.nD Cert.PostARefIdeal.τ).loc Cert.PostARefIdeal.main_arg8)
          ∧ r.2.mem ((c.tc : Thread Cert.PostARefIdeal.nD Cert.PostARefIdeal.τ).loc Cert.PostARefIdeal.main_arg9) = m' ((c.tc : Thread Cert.PostARefIdeal.nD Cert.PostARefIdeal.τ).loc Cert.PostARefIdeal.main_arg9)
          ∧ r.2.mem ((c.tc : Thread Cert.PostARefIdeal.nD Cert.PostARefIdeal.τ).loc Cert.PostARefIdeal.main_arg10) = m' ((c.tc : Thread Cert.PostARefIdeal.nD Cert.PostARefIdeal.τ).loc Cert.PostARefIdeal.main_arg10))

def preserves_PostB_PostBIdeal : Prop :=
  True

def algebraic_PostBIdeal_PostBRefIdeal_pre_greatest_lse_finite [hPostBIdeal : Cert.PostBIdeal.Facts] [hPostBRefIdeal : Cert.PostBRefIdeal.Facts] [hPre_greatest_lse_finite : Cert.Pre_greatest_lse_finite.Facts] : Prop :=
  ∀ (m : (ℓ : Loc Cert.PostBIdeal.nD Cert.PostBIdeal.τ Cert.PostBIdeal.sig) → Buf (Elt Ideal) ℓ) (g : Dev Cert.PostBIdeal.nD → PrngReg)
    (m' : (ℓ : Loc Cert.PostBRefIdeal.nD Cert.PostBRefIdeal.τ Cert.PostBRefIdeal.sig) → Buf (Elt Ideal) ℓ) (g' : Dev Cert.PostBRefIdeal.nD → PrngReg), Pre_PostBIdeal_greatest_lse_finite m →
    (∀ c : Dev Cert.PostBIdeal.nD,
      m' ((c.tc : Thread Cert.PostBRefIdeal.nD Cert.PostBRefIdeal.τ).loc Cert.PostBRefIdeal.main_arg0) = m ((c.tc : Thread Cert.PostBIdeal.nD Cert.PostBIdeal.τ).loc Cert.PostBIdeal.main_arg0)
      ∧ m' ((c.tc : Thread Cert.PostBRefIdeal.nD Cert.PostBRefIdeal.τ).loc Cert.PostBRefIdeal.main_arg1) = m ((c.tc : Thread Cert.PostBIdeal.nD Cert.PostBIdeal.τ).loc Cert.PostBIdeal.main_arg1)
      ∧ m' ((c.tc : Thread Cert.PostBRefIdeal.nD Cert.PostBRefIdeal.τ).loc Cert.PostBRefIdeal.main_arg2) = m ((c.tc : Thread Cert.PostBIdeal.nD Cert.PostBIdeal.τ).loc Cert.PostBIdeal.main_arg2)
      ∧ m' ((c.tc : Thread Cert.PostBRefIdeal.nD Cert.PostBRefIdeal.τ).loc Cert.PostBRefIdeal.main_arg3) = m ((c.tc : Thread Cert.PostBIdeal.nD Cert.PostBIdeal.τ).loc Cert.PostBIdeal.main_arg3)
      ∧ m' ((c.tc : Thread Cert.PostBRefIdeal.nD Cert.PostBRefIdeal.τ).loc Cert.PostBRefIdeal.main_arg4) = m ((c.tc : Thread Cert.PostBIdeal.nD Cert.PostBIdeal.τ).loc Cert.PostBIdeal.main_arg4)
      ∧ m' ((c.tc : Thread Cert.PostBRefIdeal.nD Cert.PostBRefIdeal.τ).loc Cert.PostBRefIdeal.main_arg5) = m ((c.tc : Thread Cert.PostBIdeal.nD Cert.PostBIdeal.τ).loc Cert.PostBIdeal.main_arg5)
      ∧ m' ((c.tc : Thread Cert.PostBRefIdeal.nD Cert.PostBRefIdeal.τ).loc Cert.PostBRefIdeal.main_arg6) = m ((c.tc : Thread Cert.PostBIdeal.nD Cert.PostBIdeal.τ).loc Cert.PostBIdeal.main_arg6)
      ∧ m' ((c.tc : Thread Cert.PostBRefIdeal.nD Cert.PostBRefIdeal.τ).loc Cert.PostBRefIdeal.main_arg7) = m ((c.tc : Thread Cert.PostBIdeal.nD Cert.PostBIdeal.τ).loc Cert.PostBIdeal.main_arg7)
      ∧ m' ((c.tc : Thread Cert.PostBRefIdeal.nD Cert.PostBRefIdeal.τ).loc Cert.PostBRefIdeal.main_arg8) = m ((c.tc : Thread Cert.PostBIdeal.nD Cert.PostBIdeal.τ).loc Cert.PostBIdeal.main_arg8)
      ∧ m' ((c.tc : Thread Cert.PostBRefIdeal.nD Cert.PostBRefIdeal.τ).loc Cert.PostBRefIdeal.main_arg9) = m ((c.tc : Thread Cert.PostBIdeal.nD Cert.PostBIdeal.τ).loc Cert.PostBIdeal.main_arg9)
      ∧ m' ((c.tc : Thread Cert.PostBRefIdeal.nD Cert.PostBRefIdeal.τ).loc Cert.PostBRefIdeal.main_arg10) = m ((c.tc : Thread Cert.PostBIdeal.nD Cert.PostBIdeal.τ).loc Cert.PostBIdeal.main_arg10)
      ∧ m' ((c.tc : Thread Cert.PostBRefIdeal.nD Cert.PostBRefIdeal.τ).loc Cert.PostBRefIdeal.main_arg11) = m ((c.tc : Thread Cert.PostBIdeal.nD Cert.PostBIdeal.τ).loc Cert.PostBIdeal.main_arg11)
      ∧ m' ((c.tc : Thread Cert.PostBRefIdeal.nD Cert.PostBRefIdeal.τ).loc Cert.PostBRefIdeal.main_arg12) = m ((c.tc : Thread Cert.PostBIdeal.nD Cert.PostBIdeal.τ).loc Cert.PostBIdeal.main_arg12)
      ∧ m' ((c.tc : Thread Cert.PostBRefIdeal.nD Cert.PostBRefIdeal.τ).loc Cert.PostBRefIdeal.main_arg13) = m ((c.tc : Thread Cert.PostBIdeal.nD Cert.PostBIdeal.τ).loc Cert.PostBIdeal.main_arg13)
      ∧ m' ((c.tc : Thread Cert.PostBRefIdeal.nD Cert.PostBRefIdeal.τ).loc Cert.PostBRefIdeal.main_arg14) = m ((c.tc : Thread Cert.PostBIdeal.nD Cert.PostBIdeal.τ).loc Cert.PostBIdeal.main_arg14)
      ∧ m' ((c.tc : Thread Cert.PostBRefIdeal.nD Cert.PostBRefIdeal.τ).loc Cert.PostBRefIdeal.main_arg15) = m ((c.tc : Thread Cert.PostBIdeal.nD Cert.PostBIdeal.τ).loc Cert.PostBIdeal.main_arg15)) →
    ∃ (v0 : (c : Dev Cert.PostBIdeal.nD) → Buf (Elt Ideal) ((c.tc : Thread Cert.PostBIdeal.nD Cert.PostBIdeal.τ).loc Cert.PostBIdeal.main_v21)),
      θ_run (Cert.PostBIdeal.defs (F := Ideal)) (onTc (τ := Cert.PostBIdeal.τ) (Cert.PostBIdeal.main (F := Ideal))) ⟨m, fun _ => 0, g⟩ (fun r => ∀ c : Dev Cert.PostBIdeal.nD,
          r.2.mem ((c.tc : Thread Cert.PostBIdeal.nD Cert.PostBIdeal.τ).loc Cert.PostBIdeal.main_v21) = v0 c
          ∧ r.2.mem ((c.tc : Thread Cert.PostBIdeal.nD Cert.PostBIdeal.τ).loc Cert.PostBIdeal.main_arg0) = m ((c.tc : Thread Cert.PostBIdeal.nD Cert.PostBIdeal.τ).loc Cert.PostBIdeal.main_arg0)
          ∧ r.2.mem ((c.tc : Thread Cert.PostBIdeal.nD Cert.PostBIdeal.τ).loc Cert.PostBIdeal.main_arg1) = m ((c.tc : Thread Cert.PostBIdeal.nD Cert.PostBIdeal.τ).loc Cert.PostBIdeal.main_arg1)
          ∧ r.2.mem ((c.tc : Thread Cert.PostBIdeal.nD Cert.PostBIdeal.τ).loc Cert.PostBIdeal.main_arg2) = m ((c.tc : Thread Cert.PostBIdeal.nD Cert.PostBIdeal.τ).loc Cert.PostBIdeal.main_arg2)
          ∧ r.2.mem ((c.tc : Thread Cert.PostBIdeal.nD Cert.PostBIdeal.τ).loc Cert.PostBIdeal.main_arg3) = m ((c.tc : Thread Cert.PostBIdeal.nD Cert.PostBIdeal.τ).loc Cert.PostBIdeal.main_arg3)
          ∧ r.2.mem ((c.tc : Thread Cert.PostBIdeal.nD Cert.PostBIdeal.τ).loc Cert.PostBIdeal.main_arg4) = m ((c.tc : Thread Cert.PostBIdeal.nD Cert.PostBIdeal.τ).loc Cert.PostBIdeal.main_arg4)
          ∧ r.2.mem ((c.tc : Thread Cert.PostBIdeal.nD Cert.PostBIdeal.τ).loc Cert.PostBIdeal.main_arg5) = m ((c.tc : Thread Cert.PostBIdeal.nD Cert.PostBIdeal.τ).loc Cert.PostBIdeal.main_arg5)
          ∧ r.2.mem ((c.tc : Thread Cert.PostBIdeal.nD Cert.PostBIdeal.τ).loc Cert.PostBIdeal.main_arg6) = m ((c.tc : Thread Cert.PostBIdeal.nD Cert.PostBIdeal.τ).loc Cert.PostBIdeal.main_arg6)
          ∧ r.2.mem ((c.tc : Thread Cert.PostBIdeal.nD Cert.PostBIdeal.τ).loc Cert.PostBIdeal.main_arg7) = m ((c.tc : Thread Cert.PostBIdeal.nD Cert.PostBIdeal.τ).loc Cert.PostBIdeal.main_arg7)
          ∧ r.2.mem ((c.tc : Thread Cert.PostBIdeal.nD Cert.PostBIdeal.τ).loc Cert.PostBIdeal.main_arg8) = m ((c.tc : Thread Cert.PostBIdeal.nD Cert.PostBIdeal.τ).loc Cert.PostBIdeal.main_arg8)
          ∧ r.2.mem ((c.tc : Thread Cert.PostBIdeal.nD Cert.PostBIdeal.τ).loc Cert.PostBIdeal.main_arg9) = m ((c.tc : Thread Cert.PostBIdeal.nD Cert.PostBIdeal.τ).loc Cert.PostBIdeal.main_arg9)
          ∧ r.2.mem ((c.tc : Thread Cert.PostBIdeal.nD Cert.PostBIdeal.τ).loc Cert.PostBIdeal.main_arg10) = m ((c.tc : Thread Cert.PostBIdeal.nD Cert.PostBIdeal.τ).loc Cert.PostBIdeal.main_arg10)
          ∧ r.2.mem ((c.tc : Thread Cert.PostBIdeal.nD Cert.PostBIdeal.τ).loc Cert.PostBIdeal.main_arg11) = m ((c.tc : Thread Cert.PostBIdeal.nD Cert.PostBIdeal.τ).loc Cert.PostBIdeal.main_arg11)
          ∧ r.2.mem ((c.tc : Thread Cert.PostBIdeal.nD Cert.PostBIdeal.τ).loc Cert.PostBIdeal.main_arg12) = m ((c.tc : Thread Cert.PostBIdeal.nD Cert.PostBIdeal.τ).loc Cert.PostBIdeal.main_arg12)
          ∧ r.2.mem ((c.tc : Thread Cert.PostBIdeal.nD Cert.PostBIdeal.τ).loc Cert.PostBIdeal.main_arg13) = m ((c.tc : Thread Cert.PostBIdeal.nD Cert.PostBIdeal.τ).loc Cert.PostBIdeal.main_arg13)
          ∧ r.2.mem ((c.tc : Thread Cert.PostBIdeal.nD Cert.PostBIdeal.τ).loc Cert.PostBIdeal.main_arg14) = m ((c.tc : Thread Cert.PostBIdeal.nD Cert.PostBIdeal.τ).loc Cert.PostBIdeal.main_arg14)
          ∧ r.2.mem ((c.tc : Thread Cert.PostBIdeal.nD Cert.PostBIdeal.τ).loc Cert.PostBIdeal.main_arg15) = m ((c.tc : Thread Cert.PostBIdeal.nD Cert.PostBIdeal.τ).loc Cert.PostBIdeal.main_arg15))
      ∧ θ_run (Cert.PostBRefIdeal.defs (F := Ideal)) (onTc (τ := Cert.PostBRefIdeal.τ) (Cert.PostBRefIdeal.main (F := Ideal))) ⟨m', fun _ => 0, g'⟩ (fun r => ∀ c : Dev Cert.PostBRefIdeal.nD,
          r.2.mem ((c.tc : Thread Cert.PostBRefIdeal.nD Cert.PostBRefIdeal.τ).loc Cert.PostBRefIdeal.main_v107) = v0 c
          ∧ r.2.mem ((c.tc : Thread Cert.PostBRefIdeal.nD Cert.PostBRefIdeal.τ).loc Cert.PostBRefIdeal.main_arg0) = m' ((c.tc : Thread Cert.PostBRefIdeal.nD Cert.PostBRefIdeal.τ).loc Cert.PostBRefIdeal.main_arg0)
          ∧ r.2.mem ((c.tc : Thread Cert.PostBRefIdeal.nD Cert.PostBRefIdeal.τ).loc Cert.PostBRefIdeal.main_arg1) = m' ((c.tc : Thread Cert.PostBRefIdeal.nD Cert.PostBRefIdeal.τ).loc Cert.PostBRefIdeal.main_arg1)
          ∧ r.2.mem ((c.tc : Thread Cert.PostBRefIdeal.nD Cert.PostBRefIdeal.τ).loc Cert.PostBRefIdeal.main_arg2) = m' ((c.tc : Thread Cert.PostBRefIdeal.nD Cert.PostBRefIdeal.τ).loc Cert.PostBRefIdeal.main_arg2)
          ∧ r.2.mem ((c.tc : Thread Cert.PostBRefIdeal.nD Cert.PostBRefIdeal.τ).loc Cert.PostBRefIdeal.main_arg3) = m' ((c.tc : Thread Cert.PostBRefIdeal.nD Cert.PostBRefIdeal.τ).loc Cert.PostBRefIdeal.main_arg3)
          ∧ r.2.mem ((c.tc : Thread Cert.PostBRefIdeal.nD Cert.PostBRefIdeal.τ).loc Cert.PostBRefIdeal.main_arg4) = m' ((c.tc : Thread Cert.PostBRefIdeal.nD Cert.PostBRefIdeal.τ).loc Cert.PostBRefIdeal.main_arg4)
          ∧ r.2.mem ((c.tc : Thread Cert.PostBRefIdeal.nD Cert.PostBRefIdeal.τ).loc Cert.PostBRefIdeal.main_arg5) = m' ((c.tc : Thread Cert.PostBRefIdeal.nD Cert.PostBRefIdeal.τ).loc Cert.PostBRefIdeal.main_arg5)
          ∧ r.2.mem ((c.tc : Thread Cert.PostBRefIdeal.nD Cert.PostBRefIdeal.τ).loc Cert.PostBRefIdeal.main_arg6) = m' ((c.tc : Thread Cert.PostBRefIdeal.nD Cert.PostBRefIdeal.τ).loc Cert.PostBRefIdeal.main_arg6)
          ∧ r.2.mem ((c.tc : Thread Cert.PostBRefIdeal.nD Cert.PostBRefIdeal.τ).loc Cert.PostBRefIdeal.main_arg7) = m' ((c.tc : Thread Cert.PostBRefIdeal.nD Cert.PostBRefIdeal.τ).loc Cert.PostBRefIdeal.main_arg7)
          ∧ r.2.mem ((c.tc : Thread Cert.PostBRefIdeal.nD Cert.PostBRefIdeal.τ).loc Cert.PostBRefIdeal.main_arg8) = m' ((c.tc : Thread Cert.PostBRefIdeal.nD Cert.PostBRefIdeal.τ).loc Cert.PostBRefIdeal.main_arg8)
          ∧ r.2.mem ((c.tc : Thread Cert.PostBRefIdeal.nD Cert.PostBRefIdeal.τ).loc Cert.PostBRefIdeal.main_arg9) = m' ((c.tc : Thread Cert.PostBRefIdeal.nD Cert.PostBRefIdeal.τ).loc Cert.PostBRefIdeal.main_arg9)
          ∧ r.2.mem ((c.tc : Thread Cert.PostBRefIdeal.nD Cert.PostBRefIdeal.τ).loc Cert.PostBRefIdeal.main_arg10) = m' ((c.tc : Thread Cert.PostBRefIdeal.nD Cert.PostBRefIdeal.τ).loc Cert.PostBRefIdeal.main_arg10)
          ∧ r.2.mem ((c.tc : Thread Cert.PostBRefIdeal.nD Cert.PostBRefIdeal.τ).loc Cert.PostBRefIdeal.main_arg11) = m' ((c.tc : Thread Cert.PostBRefIdeal.nD Cert.PostBRefIdeal.τ).loc Cert.PostBRefIdeal.main_arg11)
          ∧ r.2.mem ((c.tc : Thread Cert.PostBRefIdeal.nD Cert.PostBRefIdeal.τ).loc Cert.PostBRefIdeal.main_arg12) = m' ((c.tc : Thread Cert.PostBRefIdeal.nD Cert.PostBRefIdeal.τ).loc Cert.PostBRefIdeal.main_arg12)
          ∧ r.2.mem ((c.tc : Thread Cert.PostBRefIdeal.nD Cert.PostBRefIdeal.τ).loc Cert.PostBRefIdeal.main_arg13) = m' ((c.tc : Thread Cert.PostBRefIdeal.nD Cert.PostBRefIdeal.τ).loc Cert.PostBRefIdeal.main_arg13)
          ∧ r.2.mem ((c.tc : Thread Cert.PostBRefIdeal.nD Cert.PostBRefIdeal.τ).loc Cert.PostBRefIdeal.main_arg14) = m' ((c.tc : Thread Cert.PostBRefIdeal.nD Cert.PostBRefIdeal.τ).loc Cert.PostBRefIdeal.main_arg14)
          ∧ r.2.mem ((c.tc : Thread Cert.PostBRefIdeal.nD Cert.PostBRefIdeal.τ).loc Cert.PostBRefIdeal.main_arg15) = m' ((c.tc : Thread Cert.PostBRefIdeal.nD Cert.PostBRefIdeal.τ).loc Cert.PostBRefIdeal.main_arg15))

def preserves_PostBS_PostBSIdeal : Prop :=
  True

def algebraic_PostBSIdeal_PostBSRefIdeal_pre_greatest_lse_finite_sample [hPostBSIdeal : Cert.PostBSIdeal.Facts] [hPostBSRefIdeal : Cert.PostBSRefIdeal.Facts] [hPre_greatest_lse_finite_sample : Cert.Pre_greatest_lse_finite_sample.Facts] : Prop :=
  ∀ (m : (ℓ : Loc Cert.PostBSIdeal.nD Cert.PostBSIdeal.τ Cert.PostBSIdeal.sig) → Buf (Elt Ideal) ℓ) (g : Dev Cert.PostBSIdeal.nD → PrngReg)
    (m' : (ℓ : Loc Cert.PostBSRefIdeal.nD Cert.PostBSRefIdeal.τ Cert.PostBSRefIdeal.sig) → Buf (Elt Ideal) ℓ) (g' : Dev Cert.PostBSRefIdeal.nD → PrngReg), Pre_PostBSIdeal_greatest_lse_finite_sample m →
    (∀ c : Dev Cert.PostBSIdeal.nD,
      m' ((c.tc : Thread Cert.PostBSRefIdeal.nD Cert.PostBSRefIdeal.τ).loc Cert.PostBSRefIdeal.main_arg0) = m ((c.tc : Thread Cert.PostBSIdeal.nD Cert.PostBSIdeal.τ).loc Cert.PostBSIdeal.main_arg0)
      ∧ m' ((c.tc : Thread Cert.PostBSRefIdeal.nD Cert.PostBSRefIdeal.τ).loc Cert.PostBSRefIdeal.main_arg1) = m ((c.tc : Thread Cert.PostBSIdeal.nD Cert.PostBSIdeal.τ).loc Cert.PostBSIdeal.main_arg1)
      ∧ m' ((c.tc : Thread Cert.PostBSRefIdeal.nD Cert.PostBSRefIdeal.τ).loc Cert.PostBSRefIdeal.main_arg2) = m ((c.tc : Thread Cert.PostBSIdeal.nD Cert.PostBSIdeal.τ).loc Cert.PostBSIdeal.main_arg2)
      ∧ m' ((c.tc : Thread Cert.PostBSRefIdeal.nD Cert.PostBSRefIdeal.τ).loc Cert.PostBSRefIdeal.main_arg3) = m ((c.tc : Thread Cert.PostBSIdeal.nD Cert.PostBSIdeal.τ).loc Cert.PostBSIdeal.main_arg3)
      ∧ m' ((c.tc : Thread Cert.PostBSRefIdeal.nD Cert.PostBSRefIdeal.τ).loc Cert.PostBSRefIdeal.main_arg4) = m ((c.tc : Thread Cert.PostBSIdeal.nD Cert.PostBSIdeal.τ).loc Cert.PostBSIdeal.main_arg4)
      ∧ m' ((c.tc : Thread Cert.PostBSRefIdeal.nD Cert.PostBSRefIdeal.τ).loc Cert.PostBSRefIdeal.main_arg5) = m ((c.tc : Thread Cert.PostBSIdeal.nD Cert.PostBSIdeal.τ).loc Cert.PostBSIdeal.main_arg5)
      ∧ m' ((c.tc : Thread Cert.PostBSRefIdeal.nD Cert.PostBSRefIdeal.τ).loc Cert.PostBSRefIdeal.main_arg6) = m ((c.tc : Thread Cert.PostBSIdeal.nD Cert.PostBSIdeal.τ).loc Cert.PostBSIdeal.main_arg6)
      ∧ m' ((c.tc : Thread Cert.PostBSRefIdeal.nD Cert.PostBSRefIdeal.τ).loc Cert.PostBSRefIdeal.main_arg7) = m ((c.tc : Thread Cert.PostBSIdeal.nD Cert.PostBSIdeal.τ).loc Cert.PostBSIdeal.main_arg7)
      ∧ m' ((c.tc : Thread Cert.PostBSRefIdeal.nD Cert.PostBSRefIdeal.τ).loc Cert.PostBSRefIdeal.main_arg8) = m ((c.tc : Thread Cert.PostBSIdeal.nD Cert.PostBSIdeal.τ).loc Cert.PostBSIdeal.main_arg8)
      ∧ m' ((c.tc : Thread Cert.PostBSRefIdeal.nD Cert.PostBSRefIdeal.τ).loc Cert.PostBSRefIdeal.main_arg9) = m ((c.tc : Thread Cert.PostBSIdeal.nD Cert.PostBSIdeal.τ).loc Cert.PostBSIdeal.main_arg9)
      ∧ m' ((c.tc : Thread Cert.PostBSRefIdeal.nD Cert.PostBSRefIdeal.τ).loc Cert.PostBSRefIdeal.main_arg10) = m ((c.tc : Thread Cert.PostBSIdeal.nD Cert.PostBSIdeal.τ).loc Cert.PostBSIdeal.main_arg10)
      ∧ m' ((c.tc : Thread Cert.PostBSRefIdeal.nD Cert.PostBSRefIdeal.τ).loc Cert.PostBSRefIdeal.main_arg11) = m ((c.tc : Thread Cert.PostBSIdeal.nD Cert.PostBSIdeal.τ).loc Cert.PostBSIdeal.main_arg11)
      ∧ m' ((c.tc : Thread Cert.PostBSRefIdeal.nD Cert.PostBSRefIdeal.τ).loc Cert.PostBSRefIdeal.main_arg12) = m ((c.tc : Thread Cert.PostBSIdeal.nD Cert.PostBSIdeal.τ).loc Cert.PostBSIdeal.main_arg12)
      ∧ m' ((c.tc : Thread Cert.PostBSRefIdeal.nD Cert.PostBSRefIdeal.τ).loc Cert.PostBSRefIdeal.main_arg13) = m ((c.tc : Thread Cert.PostBSIdeal.nD Cert.PostBSIdeal.τ).loc Cert.PostBSIdeal.main_arg13)
      ∧ m' ((c.tc : Thread Cert.PostBSRefIdeal.nD Cert.PostBSRefIdeal.τ).loc Cert.PostBSRefIdeal.main_arg14) = m ((c.tc : Thread Cert.PostBSIdeal.nD Cert.PostBSIdeal.τ).loc Cert.PostBSIdeal.main_arg14)
      ∧ m' ((c.tc : Thread Cert.PostBSRefIdeal.nD Cert.PostBSRefIdeal.τ).loc Cert.PostBSRefIdeal.main_arg15) = m ((c.tc : Thread Cert.PostBSIdeal.nD Cert.PostBSIdeal.τ).loc Cert.PostBSIdeal.main_arg15)) →
    ∃ (v0 : (c : Dev Cert.PostBSIdeal.nD) → Buf (Elt Ideal) ((c.tc : Thread Cert.PostBSIdeal.nD Cert.PostBSIdeal.τ).loc Cert.PostBSIdeal.main_v21)),
      θ_run (Cert.PostBSIdeal.defs (F := Ideal)) (onTc (τ := Cert.PostBSIdeal.τ) (Cert.PostBSIdeal.main (F := Ideal))) ⟨m, fun _ => 0, g⟩ (fun r => ∀ c : Dev Cert.PostBSIdeal.nD,
          r.2.mem ((c.tc : Thread Cert.PostBSIdeal.nD Cert.PostBSIdeal.τ).loc Cert.PostBSIdeal.main_v21) = v0 c
          ∧ r.2.mem ((c.tc : Thread Cert.PostBSIdeal.nD Cert.PostBSIdeal.τ).loc Cert.PostBSIdeal.main_arg0) = m ((c.tc : Thread Cert.PostBSIdeal.nD Cert.PostBSIdeal.τ).loc Cert.PostBSIdeal.main_arg0)
          ∧ r.2.mem ((c.tc : Thread Cert.PostBSIdeal.nD Cert.PostBSIdeal.τ).loc Cert.PostBSIdeal.main_arg1) = m ((c.tc : Thread Cert.PostBSIdeal.nD Cert.PostBSIdeal.τ).loc Cert.PostBSIdeal.main_arg1)
          ∧ r.2.mem ((c.tc : Thread Cert.PostBSIdeal.nD Cert.PostBSIdeal.τ).loc Cert.PostBSIdeal.main_arg2) = m ((c.tc : Thread Cert.PostBSIdeal.nD Cert.PostBSIdeal.τ).loc Cert.PostBSIdeal.main_arg2)
          ∧ r.2.mem ((c.tc : Thread Cert.PostBSIdeal.nD Cert.PostBSIdeal.τ).loc Cert.PostBSIdeal.main_arg3) = m ((c.tc : Thread Cert.PostBSIdeal.nD Cert.PostBSIdeal.τ).loc Cert.PostBSIdeal.main_arg3)
          ∧ r.2.mem ((c.tc : Thread Cert.PostBSIdeal.nD Cert.PostBSIdeal.τ).loc Cert.PostBSIdeal.main_arg4) = m ((c.tc : Thread Cert.PostBSIdeal.nD Cert.PostBSIdeal.τ).loc Cert.PostBSIdeal.main_arg4)
          ∧ r.2.mem ((c.tc : Thread Cert.PostBSIdeal.nD Cert.PostBSIdeal.τ).loc Cert.PostBSIdeal.main_arg5) = m ((c.tc : Thread Cert.PostBSIdeal.nD Cert.PostBSIdeal.τ).loc Cert.PostBSIdeal.main_arg5)
          ∧ r.2.mem ((c.tc : Thread Cert.PostBSIdeal.nD Cert.PostBSIdeal.τ).loc Cert.PostBSIdeal.main_arg6) = m ((c.tc : Thread Cert.PostBSIdeal.nD Cert.PostBSIdeal.τ).loc Cert.PostBSIdeal.main_arg6)
          ∧ r.2.mem ((c.tc : Thread Cert.PostBSIdeal.nD Cert.PostBSIdeal.τ).loc Cert.PostBSIdeal.main_arg7) = m ((c.tc : Thread Cert.PostBSIdeal.nD Cert.PostBSIdeal.τ).loc Cert.PostBSIdeal.main_arg7)
          ∧ r.2.mem ((c.tc : Thread Cert.PostBSIdeal.nD Cert.PostBSIdeal.τ).loc Cert.PostBSIdeal.main_arg8) = m ((c.tc : Thread Cert.PostBSIdeal.nD Cert.PostBSIdeal.τ).loc Cert.PostBSIdeal.main_arg8)
          ∧ r.2.mem ((c.tc : Thread Cert.PostBSIdeal.nD Cert.PostBSIdeal.τ).loc Cert.PostBSIdeal.main_arg9) = m ((c.tc : Thread Cert.PostBSIdeal.nD Cert.PostBSIdeal.τ).loc Cert.PostBSIdeal.main_arg9)
          ∧ r.2.mem ((c.tc : Thread Cert.PostBSIdeal.nD Cert.PostBSIdeal.τ).loc Cert.PostBSIdeal.main_arg10) = m ((c.tc : Thread Cert.PostBSIdeal.nD Cert.PostBSIdeal.τ).loc Cert.PostBSIdeal.main_arg10)
          ∧ r.2.mem ((c.tc : Thread Cert.PostBSIdeal.nD Cert.PostBSIdeal.τ).loc Cert.PostBSIdeal.main_arg11) = m ((c.tc : Thread Cert.PostBSIdeal.nD Cert.PostBSIdeal.τ).loc Cert.PostBSIdeal.main_arg11)
          ∧ r.2.mem ((c.tc : Thread Cert.PostBSIdeal.nD Cert.PostBSIdeal.τ).loc Cert.PostBSIdeal.main_arg12) = m ((c.tc : Thread Cert.PostBSIdeal.nD Cert.PostBSIdeal.τ).loc Cert.PostBSIdeal.main_arg12)
          ∧ r.2.mem ((c.tc : Thread Cert.PostBSIdeal.nD Cert.PostBSIdeal.τ).loc Cert.PostBSIdeal.main_arg13) = m ((c.tc : Thread Cert.PostBSIdeal.nD Cert.PostBSIdeal.τ).loc Cert.PostBSIdeal.main_arg13)
          ∧ r.2.mem ((c.tc : Thread Cert.PostBSIdeal.nD Cert.PostBSIdeal.τ).loc Cert.PostBSIdeal.main_arg14) = m ((c.tc : Thread Cert.PostBSIdeal.nD Cert.PostBSIdeal.τ).loc Cert.PostBSIdeal.main_arg14)
          ∧ r.2.mem ((c.tc : Thread Cert.PostBSIdeal.nD Cert.PostBSIdeal.τ).loc Cert.PostBSIdeal.main_arg15) = m ((c.tc : Thread Cert.PostBSIdeal.nD Cert.PostBSIdeal.τ).loc Cert.PostBSIdeal.main_arg15))
      ∧ θ_run (Cert.PostBSRefIdeal.defs (F := Ideal)) (onTc (τ := Cert.PostBSRefIdeal.τ) (Cert.PostBSRefIdeal.main (F := Ideal))) ⟨m', fun _ => 0, g'⟩ (fun r => ∀ c : Dev Cert.PostBSRefIdeal.nD,
          r.2.mem ((c.tc : Thread Cert.PostBSRefIdeal.nD Cert.PostBSRefIdeal.τ).loc Cert.PostBSRefIdeal.main_v107) = v0 c
          ∧ r.2.mem ((c.tc : Thread Cert.PostBSRefIdeal.nD Cert.PostBSRefIdeal.τ).loc Cert.PostBSRefIdeal.main_arg0) = m' ((c.tc : Thread Cert.PostBSRefIdeal.nD Cert.PostBSRefIdeal.τ).loc Cert.PostBSRefIdeal.main_arg0)
          ∧ r.2.mem ((c.tc : Thread Cert.PostBSRefIdeal.nD Cert.PostBSRefIdeal.τ).loc Cert.PostBSRefIdeal.main_arg1) = m' ((c.tc : Thread Cert.PostBSRefIdeal.nD Cert.PostBSRefIdeal.τ).loc Cert.PostBSRefIdeal.main_arg1)
          ∧ r.2.mem ((c.tc : Thread Cert.PostBSRefIdeal.nD Cert.PostBSRefIdeal.τ).loc Cert.PostBSRefIdeal.main_arg2) = m' ((c.tc : Thread Cert.PostBSRefIdeal.nD Cert.PostBSRefIdeal.τ).loc Cert.PostBSRefIdeal.main_arg2)
          ∧ r.2.mem ((c.tc : Thread Cert.PostBSRefIdeal.nD Cert.PostBSRefIdeal.τ).loc Cert.PostBSRefIdeal.main_arg3) = m' ((c.tc : Thread Cert.PostBSRefIdeal.nD Cert.PostBSRefIdeal.τ).loc Cert.PostBSRefIdeal.main_arg3)
          ∧ r.2.mem ((c.tc : Thread Cert.PostBSRefIdeal.nD Cert.PostBSRefIdeal.τ).loc Cert.PostBSRefIdeal.main_arg4) = m' ((c.tc : Thread Cert.PostBSRefIdeal.nD Cert.PostBSRefIdeal.τ).loc Cert.PostBSRefIdeal.main_arg4)
          ∧ r.2.mem ((c.tc : Thread Cert.PostBSRefIdeal.nD Cert.PostBSRefIdeal.τ).loc Cert.PostBSRefIdeal.main_arg5) = m' ((c.tc : Thread Cert.PostBSRefIdeal.nD Cert.PostBSRefIdeal.τ).loc Cert.PostBSRefIdeal.main_arg5)
          ∧ r.2.mem ((c.tc : Thread Cert.PostBSRefIdeal.nD Cert.PostBSRefIdeal.τ).loc Cert.PostBSRefIdeal.main_arg6) = m' ((c.tc : Thread Cert.PostBSRefIdeal.nD Cert.PostBSRefIdeal.τ).loc Cert.PostBSRefIdeal.main_arg6)
          ∧ r.2.mem ((c.tc : Thread Cert.PostBSRefIdeal.nD Cert.PostBSRefIdeal.τ).loc Cert.PostBSRefIdeal.main_arg7) = m' ((c.tc : Thread Cert.PostBSRefIdeal.nD Cert.PostBSRefIdeal.τ).loc Cert.PostBSRefIdeal.main_arg7)
          ∧ r.2.mem ((c.tc : Thread Cert.PostBSRefIdeal.nD Cert.PostBSRefIdeal.τ).loc Cert.PostBSRefIdeal.main_arg8) = m' ((c.tc : Thread Cert.PostBSRefIdeal.nD Cert.PostBSRefIdeal.τ).loc Cert.PostBSRefIdeal.main_arg8)
          ∧ r.2.mem ((c.tc : Thread Cert.PostBSRefIdeal.nD Cert.PostBSRefIdeal.τ).loc Cert.PostBSRefIdeal.main_arg9) = m' ((c.tc : Thread Cert.PostBSRefIdeal.nD Cert.PostBSRefIdeal.τ).loc Cert.PostBSRefIdeal.main_arg9)
          ∧ r.2.mem ((c.tc : Thread Cert.PostBSRefIdeal.nD Cert.PostBSRefIdeal.τ).loc Cert.PostBSRefIdeal.main_arg10) = m' ((c.tc : Thread Cert.PostBSRefIdeal.nD Cert.PostBSRefIdeal.τ).loc Cert.PostBSRefIdeal.main_arg10)
          ∧ r.2.mem ((c.tc : Thread Cert.PostBSRefIdeal.nD Cert.PostBSRefIdeal.τ).loc Cert.PostBSRefIdeal.main_arg11) = m' ((c.tc : Thread Cert.PostBSRefIdeal.nD Cert.PostBSRefIdeal.τ).loc Cert.PostBSRefIdeal.main_arg11)
          ∧ r.2.mem ((c.tc : Thread Cert.PostBSRefIdeal.nD Cert.PostBSRefIdeal.τ).loc Cert.PostBSRefIdeal.main_arg12) = m' ((c.tc : Thread Cert.PostBSRefIdeal.nD Cert.PostBSRefIdeal.τ).loc Cert.PostBSRefIdeal.main_arg12)
          ∧ r.2.mem ((c.tc : Thread Cert.PostBSRefIdeal.nD Cert.PostBSRefIdeal.τ).loc Cert.PostBSRefIdeal.main_arg13) = m' ((c.tc : Thread Cert.PostBSRefIdeal.nD Cert.PostBSRefIdeal.τ).loc Cert.PostBSRefIdeal.main_arg13)
          ∧ r.2.mem ((c.tc : Thread Cert.PostBSRefIdeal.nD Cert.PostBSRefIdeal.τ).loc Cert.PostBSRefIdeal.main_arg14) = m' ((c.tc : Thread Cert.PostBSRefIdeal.nD Cert.PostBSRefIdeal.τ).loc Cert.PostBSRefIdeal.main_arg14)
          ∧ r.2.mem ((c.tc : Thread Cert.PostBSRefIdeal.nD Cert.PostBSRefIdeal.τ).loc Cert.PostBSRefIdeal.main_arg15) = m' ((c.tc : Thread Cert.PostBSRefIdeal.nD Cert.PostBSRefIdeal.τ).loc Cert.PostBSRefIdeal.main_arg15))

def preserves_QkvA_QkvAIdeal : Prop :=
  True

def algebraic_QkvAIdeal_QkvARefIdeal [hQkvAIdeal : Cert.QkvAIdeal.Facts] [hQkvARefIdeal : Cert.QkvARefIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvARefIdeal.nD Cert.QkvARefIdeal.τ Cert.QkvARefIdeal.sig) → Buf (Elt Ideal) ℓ) (g' : Dev Cert.QkvARefIdeal.nD → PrngReg), Pre_QkvAIdeal m →
    (∀ c : Dev Cert.QkvAIdeal.nD,
      m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0)
      ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1)
      ∧ m' ((c.tc : Thread Cert.QkvARefIdeal.nD Cert.QkvARefIdeal.τ).loc Cert.QkvARefIdeal.main_arg2) = m ((c.tc : Thread Cert.QkvAIdeal.nD Cert.QkvAIdeal.τ).loc Cert.QkvAIdeal.main_arg2)
      ∧ m' ((c.tc : Thread Cert.QkvARefIdeal.nD Cert.QkvARefIdeal.τ).loc Cert.QkvARefIdeal.main_arg3) = m ((c.tc : Thread Cert.QkvAIdeal.nD Cert.QkvAIdeal.τ).loc Cert.QkvAIdeal.main_arg3)
      ∧ m' ((c.tc : Thread Cert.QkvARefIdeal.nD Cert.QkvARefIdeal.τ).loc Cert.QkvARefIdeal.main_arg4) = m ((c.tc : Thread Cert.QkvAIdeal.nD Cert.QkvAIdeal.τ).loc Cert.QkvAIdeal.main_arg4)) →
    ∃ (v0 : (c : Dev Cert.QkvAIdeal.nD) → Buf (Elt Ideal) ((c.tc : Thread Cert.QkvAIdeal.nD Cert.QkvAIdeal.τ).loc Cert.QkvAIdeal.main_v13_0)) (v1 : (c : Dev Cert.QkvAIdeal.nD) → Buf (Elt Ideal) ((c.tc : Thread Cert.QkvAIdeal.nD Cert.QkvAIdeal.τ).loc Cert.QkvAIdeal.main_v13_1)) (v2 : (c : Dev Cert.QkvAIdeal.nD) → Buf (Elt Ideal) ((c.tc : Thread Cert.QkvAIdeal.nD Cert.QkvAIdeal.τ).loc Cert.QkvAIdeal.main_v13_2)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v13_0) = v0 c
          ∧ r.2.mem ((c.tc : Thread Cert.QkvAIdeal.nD Cert.QkvAIdeal.τ).loc Cert.QkvAIdeal.main_v13_1) = v1 c
          ∧ r.2.mem ((c.tc : Thread Cert.QkvAIdeal.nD Cert.QkvAIdeal.τ).loc Cert.QkvAIdeal.main_v13_2) = v2 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1)
          ∧ r.2.mem ((c.tc : Thread Cert.QkvAIdeal.nD Cert.QkvAIdeal.τ).loc Cert.QkvAIdeal.main_arg2) = m ((c.tc : Thread Cert.QkvAIdeal.nD Cert.QkvAIdeal.τ).loc Cert.QkvAIdeal.main_arg2)
          ∧ r.2.mem ((c.tc : Thread Cert.QkvAIdeal.nD Cert.QkvAIdeal.τ).loc Cert.QkvAIdeal.main_arg3) = m ((c.tc : Thread Cert.QkvAIdeal.nD Cert.QkvAIdeal.τ).loc Cert.QkvAIdeal.main_arg3)
          ∧ r.2.mem ((c.tc : Thread Cert.QkvAIdeal.nD Cert.QkvAIdeal.τ).loc Cert.QkvAIdeal.main_arg4) = m ((c.tc : Thread Cert.QkvAIdeal.nD Cert.QkvAIdeal.τ).loc Cert.QkvAIdeal.main_arg4))
      ∧ θ_run (Cert.QkvARefIdeal.defs (F := Ideal)) (onTc (τ := Cert.QkvARefIdeal.τ) (Cert.QkvARefIdeal.main (F := Ideal))) ⟨m', fun _ => 0, g'⟩ (fun r => ∀ c : Dev Cert.QkvARefIdeal.nD,
          r.2.mem ((c.tc : Thread Cert.QkvARefIdeal.nD Cert.QkvARefIdeal.τ).loc Cert.QkvARefIdeal.main_v51) = v0 c
          ∧ r.2.mem ((c.tc : Thread Cert.QkvARefIdeal.nD Cert.QkvARefIdeal.τ).loc Cert.QkvARefIdeal.main_v53) = v1 c
          ∧ r.2.mem ((c.tc : Thread Cert.QkvARefIdeal.nD Cert.QkvARefIdeal.τ).loc Cert.QkvARefIdeal.main_v54) = v2 c
          ∧ r.2.mem ((c.tc : Thread Cert.QkvARefIdeal.nD Cert.QkvARefIdeal.τ).loc Cert.QkvARefIdeal.main_arg0) = m' ((c.tc : Thread Cert.QkvARefIdeal.nD Cert.QkvARefIdeal.τ).loc Cert.QkvARefIdeal.main_arg0)
          ∧ r.2.mem ((c.tc : Thread Cert.QkvARefIdeal.nD Cert.QkvARefIdeal.τ).loc Cert.QkvARefIdeal.main_arg1) = m' ((c.tc : Thread Cert.QkvARefIdeal.nD Cert.QkvARefIdeal.τ).loc Cert.QkvARefIdeal.main_arg1)
          ∧ r.2.mem ((c.tc : Thread Cert.QkvARefIdeal.nD Cert.QkvARefIdeal.τ).loc Cert.QkvARefIdeal.main_arg2) = m' ((c.tc : Thread Cert.QkvARefIdeal.nD Cert.QkvARefIdeal.τ).loc Cert.QkvARefIdeal.main_arg2)
          ∧ r.2.mem ((c.tc : Thread Cert.QkvARefIdeal.nD Cert.QkvARefIdeal.τ).loc Cert.QkvARefIdeal.main_arg3) = m' ((c.tc : Thread Cert.QkvARefIdeal.nD Cert.QkvARefIdeal.τ).loc Cert.QkvARefIdeal.main_arg3)
          ∧ r.2.mem ((c.tc : Thread Cert.QkvARefIdeal.nD Cert.QkvARefIdeal.τ).loc Cert.QkvARefIdeal.main_arg4) = m' ((c.tc : Thread Cert.QkvARefIdeal.nD Cert.QkvARefIdeal.τ).loc Cert.QkvARefIdeal.main_arg4))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)
      ∧ m' ((c.tc : Thread Cert.QkvBRefIdeal.nD Cert.QkvBRefIdeal.τ).loc Cert.QkvBRefIdeal.main_arg2) = m ((c.tc : Thread Cert.QkvBIdeal.nD Cert.QkvBIdeal.τ).loc Cert.QkvBIdeal.main_arg2)
      ∧ m' ((c.tc : Thread Cert.QkvBRefIdeal.nD Cert.QkvBRefIdeal.τ).loc Cert.QkvBRefIdeal.main_arg3) = m ((c.tc : Thread Cert.QkvBIdeal.nD Cert.QkvBIdeal.τ).loc Cert.QkvBIdeal.main_arg3)
      ∧ m' ((c.tc : Thread Cert.QkvBRefIdeal.nD Cert.QkvBRefIdeal.τ).loc Cert.QkvBRefIdeal.main_arg4) = m ((c.tc : Thread Cert.QkvBIdeal.nD Cert.QkvBIdeal.τ).loc Cert.QkvBIdeal.main_arg4)) →
    ∃ (v0 : (c : Dev Cert.QkvBIdeal.nD) → Buf (Elt Ideal) ((c.tc : Thread Cert.QkvBIdeal.nD Cert.QkvBIdeal.τ).loc Cert.QkvBIdeal.main_v13_0)) (v1 : (c : Dev Cert.QkvBIdeal.nD) → Buf (Elt Ideal) ((c.tc : Thread Cert.QkvBIdeal.nD Cert.QkvBIdeal.τ).loc Cert.QkvBIdeal.main_v13_1)) (v2 : (c : Dev Cert.QkvBIdeal.nD) → Buf (Elt Ideal) ((c.tc : Thread Cert.QkvBIdeal.nD Cert.QkvBIdeal.τ).loc Cert.QkvBIdeal.main_v13_2)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v13_0) = v0 c
          ∧ r.2.mem ((c.tc : Thread Cert.QkvBIdeal.nD Cert.QkvBIdeal.τ).loc Cert.QkvBIdeal.main_v13_1) = v1 c
          ∧ r.2.mem ((c.tc : Thread Cert.QkvBIdeal.nD Cert.QkvBIdeal.τ).loc Cert.QkvBIdeal.main_v13_2) = v2 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
          ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2)
          ∧ r.2.mem ((c.tc : Thread Cert.QkvBIdeal.nD Cert.QkvBIdeal.τ).loc Cert.QkvBIdeal.main_arg3) = m ((c.tc : Thread Cert.QkvBIdeal.nD Cert.QkvBIdeal.τ).loc Cert.QkvBIdeal.main_arg3)
          ∧ r.2.mem ((c.tc : Thread Cert.QkvBIdeal.nD Cert.QkvBIdeal.τ).loc Cert.QkvBIdeal.main_arg4) = m ((c.tc : Thread Cert.QkvBIdeal.nD Cert.QkvBIdeal.τ).loc Cert.QkvBIdeal.main_arg4))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v51) = v0 c
          ∧ r.2.mem ((c.tc : Thread Cert.QkvBRefIdeal.nD Cert.QkvBRefIdeal.τ).loc Cert.QkvBRefIdeal.main_v53) = v1 c
          ∧ r.2.mem ((c.tc : Thread Cert.QkvBRefIdeal.nD Cert.QkvBRefIdeal.τ).loc Cert.QkvBRefIdeal.main_v54) = v2 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1)
          ∧ r.2.mem ((c.tc : Thread Cert.QkvBRefIdeal.nD Cert.QkvBRefIdeal.τ).loc Cert.QkvBRefIdeal.main_arg2) = m' ((c.tc : Thread Cert.QkvBRefIdeal.nD Cert.QkvBRefIdeal.τ).loc Cert.QkvBRefIdeal.main_arg2)
          ∧ r.2.mem ((c.tc : Thread Cert.QkvBRefIdeal.nD Cert.QkvBRefIdeal.τ).loc Cert.QkvBRefIdeal.main_arg3) = m' ((c.tc : Thread Cert.QkvBRefIdeal.nD Cert.QkvBRefIdeal.τ).loc Cert.QkvBRefIdeal.main_arg3)
          ∧ r.2.mem ((c.tc : Thread Cert.QkvBRefIdeal.nD Cert.QkvBRefIdeal.τ).loc Cert.QkvBRefIdeal.main_arg4) = m' ((c.tc : Thread Cert.QkvBRefIdeal.nD Cert.QkvBRefIdeal.τ).loc Cert.QkvBRefIdeal.main_arg4))

def Claim : Prop :=
  ∃ (hPostA : Cert.PostA.Facts) (hPostAIdeal : Cert.PostAIdeal.Facts) (hPostARefIdeal : Cert.PostARefIdeal.Facts) (hPostB : Cert.PostB.Facts) (hPostBIdeal : Cert.PostBIdeal.Facts) (hPostBRefIdeal : Cert.PostBRefIdeal.Facts) (hPostBS : Cert.PostBS.Facts) (hPostBSIdeal : Cert.PostBSIdeal.Facts) (hPostBSRefIdeal : Cert.PostBSRefIdeal.Facts) (hQkvA : Cert.QkvA.Facts) (hQkvAIdeal : Cert.QkvAIdeal.Facts) (hQkvARefIdeal : Cert.QkvARefIdeal.Facts) (hQkvB : Cert.QkvB.Facts) (hQkvBIdeal : Cert.QkvBIdeal.Facts) (hQkvBRefIdeal : Cert.QkvBRefIdeal.Facts) (hPre_greatest_lse_finite : Cert.Pre_greatest_lse_finite.Facts) (hPre_greatest_lse_finite_sample : Cert.Pre_greatest_lse_finite_sample.Facts),
    quiescent_PostA (hPostA := hPostA)
    ∧ quiescent_PostAIdeal (hPostAIdeal := hPostAIdeal)
    ∧ quiescent_PostARefIdeal (hPostARefIdeal := hPostARefIdeal)
    ∧ quiescent_PostB (hPostB := hPostB)
    ∧ quiescent_PostBIdeal (hPostBIdeal := hPostBIdeal)
    ∧ quiescent_PostBIdeal_pre_greatest_lse_finite (hPostBIdeal := hPostBIdeal) (hPre_greatest_lse_finite := hPre_greatest_lse_finite)
    ∧ quiescent_PostBRefIdeal (hPostBRefIdeal := hPostBRefIdeal)
    ∧ quiescent_PostBRefIdeal_pre_greatest_lse_finite (hPostBRefIdeal := hPostBRefIdeal) (hPre_greatest_lse_finite := hPre_greatest_lse_finite)
    ∧ quiescent_PostBS (hPostBS := hPostBS)
    ∧ quiescent_PostBSIdeal (hPostBSIdeal := hPostBSIdeal)
    ∧ quiescent_PostBSIdeal_pre_greatest_lse_finite_sample (hPostBSIdeal := hPostBSIdeal) (hPre_greatest_lse_finite_sample := hPre_greatest_lse_finite_sample)
    ∧ quiescent_PostBSRefIdeal (hPostBSRefIdeal := hPostBSRefIdeal)
    ∧ quiescent_PostBSRefIdeal_pre_greatest_lse_finite_sample (hPostBSRefIdeal := hPostBSRefIdeal) (hPre_greatest_lse_finite_sample := hPre_greatest_lse_finite_sample)
    ∧ quiescent_QkvA (hQkvA := hQkvA)
    ∧ quiescent_QkvAIdeal (hQkvAIdeal := hQkvAIdeal)
    ∧ quiescent_QkvARefIdeal (hQkvARefIdeal := hQkvARefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ preserves_PostA_PostAIdeal
    ∧ algebraic_PostAIdeal_PostARefIdeal (hPostAIdeal := hPostAIdeal) (hPostARefIdeal := hPostARefIdeal)
    ∧ preserves_PostB_PostBIdeal
    ∧ algebraic_PostBIdeal_PostBRefIdeal_pre_greatest_lse_finite (hPostBIdeal := hPostBIdeal) (hPostBRefIdeal := hPostBRefIdeal) (hPre_greatest_lse_finite := hPre_greatest_lse_finite)
    ∧ preserves_PostBS_PostBSIdeal
    ∧ algebraic_PostBSIdeal_PostBSRefIdeal_pre_greatest_lse_finite_sample (hPostBSIdeal := hPostBSIdeal) (hPostBSRefIdeal := hPostBSRefIdeal) (hPre_greatest_lse_finite_sample := hPre_greatest_lse_finite_sample)
    ∧ preserves_QkvA_QkvAIdeal
    ∧ algebraic_QkvAIdeal_QkvARefIdeal (hQkvAIdeal := hQkvAIdeal) (hQkvARefIdeal := hQkvARefIdeal)
    ∧ preserves_QkvB_QkvBIdeal
    ∧ algebraic_QkvBIdeal_QkvBRefIdeal (hQkvBIdeal := hQkvBIdeal) (hQkvBRefIdeal := hQkvBRefIdeal)
-- ==== Pre_greatest_lse_finite.lean ====
abbrev S65536x1024 : Shape := ⟨2, ![65536, 1024]⟩
abbrev S65536x384 : Shape := ⟨2, ![65536, 384]⟩
abbrev S65536x128 : Shape := ⟨2, ![65536, 128]⟩
abbrev S2x65536x256 : Shape := ⟨3, ![2, 65536, 256]⟩
abbrev S1152x1024 : Shape := ⟨2, ![1152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S65536x6 : Shape := ⟨2, ![65536, 6]⟩
abbrev S_ : Shape := ⟨0, ![]⟩

class Facts : Prop where
  slices_S65536x128_S65536x6_0_0 : S65536x128.Slices ![0, 0] S65536x6
  bcast_S_S65536x6 : S_.BroadcastsInDim S65536x6 (![] : Fin 0 → Fin S65536x6.rank)

variable [Facts]

def fn {F : FTy → Type} [FloatOps F] (main_arg0 : FVec F S65536x1024 .f32) (main_arg1 : FVec F S65536x384 .bf16) (main_arg2 : FVec F S65536x384 .bf16) (main_arg3 : FVec F S65536x384 .bf16) (main_arg4 : FVec F S65536x128 .f32) (main_arg5 : FVec F S65536x128 .f32) (main_arg6 : FVec F S65536x128 .f32) (main_arg7 : FVec F S2x65536x256 .f32) (main_arg8 : FVec F S1152x1024 .bf16) (main_arg9 : FVec F S2x1024 .f32) (main_arg10 : FVec F S2x1024x2816 .f32) (main_arg11 : FVec F S2x1024x2816 .f32) (main_arg12 : FVec F S2x2816x1024 .f32) (main_arg13 : FVec F S2x1024 .f32) (main_arg14 : FVec F S2x1024x1024 .f32) (main_arg15 : FVec F S2x256x1024 .f32) : IVec S65536x6 1 :=
  let main_v0 : FVec F S65536x6 .f32 := (extractStridedSlice S65536x6 ![0, 0] · slices_S65536x128_S65536x6_0_0) main_arg4
  let main_v1 : FVec F S65536x6 .f32 := (extractStridedSlice S65536x6 ![0, 0] · slices_S65536x128_S65536x6_0_0) main_arg5
  let main_v2 : FVec F S65536x6 .f32 := maximumf main_v0 main_v1
  let main_v3 : FVec F S65536x6 .f32 := (extractStridedSlice S65536x6 ![0, 0] · slices_S65536x128_S65536x6_0_0) main_arg6
  let main_v4 : FVec F S65536x6 .f32 := maximumf main_v2 main_v3
  let main_cst : FVec F S_ .f32 := constant S_ .f32 0xFF800000#32
  let main_v5 : FVec F S65536x6 .f32 := broadcastInDim S65536x6 ![] bcast_S_S65536x6 main_cst
  let main_v6 : IVec S65536x6 1 := cmpf .ogt main_v4 main_v5
  let main_cst_0 : FVec F S_ .f32 := constant S_ .f32 0x7F800000#32
  let main_v7 : FVec F S65536x6 .f32 := broadcastInDim S65536x6 ![] bcast_S_S65536x6 main_cst_0
  let main_v8 : IVec S65536x6 1 := cmpf .olt main_v4 main_v7
  let main_v9 : IVec S65536x6 1 := andi main_v6 main_v8
  main_v9
-- ==== Pre_greatest_lse_finite_sample.lean ====
abbrev S32768x1024 : Shape := ⟨2, ![32768, 1024]⟩
abbrev S32768x384 : Shape := ⟨2, ![32768, 384]⟩
abbrev S32768x128 : Shape := ⟨2, ![32768, 128]⟩
abbrev S2x32768x256 : Shape := ⟨3, ![2, 32768, 256]⟩
abbrev S1152x1024 : Shape := ⟨2, ![1152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S32768x6 : Shape := ⟨2, ![32768, 6]⟩
abbrev S_ : Shape := ⟨0, ![]⟩

class Facts : Prop where
  slices_S32768x128_S32768x6_0_0 : S32768x128.Slices ![0, 0] S32768x6
  bcast_S_S32768x6 : S_.BroadcastsInDim S32768x6 (![] : Fin 0 → Fin S32768x6.rank)

variable [Facts]

def fn {F : FTy → Type} [FloatOps F] (main_arg0 : FVec F S32768x1024 .f32) (main_arg1 : FVec F S32768x384 .bf16) (main_arg2 : FVec F S32768x384 .bf16) (main_arg3 : FVec F S32768x384 .bf16) (main_arg4 : FVec F S32768x128 .f32) (main_arg5 : FVec F S32768x128 .f32) (main_arg6 : FVec F S32768x128 .f32) (main_arg7 : FVec F S2x32768x256 .f32) (main_arg8 : FVec F S1152x1024 .bf16) (main_arg9 : FVec F S2x1024 .f32) (main_arg10 : FVec F S2x1024x2816 .f32) (main_arg11 : FVec F S2x1024x2816 .f32) (main_arg12 : FVec F S2x2816x1024 .f32) (main_arg13 : FVec F S2x1024 .f32) (main_arg14 : FVec F S2x1024x1024 .f32) (main_arg15 : FVec F S2x256x1024 .f32) : IVec S32768x6 1 :=
  let main_v0 : FVec F S32768x6 .f32 := (extractStridedSlice S32768x6 ![0, 0] · slices_S32768x128_S32768x6_0_0) main_arg4
  let main_v1 : FVec F S32768x6 .f32 := (extractStridedSlice S32768x6 ![0, 0] · slices_S32768x128_S32768x6_0_0) main_arg5
  let main_v2 : FVec F S32768x6 .f32 := maximumf main_v0 main_v1
  let main_v3 : FVec F S32768x6 .f32 := (extractStridedSlice S32768x6 ![0, 0] · slices_S32768x128_S32768x6_0_0) main_arg6
  let main_v4 : FVec F S32768x6 .f32 := maximumf main_v2 main_v3
  let main_cst : FVec F S_ .f32 := constant S_ .f32 0xFF800000#32
  let main_v5 : FVec F S32768x6 .f32 := broadcastInDim S32768x6 ![] bcast_S_S32768x6 main_cst
  let main_v6 : IVec S32768x6 1 := cmpf .ogt main_v4 main_v5
  let main_cst_0 : FVec F S_ .f32 := constant S_ .f32 0x7F800000#32
  let main_v7 : FVec F S32768x6 .f32 := broadcastInDim S32768x6 ![] bcast_S_S32768x6 main_cst_0
  let main_v8 : IVec S32768x6 1 := cmpf .olt main_v4 main_v7
  let main_v9 : IVec S32768x6 1 := andi main_v6 main_v8
  main_v9
-- ==== PostA.lean ====
abbrev S65536x1024 : Shape := ⟨2, ![65536, 1024]⟩
abbrev S2x65536x256 : Shape := ⟨3, ![2, 65536, 256]⟩
abbrev S1024x1024 : Shape := ⟨2, ![1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 33
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S2x65536x256, .f32⟩
  | .hbm, ⟨3, _⟩ => ⟨S1024x1024, .bf16⟩
  | .hbm, ⟨4, _⟩ => ⟨S2x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S2x1024, .f32⟩
  | .hbm, ⟨9, _⟩ => ⟨S2x1024x1024, .f32⟩
  | .hbm, ⟨10, _⟩ => ⟨S2x256x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x2816, .f32⟩
  | .hbm, ⟨15, _⟩ => ⟨S1024x2816, .f32⟩
  | .hbm, ⟨16, _⟩ => ⟨S1024x2816, .bf16⟩
  | .hbm, ⟨17, _⟩ => ⟨S1x1024x2816, .f32⟩
  | .hbm, ⟨18, _⟩ => ⟨S1024x2816, .f32⟩
  | .hbm, ⟨19, _⟩ => ⟨S1024x2816, .bf16⟩
  | .hbm, ⟨20, _⟩ => ⟨S1x2816x1024, .f32⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024x1024, .f32⟩
  | .hbm, ⟨27, _⟩ => ⟨S1024x1024, .f32⟩
  | .hbm, ⟨28, _⟩ => ⟨S1024x1024, .bf16⟩
  | .hbm, ⟨29, _⟩ => ⟨S1x256x1024, .f32⟩
  | .hbm, ⟨30, _⟩ => ⟨S256x1024, .f32⟩
  | .hbm, ⟨31, _⟩ => ⟨S256x1024, .bf16⟩
  | .hbm, ⟨32, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostARefIdeal.lean ====
abbrev S65536x1024 : Shape := ⟨2, ![65536, 1024]⟩
abbrev S2x65536x256 : Shape := ⟨3, ![2, 65536, 256]⟩
abbrev S1024x1024 : Shape := ⟨2, ![1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S65536x2816 : Shape := ⟨2, ![65536, 2816]⟩
abbrev S1x1024x1024 : Shape := ⟨3, ![1, 1024, 1024]⟩
abbrev S1x65536x256 : Shape := ⟨3, ![1, 65536, 256]⟩
abbrev S65536x256 : Shape := ⟨2, ![65536, 256]⟩
abbrev S1x256x1024 : Shape := ⟨3, ![1, 256, 1024]⟩
abbrev S256x1024 : Shape := ⟨2, ![256, 1024]⟩

abbrev nBuf : Space → Nat
  | .hbm => 89
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S2x65536x256, .f32⟩
  | .hbm, ⟨3, _⟩ => ⟨S1024x1024, .bf16⟩
  | .hbm, ⟨4, _⟩ => ⟨S2x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S2x1024, .f32⟩
  | .hbm, ⟨9, _⟩ => ⟨S2x1024x1024, .f32⟩
  | .hbm, ⟨10, _⟩ => ⟨S2x256x1024, .f32⟩
  | .hbm, ⟨11, _⟩ => ⟨S65536x1024, .f32⟩
  | .hbm, ⟨12, _⟩ => ⟨S1024x1024, .f32⟩
  | .hbm, ⟨13, _⟩ => ⟨S65536x1024, .f32⟩
  | .hbm, ⟨14, _⟩ => ⟨S65536x1024, .f32⟩
  | .hbm, ⟨15, _⟩ => ⟨S1x1024, .f32⟩
  | .hbm, ⟨16, _⟩ => ⟨S1024, .f32⟩
  | .hbm, ⟨17, _⟩ => ⟨S65536x1024, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S65536x1024, .f32⟩
  | .hbm, ⟨32, _⟩ => ⟨S65536x1024, .f32⟩
  | .hbm, ⟨33, _⟩ => ⟨S1x1024x2816, .f32⟩
  | .hbm, ⟨34, _⟩ => ⟨S1024x2816, .f32⟩
  | .hbm, ⟨35, _⟩ => ⟨S1x1024x2816, .f32⟩
  | .hbm, ⟨36, _⟩ => ⟨S1024x2816, .f32⟩
  | .hbm, ⟨37, _⟩ => ⟨S1x2816x1024, .f32⟩
  | .hbm, ⟨38, _⟩ => ⟨S2816x1024, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S_, .f32⟩
  | .hbm, ⟨43, _⟩ => ⟨S65536x2816, .f32⟩
  | .hbm, ⟨44, _⟩ => ⟨S65536x2816, .f32⟩
  | .hbm, ⟨45, _⟩ => ⟨S_, .f32⟩
  | .hbm, ⟨46, _⟩ => ⟨S65536x2816, .f32⟩
  | .hbm, ⟨47, _⟩ => ⟨S65536x2816, .f32⟩
  | .hbm, ⟨48, _⟩ => ⟨S65536x2816, .f32⟩
  | .hbm, ⟨49, _⟩ => ⟨S65536x2816, .f32⟩
  | .hbm, ⟨50, _⟩ => ⟨S65536x2816, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S1024, .f32⟩
  | .hbm, ⟨55, _⟩ => ⟨S65536x1024, .f32⟩
  | .hbm, ⟨56, _⟩ => ⟨S_, .f32⟩
  | .hbm, ⟨57, _⟩ => ⟨S65536, .f32⟩
  | .hbm, ⟨58, _⟩ => ⟨S65536x1, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S_, .f32⟩
  | .hbm, ⟨63, _⟩ => ⟨S65536x1, .f32⟩
  | .hbm, ⟨64, _⟩ => ⟨S65536x1, .f32⟩
  | .hbm, ⟨65, _⟩ => ⟨S65536x1, .f32⟩
  | .hbm, ⟨66, _⟩ => ⟨S65536x1024, .f32⟩
  | .hbm, ⟨67, _⟩ => ⟨S65536x1024, .f32⟩
  | .hbm, ⟨68, _⟩ => ⟨S1x1024, .f32⟩
  | .hbm, ⟨69, _⟩ => ⟨S65536x1024, .f32⟩
  | .hbm, ⟨70, _⟩ => ⟨S65536x1024, .f32⟩
  | .hbm, ⟨71, _⟩ => ⟨S1x1024x1024, .f32⟩
  | .hbm, ⟨72, _⟩ => ⟨S1024x1024, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S_, .f32⟩
  | .hbm, ⟨77, _⟩ => ⟨S65536x1024, .f32⟩
  | .hbm, ⟨78, _⟩ => ⟨S65536x1024, .f32⟩
  | .hbm, ⟨79, _⟩ => ⟨S_, .f32⟩
  | .hbm, ⟨80, _⟩ => ⟨S65536x1024, .f32⟩
  | .hbm, ⟨81, _⟩ => ⟨S65536x1024, .f32⟩
  | .hbm, ⟨82, _⟩ => ⟨S1x65536x256, .f32⟩
  | .hbm, ⟨83, _⟩ => ⟨S65536x256, .f32⟩
  | .hbm, ⟨84, _⟩ => ⟨S1x256x1024, .f32⟩
  | .hbm, ⟨85, _⟩ => ⟨S256x1024, .f32⟩
  | .hbm, ⟨86, _⟩ => ⟨S65536x1024, .f32⟩
  | .hbm, ⟨87, _⟩ => ⟨S65536x1024, .f32⟩
  | .hbm, ⟨88, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== PostB.lean ====
abbrev S65536x1024 : Shape := ⟨2, ![65536, 1024]⟩
abbrev S65536x384 : Shape := ⟨2, ![65536, 384]⟩
abbrev S65536x128 : Shape := ⟨2, ![65536, 128]⟩
abbrev S2x65536x256 : Shape := ⟨3, ![2, 65536, 256]⟩
abbrev S1152x1024 : Shape := ⟨2, ![1152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S512x384 : Shape := ⟨2, ![512, 384]⟩
abbrev S512x128 : Shape := ⟨2, ![512, 128]⟩
abbrev S1x512x256 : Shape := ⟨3, ![1, 512, 256]⟩
abbrev S512x1 : Shape := ⟨2, ![512, 1]⟩
abbrev S512x1152 : Shape := ⟨2, ![512, 1152]⟩
abbrev S512 : Shape := ⟨1, ![512]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 38
  | .vmem => 26
  | .smem => 0
  | _ => 0

abbrev bufTy : (tb : Table) → Fin (tcTables nBuf tb) → BufTy
  | .hbm, ⟨0, _⟩ => ⟨S65536x1024, .f32⟩
  | .hbm, ⟨1, _⟩ => ⟨S65536x384, .bf16⟩
  | .hbm, ⟨2, _⟩ => ⟨S65536x384, .bf16⟩
  | .hbm, ⟨3, _⟩ => ⟨S65536x384, .bf16⟩
  | .hbm, ⟨4, _⟩ => ⟨S65536x128, .f32⟩
  | .hbm, ⟨5, _⟩ => ⟨S65536x128, .f32⟩
  | .hbm, ⟨6, _⟩ => ⟨S65536x128, .f32⟩
  | .hbm, ⟨7, _⟩ => ⟨S2x65536x256, .f32⟩
  | .hbm, ⟨8, _⟩ => ⟨S1152x1024, .bf16⟩
  | .hbm, ⟨9, _⟩ => ⟨S2x1024, .f32⟩
  | .hbm, ⟨10, _⟩ => ⟨S2x1024x2816, .f32⟩
  | .hbm, ⟨11, _⟩ => ⟨S2x1024x2816, .f32⟩
  | .hbm, ⟨12, _⟩ => ⟨S2x2816x1024, .f32⟩
  | .hbm, ⟨13, _⟩ => ⟨S2x1024, .f32⟩
  | .hbm, ⟨14, _⟩ => ⟨S2x1024x1024, .f32⟩
  | .hbm, ⟨15, _⟩ => ⟨S2x256x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x2816, .f32⟩
  | .hbm, ⟨20, _⟩ => ⟨S1024x2816, .f32⟩
  | .hbm, ⟨21, _⟩ => ⟨S1024x2816, .bf16⟩
  | .hbm, ⟨22, _⟩ => ⟨S1x1024x2816, .f32⟩
  | .hbm, ⟨23, _⟩ => ⟨S1024x2816, .f32⟩
  | .hbm, ⟨24, _⟩ => ⟨S1024x2816, .bf16⟩
  | .hbm, ⟨25, _⟩ => ⟨S1x2816x1024, .f32⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024x1024, .f32⟩
  | .hbm, ⟨32, _⟩ => ⟨S1024x1024, .f32⟩
  | .hbm, ⟨33, _⟩ => ⟨S1024x1024, .bf16⟩
  | .hbm, ⟨34, _⟩ => ⟨S1x256x1024, .f32⟩
  | .hbm, ⟨35, _⟩ => ⟨S256x1024, .f32⟩
  | .hbm, ⟨36, _⟩ => ⟨S256x1024, .bf16⟩
  | .hbm, ⟨37, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x256, .f32⟩
  | .local _ .vmem, ⟨15, _⟩ => ⟨S1x512x256, .f32⟩
  | .local _ .vmem, ⟨16, _⟩ => ⟨S1152x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1152x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostBIdeal.lean ====
abbrev S65536x1024 : Shape := ⟨2, ![65536, 1024]⟩
abbrev S65536x384 : Shape := ⟨2, ![65536, 384]⟩
abbrev S65536x128 : Shape := ⟨2, ![65536, 128]⟩
abbrev S2x65536x256 : Shape := ⟨3, ![2, 65536, 256]⟩
abbrev S1152x1024 : Shape := ⟨2, ![1152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S512x384 : Shape := ⟨2, ![512, 384]⟩
abbrev S512x128 : Shape := ⟨2, ![512, 128]⟩
abbrev S1x512x256 : Shape := ⟨3, ![1, 512, 256]⟩
abbrev S512x1 : Shape := ⟨2, ![512, 1]⟩
abbrev S512x1152 : Shape := ⟨2, ![512, 1152]⟩
abbrev S512 : Shape := ⟨1, ![512]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 38
  | .vmem => 26
  | .smem => 0
  | _ => 0

abbrev bufTy : (tb : Table) → Fin (tcTables nBuf tb) → BufTy
  | .hbm, ⟨0, _⟩ => ⟨S65536x1024, .f32⟩
  | .hbm, ⟨1, _⟩ => ⟨S65536x384, .bf16⟩
  | .hbm, ⟨2, _⟩ => ⟨S65536x384, .bf16⟩
  | .hbm, ⟨3, _⟩ => ⟨S65536x384, .bf16⟩
  | .hbm, ⟨4, _⟩ => ⟨S65536x128, .f32⟩
  | .hbm, ⟨5, _⟩ => ⟨S65536x128, .f32⟩
  | .hbm, ⟨6, _⟩ => ⟨S65536x128, .f32⟩
  | .hbm, ⟨7, _⟩ => ⟨S2x65536x256, .f32⟩
  | .hbm, ⟨8, _⟩ => ⟨S1152x1024, .bf16⟩
  | .hbm, ⟨9, _⟩ => ⟨S2x1024, .f32⟩
  | .hbm, ⟨10, _⟩ => ⟨S2x1024x2816, .f32⟩
  | .hbm, ⟨11, _⟩ => ⟨S2x1024x2816, .f32⟩
  | .hbm, ⟨12, _⟩ => ⟨S2x2816x1024, .f32⟩
  | .hbm, ⟨13, _⟩ => ⟨S2x1024, .f32⟩
  | .hbm, ⟨14, _⟩ => ⟨S2x1024x1024, .f32⟩
  | .hbm, ⟨15, _⟩ => ⟨S2x256x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x2816, .f32⟩
  | .hbm, ⟨20, _⟩ => ⟨S1024x2816, .f32⟩
  | .hbm, ⟨21, _⟩ => ⟨S1024x2816, .bf16⟩
  | .hbm, ⟨22, _⟩ => ⟨S1x1024x2816, .f32⟩
  | .hbm, ⟨23, _⟩ => ⟨S1024x2816, .f32⟩
  | .hbm, ⟨24, _⟩ => ⟨S1024x2816, .bf16⟩
  | .hbm, ⟨25, _⟩ => ⟨S1x2816x1024, .f32⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024x1024, .f32⟩
  | .hbm, ⟨32, _⟩ => ⟨S1024x1024, .f32⟩
  | .hbm, ⟨33, _⟩ => ⟨S1024x1024, .bf16⟩
  | .hbm, ⟨34, _⟩ => ⟨S1x256x1024, .f32⟩
  | .hbm, ⟨35, _⟩ => ⟨S256x1024, .f32⟩
  | .hbm, ⟨36, _⟩ => ⟨S256x1024, .bf16⟩
  | .hbm, ⟨37, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x256, .f32⟩
  | .local _ .vmem, ⟨15, _⟩ => ⟨S1x512x256, .f32⟩
  | .local _ .vmem, ⟨16, _⟩ => ⟨S1152x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1152x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostBRefIdeal.lean ====
abbrev S65536x1024 : Shape := ⟨2, ![65536, 1024]⟩
abbrev S65536x384 : Shape := ⟨2, ![65536, 384]⟩
abbrev S65536x128 : Shape := ⟨2, ![65536, 128]⟩
abbrev S2x65536x256 : Shape := ⟨3, ![2, 65536, 256]⟩
abbrev S1152x1024 : Shape := ⟨2, ![1152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S65536x6 : Shape := ⟨2, ![65536, 6]⟩
abbrev S65536x2x3 : Shape := ⟨3, ![65536, 2, 3]⟩
abbrev S65536x3x2 : Shape := ⟨3, ![65536, 3, 2]⟩
abbrev S1x65536x3x2 : Shape := ⟨4, ![1, 65536, 3, 2]⟩
abbrev S3x65536x3x2 : Shape := ⟨4, ![3, 65536, 3, 2]⟩
abbrev S_ : Shape := ⟨0, ![]⟩
abbrev S65536x3x2x64 : Shape := ⟨4, ![65536, 3, 2, 64]⟩
abbrev S65536x3x2x1 : Shape := ⟨4, ![65536, 3, 2, 1]⟩
abbrev S65536x9x2x64 : Shape := ⟨4, ![65536, 9, 2, 64]⟩
abbrev S65536x1152 : Shape := ⟨2, ![65536, 1152]⟩
abbrev S1x1024 : Shape := ⟨2, ![1, 1024]⟩
abbrev S1024 : Shape := ⟨1, ![1024]⟩
abbrev S65536 : Shape := ⟨1, ![65536]⟩
abbrev S65536x1 : Shape := ⟨2, ![65536, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S65536x2816 : Shape := ⟨2, ![65536, 2816]⟩
abbrev S1x1024x1024 : Shape := ⟨3, ![1, 1024, 1024]⟩
abbrev S1024x1024 : Shape := ⟨2, ![1024, 1024]⟩
abbrev S1x65536x256 : Shape := ⟨3, ![1, 65536, 256]⟩
abbrev S65536x256 : Shape := ⟨2, ![65536, 256]⟩
abbrev S1x256x1024 : Shape := ⟨3, ![1, 256, 1024]⟩
abbrev S256x1024 : Shape := ⟨2, ![256, 1024]⟩

abbrev nBuf : Space → Nat
  | .hbm => 143
  | .vmem => 0
  | .smem => 0
  | _ => 0

abbrev hbmTy0_0 (i : Nat) : BufTy := match i % 128 with
  | 0 => ⟨S65536x1024, .f32⟩
  | 1 => ⟨S65536x384, .bf16⟩
  | 2 => ⟨S65536x384, .bf16⟩
  | 3 => ⟨S65536x384, .bf16⟩
  | 4 => ⟨S65536x128, .f32⟩
  | 5 => ⟨S65536x128, .f32⟩
  | 6 => ⟨S65536x128, .f32⟩
  | 7 => ⟨S2x65536x256, .f32⟩
  | 8 => ⟨S1152x1024, .bf16⟩
  | 9 => ⟨S2x1024, .f32⟩
  | 10 => ⟨S2x1024x2816, .f32⟩
  | 11 => ⟨S2x1024x2816, .f32⟩
  | 12 => ⟨S2x2816x1024, .f32⟩
  | 13 => ⟨S2x1024, .f32⟩
  | 14 => ⟨S2x1024x1024, .f32⟩
  | 15 => ⟨S2x256x1024, .f32⟩
  | 16 => ⟨S65536x6, .f32⟩
  | 17 => ⟨S65536x2x3, .f32⟩
  | 18 => ⟨S65536x3x2, .f32⟩
  | 19 => ⟨S65536x6, .f32⟩
  | 20 => ⟨S65536x2x3, .f32⟩
  | 21 => ⟨S65536x3x2, .f32⟩
  | 22 => ⟨S65536x6, .f32⟩
  | 23 => ⟨S65536x2x3, .f32⟩
  | 24 => ⟨S65536x3x2, .f32⟩
  | 25 => ⟨S1x65536x3x2, .f32⟩
  | 26 => ⟨S1x65536x3x2, .f32⟩
  | 27 => ⟨S1x65536x3x2, .f32⟩
  | 28 => ⟨S3x65536x3x2, .f32⟩
  | 29 => ⟨S_, .f32⟩
  | 30 => ⟨S65536x3x2, .f32⟩
  | 31 => ⟨S_, .f32⟩
  | 32 => ⟨S65536x3x2, .f32⟩
  | 33 => ⟨S65536x3x2, .f32⟩
  | 34 => ⟨S1x65536x3x2, .f32⟩
  | 35 => ⟨S3x65536x3x2, .f32⟩
  | 36 => ⟨S3x65536x3x2, .f32⟩
  | 37 => ⟨S3x65536x3x2, .f32⟩
  | 38 => ⟨S_, .f32⟩
  | 39 => ⟨S65536x3x2, .f32⟩
  | 40 => ⟨S1x65536x3x2, .f32⟩
  | 41 => ⟨S3x65536x3x2, .f32⟩
  | 42 => ⟨S3x65536x3x2, .f32⟩
  | 43 => ⟨S65536x384, .f32⟩
  | 44 => ⟨S65536x3x2x64, .f32⟩
  | 45 => ⟨S65536x384, .f32⟩
  | 46 => ⟨S65536x3x2x64, .f32⟩
  | 47 => ⟨S65536x384, .f32⟩
  | 48 => ⟨S65536x3x2x64, .f32⟩
  | 49 => ⟨S1x65536x3x2, .f32⟩
  | 50 => ⟨S65536x3x2, .f32⟩
  | 51 => ⟨S65536x3x2x1, .f32⟩
  | 52 => ⟨S65536x3x2x64, .f32⟩
  | 53 => ⟨S65536x3x2x64, .f32⟩
  | 54 => ⟨S1x65536x3x2, .f32⟩
  | 55 => ⟨S65536x3x2, .f32⟩
  | 56 => ⟨S65536x3x2x1, .f32⟩
  | 57 => ⟨S65536x3x2x64, .f32⟩
  | 58 => ⟨S65536x3x2x64, .f32⟩
  | 59 => ⟨S1x65536x3x2, .f32⟩
  | 60 => ⟨S65536x3x2, .f32⟩
  | 61 => ⟨S65536x3x2x1, .f32⟩
  | 62 => ⟨S65536x3x2x64, .f32⟩
  | 63 => ⟨S65536x3x2x64, .f32⟩
  | 64 => ⟨S65536x9x2x64, .f32⟩
  | 65 => ⟨S65536x1152, .f32⟩
  | 66 => ⟨S1152x1024, .f32⟩
  | 67 => ⟨S65536x1024, .f32⟩
  | 68 => ⟨S65536x1024, .f32⟩
  | 69 => ⟨S1x1024, .f32⟩
  | 70 => ⟨S1024, .f32⟩
  | 71 => ⟨S65536x1024, .f32⟩
  | 72 => ⟨S_, .f32⟩
  | 73 => ⟨S65536, .f32⟩
  | 74 => ⟨S65536x1, .f32⟩
  | 75 => ⟨S_, .f32⟩
  | 76 => ⟨S65536x1, .f32⟩
  | 77 => ⟨S65536x1, .f32⟩
  | 78 => ⟨S_, .f32⟩
  | 79 => ⟨S65536x1, .f32⟩
  | 80 => ⟨S65536x1, .f32⟩
  | 81 => ⟨S65536x1, .f32⟩
  | 82 => ⟨S65536x1024, .f32⟩
  | 83 => ⟨S65536x1024, .f32⟩
  | 84 => ⟨S1x1024, .f32⟩
  | 85 => ⟨S65536x1024, .f32⟩
  | 86 => ⟨S65536x1024, .f32⟩
  | 87 => ⟨S1x1024x2816, .f32⟩
  | 88 => ⟨S1024x2816, .f32⟩
  | 89 => ⟨S1x1024x2816, .f32⟩
  | 90 => ⟨S1024x2816, .f32⟩
  | 91 => ⟨S1x2816x1024, .f32⟩
  | 92 => ⟨S2816x1024, .f32⟩
  | 93 => ⟨S65536x2816, .f32⟩
  | 94 => ⟨S65536x2816, .f32⟩
  | 95 => ⟨S65536x2816, .f32⟩
  | 96 => ⟨S_, .f32⟩
  | 97 => ⟨S65536x2816, .f32⟩
  | 98 => ⟨S65536x2816, .f32⟩
  | 99 => ⟨S_, .f32⟩
  | 100 => ⟨S65536x2816, .f32⟩
  | 101 => ⟨S65536x2816, .f32⟩
  | 102 => ⟨S65536x2816, .f32⟩
  | 103 => ⟨S65536x2816, .f32⟩
  | 104 => ⟨S65536x2816, .f32⟩
  | 105 => ⟨S65536x1024, .f32⟩
  | 106 => ⟨S65536x1024, .f32⟩
  | 107 => ⟨S1x1024, .f32⟩
  | 108 => ⟨S1024, .f32⟩
  | 109 => ⟨S65536x1024, .f32⟩
  | 110 => ⟨S_, .f32⟩
  | 111 => ⟨S65536, .f32⟩
  | 112 => ⟨S65536x1, .f32⟩
  | 113 => ⟨S_, .f32⟩
  | 114 => ⟨S65536x1, .f32⟩
  | 115 => ⟨S65536x1, .f32⟩
  | 116 => ⟨S_, .f32⟩
  | 117 => ⟨S65536x1, .f32⟩
  | 118 => ⟨S65536x1, .f32⟩
  | 119 => ⟨S65536x1, .f32⟩
  | 120 => ⟨S65536x1024, .f32⟩
  | 121 => ⟨S65536x1024, .f32⟩
  | 122 => ⟨S1x1024, .f32⟩
  | 123 => ⟨S65536x1024, .f32⟩
  | 124 => ⟨S65536x1024, .f32⟩
  | 125 => ⟨S1x1024x1024, .f32⟩
  | 126 => ⟨S1024x1024, .f32⟩
  | 127 => ⟨S65536x1024, .f32⟩
  | _ => ⟨S65536x1024, .f32⟩

abbrev hbmTy0_1 (i : Nat) : BufTy := match i % 128 with
  | 0 => ⟨S65536x1024, .f32⟩
  | 1 => ⟨S65536x1024, .f32⟩
  | 2 => ⟨S_, .f32⟩
  | 3 => ⟨S65536x1024, .f32⟩
  | 4 => ⟨S65536x1024, .f32⟩
  | 5 => ⟨S_, .f32⟩
  | 6 => ⟨S65536x1024, .f32⟩
  | 7 => ⟨S65536x1024, .f32⟩
  | 8 => ⟨S1x65536x256, .f32⟩
  | 9 => ⟨S65536x256, .f32⟩
  | 10 => ⟨S1x256x1024, .f32⟩
  | 11 => ⟨S256x1024, .f32⟩
  | 12 => ⟨S65536x1024, .f32⟩
  | 13 => ⟨S65536x1024, .f32⟩
  | 14 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_cst_4 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_call0_v5 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_5 : Ref sig .tc := ⟨.hbm, 110, rfl⟩
abbrev main_v80 : Ref sig .tc := ⟨.hbm, 111, rfl⟩
abbrev main_v81 : Ref sig .tc := ⟨.hbm, 112, rfl⟩
abbrev main_cst_6 : Ref sig .tc := ⟨.hbm, 113, rfl⟩
abbrev main_v82 : Ref sig .tc := ⟨.hbm, 114, rfl⟩
abbrev main_v83 : Ref sig .tc := ⟨.hbm, 115, rfl⟩
abbrev main_cst_7 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_8 : Ref sig .tc := ⟨.hbm, 130, rfl⟩
abbrev main_v97 : Ref sig .tc := ⟨.hbm, 131, rfl⟩
abbrev main_v98 : Ref sig .tc := ⟨.hbm, 132, rfl⟩
abbrev main_cst_9 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]
-- ==== PostBS.lean ====
abbrev S32768x1024 : Shape := ⟨2, ![32768, 1024]⟩
abbrev S32768x384 : Shape := ⟨2, ![32768, 384]⟩
abbrev S32768x128 : Shape := ⟨2, ![32768, 128]⟩
abbrev S2x32768x256 : Shape := ⟨3, ![2, 32768, 256]⟩
abbrev S1152x1024 : Shape := ⟨2, ![1152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S512x384 : Shape := ⟨2, ![512, 384]⟩
abbrev S512x128 : Shape := ⟨2, ![512, 128]⟩
abbrev S1x512x256 : Shape := ⟨3, ![1, 512, 256]⟩
abbrev S512x1 : Shape := ⟨2, ![512, 1]⟩
abbrev S512x1152 : Shape := ⟨2, ![512, 1152]⟩
abbrev S512 : Shape := ⟨1, ![512]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 38
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x384, .bf16⟩
  | .hbm, ⟨3, _⟩ => ⟨S32768x384, .bf16⟩
  | .hbm, ⟨4, _⟩ => ⟨S32768x128, .f32⟩
  | .hbm, ⟨5, _⟩ => ⟨S32768x128, .f32⟩
  | .hbm, ⟨6, _⟩ => ⟨S32768x128, .f32⟩
  | .hbm, ⟨7, _⟩ => ⟨S2x32768x256, .f32⟩
  | .hbm, ⟨8, _⟩ => ⟨S1152x1024, .bf16⟩
  | .hbm, ⟨9, _⟩ => ⟨S2x1024, .f32⟩
  | .hbm, ⟨10, _⟩ => ⟨S2x1024x2816, .f32⟩
  | .hbm, ⟨11, _⟩ => ⟨S2x1024x2816, .f32⟩
  | .hbm, ⟨12, _⟩ => ⟨S2x2816x1024, .f32⟩
  | .hbm, ⟨13, _⟩ => ⟨S2x1024, .f32⟩
  | .hbm, ⟨14, _⟩ => ⟨S2x1024x1024, .f32⟩
  | .hbm, ⟨15, _⟩ => ⟨S2x256x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x2816, .f32⟩
  | .hbm, ⟨20, _⟩ => ⟨S1024x2816, .f32⟩
  | .hbm, ⟨21, _⟩ => ⟨S1024x2816, .bf16⟩
  | .hbm, ⟨22, _⟩ => ⟨S1x1024x2816, .f32⟩
  | .hbm, ⟨23, _⟩ => ⟨S1024x2816, .f32⟩
  | .hbm, ⟨24, _⟩ => ⟨S1024x2816, .bf16⟩
  | .hbm, ⟨25, _⟩ => ⟨S1x2816x1024, .f32⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024x1024, .f32⟩
  | .hbm, ⟨32, _⟩ => ⟨S1024x1024, .f32⟩
  | .hbm, ⟨33, _⟩ => ⟨S1024x1024, .bf16⟩
  | .hbm, ⟨34, _⟩ => ⟨S1x256x1024, .f32⟩
  | .hbm, ⟨35, _⟩ => ⟨S256x1024, .f32⟩
  | .hbm, ⟨36, _⟩ => ⟨S256x1024, .bf16⟩
  | .hbm, ⟨37, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x256, .f32⟩
  | .local _ .vmem, ⟨15, _⟩ => ⟨S1x512x256, .f32⟩
  | .local _ .vmem, ⟨16, _⟩ => ⟨S1152x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1152x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostBSRefIdeal.lean ====
abbrev S32768x1024 : Shape := ⟨2, ![32768, 1024]⟩
abbrev S32768x384 : Shape := ⟨2, ![32768, 384]⟩
abbrev S32768x128 : Shape := ⟨2, ![32768, 128]⟩
abbrev S2x32768x256 : Shape := ⟨3, ![2, 32768, 256]⟩
abbrev S1152x1024 : Shape := ⟨2, ![1152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S32768x6 : Shape := ⟨2, ![32768, 6]⟩
abbrev S32768x2x3 : Shape := ⟨3, ![32768, 2, 3]⟩
abbrev S32768x3x2 : Shape := ⟨3, ![32768, 3, 2]⟩
abbrev S1x32768x3x2 : Shape := ⟨4, ![1, 32768, 3, 2]⟩
abbrev S3x32768x3x2 : Shape := ⟨4, ![3, 32768, 3, 2]⟩
abbrev S_ : Shape := ⟨0, ![]⟩
abbrev S32768x3x2x64 : Shape := ⟨4, ![32768, 3, 2, 64]⟩
abbrev S32768x3x2x1 : Shape := ⟨4, ![32768, 3, 2, 1]⟩
abbrev S32768x9x2x64 : Shape := ⟨4, ![32768, 9, 2, 64]⟩
abbrev S32768x1152 : Shape := ⟨2, ![32768, 1152]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩
abbrev S1x1024x1024 : Shape := ⟨3, ![1, 1024, 1024]⟩
abbrev S1024x1024 : Shape := ⟨2, ![1024, 1024]⟩
abbrev S1x32768x256 : Shape := ⟨3, ![1, 32768, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 143
  | .vmem => 0
  | .smem => 0
  | _ => 0

abbrev hbmTy0_0 (i : Nat) : BufTy := match i % 128 with
  | 0 => ⟨S32768x1024, .f32⟩
  | 1 => ⟨S32768x384, .bf16⟩
  | 2 => ⟨S32768x384, .bf16⟩
  | 3 => ⟨S32768x384, .bf16⟩
  | 4 => ⟨S32768x128, .f32⟩
  | 5 => ⟨S32768x128, .f32⟩
  | 6 => ⟨S32768x128, .f32⟩
  | 7 => ⟨S2x32768x256, .f32⟩
  | 8 => ⟨S1152x1024, .bf16⟩
  | 9 => ⟨S2x1024, .f32⟩
  | 10 => ⟨S2x1024x2816, .f32⟩
  | 11 => ⟨S2x1024x2816, .f32⟩
  | 12 => ⟨S2x2816x1024, .f32⟩
  | 13 => ⟨S2x1024, .f32⟩
  | 14 => ⟨S2x1024x1024, .f32⟩
  | 15 => ⟨S2x256x1024, .f32⟩
  | 16 => ⟨S32768x6, .f32⟩
  | 17 => ⟨S32768x2x3, .f32⟩
  | 18 => ⟨S32768x3x2, .f32⟩
  | 19 => ⟨S32768x6, .f32⟩
  | 20 => ⟨S32768x2x3, .f32⟩
  | 21 => ⟨S32768x3x2, .f32⟩
  | 22 => ⟨S32768x6, .f32⟩
  | 23 => ⟨S32768x2x3, .f32⟩
  | 24 => ⟨S32768x3x2, .f32⟩
  | 25 => ⟨S1x32768x3x2, .f32⟩
  | 26 => ⟨S1x32768x3x2, .f32⟩
  | 27 => ⟨S1x32768x3x2, .f32⟩
  | 28 => ⟨S3x32768x3x2, .f32⟩
  | 29 => ⟨S_, .f32⟩
  | 30 => ⟨S32768x3x2, .f32⟩
  | 31 => ⟨S_, .f32⟩
  | 32 => ⟨S32768x3x2, .f32⟩
  | 33 => ⟨S32768x3x2, .f32⟩
  | 34 => ⟨S1x32768x3x2, .f32⟩
  | 35 => ⟨S3x32768x3x2, .f32⟩
  | 36 => ⟨S3x32768x3x2, .f32⟩
  | 37 => ⟨S3x32768x3x2, .f32⟩
  | 38 => ⟨S_, .f32⟩
  | 39 => ⟨S32768x3x2, .f32⟩
  | 40 => ⟨S1x32768x3x2, .f32⟩
  | 41 => ⟨S3x32768x3x2, .f32⟩
  | 42 => ⟨S3x32768x3x2, .f32⟩
  | 43 => ⟨S32768x384, .f32⟩
  | 44 => ⟨S32768x3x2x64, .f32⟩
  | 45 => ⟨S32768x384, .f32⟩
  | 46 => ⟨S32768x3x2x64, .f32⟩
  | 47 => ⟨S32768x384, .f32⟩
  | 48 => ⟨S32768x3x2x64, .f32⟩
  | 49 => ⟨S1x32768x3x2, .f32⟩
  | 50 => ⟨S32768x3x2, .f32⟩
  | 51 => ⟨S32768x3x2x1, .f32⟩
  | 52 => ⟨S32768x3x2x64, .f32⟩
  | 53 => ⟨S32768x3x2x64, .f32⟩
  | 54 => ⟨S1x32768x3x2, .f32⟩
  | 55 => ⟨S32768x3x2, .f32⟩
  | 56 => ⟨S32768x3x2x1, .f32⟩
  | 57 => ⟨S32768x3x2x64, .f32⟩
  | 58 => ⟨S32768x3x2x64, .f32⟩
  | 59 => ⟨S1x32768x3x2, .f32⟩
  | 60 => ⟨S32768x3x2, .f32⟩
  | 61 => ⟨S32768x3x2x1, .f32⟩
  | 62 => ⟨S32768x3x2x64, .f32⟩
  | 63 => ⟨S32768x3x2x64, .f32⟩
  | 64 => ⟨S32768x9x2x64, .f32⟩
  | 65 => ⟨S32768x1152, .f32⟩
  | 66 => ⟨S1152x1024, .f32⟩
  | 67 => ⟨S32768x1024, .f32⟩
  | 68 => ⟨S32768x1024, .f32⟩
  | 69 => ⟨S1x1024, .f32⟩
  | 70 => ⟨S1024, .f32⟩
  | 71 => ⟨S32768x1024, .f32⟩
  | 72 => ⟨S_, .f32⟩
  | 73 => ⟨S32768, .f32⟩
  | 74 => ⟨S32768x1, .f32⟩
  | 75 => ⟨S_, .f32⟩
  | 76 => ⟨S32768x1, .f32⟩
  | 77 => ⟨S32768x1, .f32⟩
  | 78 => ⟨S_, .f32⟩
  | 79 => ⟨S32768x1, .f32⟩
  | 80 => ⟨S32768x1, .f32⟩
  | 81 => ⟨S32768x1, .f32⟩
  | 82 => ⟨S32768x1024, .f32⟩
  | 83 => ⟨S32768x1024, .f32⟩
  | 84 => ⟨S1x1024, .f32⟩
  | 85 => ⟨S32768x1024, .f32⟩
  | 86 => ⟨S32768x1024, .f32⟩
  | 87 => ⟨S1x1024x2816, .f32⟩
  | 88 => ⟨S1024x2816, .f32⟩
  | 89 => ⟨S1x1024x2816, .f32⟩
  | 90 => ⟨S1024x2816, .f32⟩
  | 91 => ⟨S1x2816x1024, .f32⟩
  | 92 => ⟨S2816x1024, .f32⟩
  | 93 => ⟨S32768x2816, .f32⟩
  | 94 => ⟨S32768x2816, .f32⟩
  | 95 => ⟨S32768x2816, .f32⟩
  | 96 => ⟨S_, .f32⟩
  | 97 => ⟨S32768x2816, .f32⟩
  | 98 => ⟨S32768x2816, .f32⟩
  | 99 => ⟨S_, .f32⟩
  | 100 => ⟨S32768x2816, .f32⟩
  | 101 => ⟨S32768x2816, .f32⟩
  | 102 => ⟨S32768x2816, .f32⟩
  | 103 => ⟨S32768x2816, .f32⟩
  | 104 => ⟨S32768x2816, .f32⟩
  | 105 => ⟨S32768x1024, .f32⟩
  | 106 => ⟨S32768x1024, .f32⟩
  | 107 => ⟨S1x1024, .f32⟩
  | 108 => ⟨S1024, .f32⟩
  | 109 => ⟨S32768x1024, .f32⟩
  | 110 => ⟨S_, .f32⟩
  | 111 => ⟨S32768, .f32⟩
  | 112 => ⟨S32768x1, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x1, .f32⟩
  | 120 => ⟨S32768x1024, .f32⟩
  | 121 => ⟨S32768x1024, .f32⟩
  | 122 => ⟨S1x1024, .f32⟩
  | 123 => ⟨S32768x1024, .f32⟩
  | 124 => ⟨S32768x1024, .f32⟩
  | 125 => ⟨S1x1024x1024, .f32⟩
  | 126 => ⟨S1024x1024, .f32⟩
  | 127 => ⟨S32768x1024, .f32⟩
  | _ => ⟨S32768x1024, .f32⟩

abbrev hbmTy0_1 (i : Nat) : BufTy := match i % 128 with
  | 0 => ⟨S32768x1024, .f32⟩
  | 1 => ⟨S32768x1024, .f32⟩
  | 2 => ⟨S_, .f32⟩
  | 3 => ⟨S32768x1024, .f32⟩
  | 4 => ⟨S32768x1024, .f32⟩
  | 5 => ⟨S_, .f32⟩
  | 6 => ⟨S32768x1024, .f32⟩
  | 7 => ⟨S32768x1024, .f32⟩
  | 8 => ⟨S1x32768x256, .f32⟩
  | 9 => ⟨S32768x256, .f32⟩
  | 10 => ⟨S1x256x1024, .f32⟩
  | 11 => ⟨S256x1024, .f32⟩
  | 12 => ⟨S32768x1024, .f32⟩
  | 13 => ⟨S32768x1024, .f32⟩
  | 14 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_cst_4 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_call0_v5 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_5 : Ref sig .tc := ⟨.hbm, 110, rfl⟩
abbrev main_v80 : Ref sig .tc := ⟨.hbm, 111, rfl⟩
abbrev main_v81 : Ref sig .tc := ⟨.hbm, 112, rfl⟩
abbrev main_cst_6 : Ref sig .tc := ⟨.hbm, 113, rfl⟩
abbrev main_v82 : Ref sig .tc := ⟨.hbm, 114, rfl⟩
abbrev main_v83 : Ref sig .tc := ⟨.hbm, 115, rfl⟩
abbrev main_cst_7 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_8 : Ref sig .tc := ⟨.hbm, 130, rfl⟩
abbrev main_v97 : Ref sig .tc := ⟨.hbm, 131, rfl⟩
abbrev main_v98 : Ref sig .tc := ⟨.hbm, 132, rfl⟩
abbrev main_cst_9 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]
-- ==== QkvA.lean ====
abbrev S65536x1024 : Shape := ⟨2, ![65536, 1024]⟩
abbrev S2x1024 : Shape := ⟨2, ![2, 1024]⟩
abbrev S1024x1536 : Shape := ⟨2, ![1024, 1536]⟩
abbrev S64 : Shape := ⟨1, ![64]⟩
abbrev S256x256 : Shape := ⟨2, ![256, 256]⟩
abbrev S_ : Shape := ⟨0, ![]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S65536x256 : Shape := ⟨2, ![65536, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩

abbrev nBuf : Space → Nat
  | .hbm => 23
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1024x1536, .bf16⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S1x1024, .f32⟩
  | .hbm, ⟨13, _⟩ => ⟨S1x64, .f32⟩
  | .hbm, ⟨14, _⟩ => ⟨S4x64, .f32⟩
  | .hbm, ⟨15, _⟩ => ⟨S256, .f32⟩
  | .hbm, ⟨16, _⟩ => ⟨S1x256, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S65536x1024, .bf16⟩
  | .hbm, ⟨21, _⟩ => ⟨S65536x256, .bf16⟩
  | .hbm, ⟨22, _⟩ => ⟨S65536x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1x1024, .f32⟩
  | .local _ .vmem, ⟨5, _⟩ => ⟨S1x256, .f32⟩
  | .local _ .vmem, ⟨6, _⟩ => ⟨S256x256, .bf16⟩
  | .local _ .vmem, ⟨7, _⟩ => ⟨S512x1024, .bf16⟩
  | .local _ .vmem, ⟨8, _⟩ => ⟨S512x1024, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvAIdeal.lean ====
abbrev S65536x1024 : Shape := ⟨2, ![65536, 1024]⟩
abbrev S2x1024 : Shape := ⟨2, ![2, 1024]⟩
abbrev S1024x1536 : Shape := ⟨2, ![1024, 1536]⟩
abbrev S64 : Shape := ⟨1, ![64]⟩
abbrev S256x256 : Shape := ⟨2, ![256, 256]⟩
abbrev S_ : Shape := ⟨0, ![]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S65536x256 : Shape := ⟨2, ![65536, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩

abbrev nBuf : Space → Nat
  | .hbm => 23
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1024x1536, .bf16⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S1x1024, .f32⟩
  | .hbm, ⟨13, _⟩ => ⟨S1x64, .f32⟩
  | .hbm, ⟨14, _⟩ => ⟨S4x64, .f32⟩
  | .hbm, ⟨15, _⟩ => ⟨S256, .f32⟩
  | .hbm, ⟨16, _⟩ => ⟨S1x256, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S65536x1024, .bf16⟩
  | .hbm, ⟨21, _⟩ => ⟨S65536x256, .bf16⟩
  | .hbm, ⟨22, _⟩ => ⟨S65536x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1x1024, .f32⟩
  | .local _ .vmem, ⟨5, _⟩ => ⟨S1x256, .f32⟩
  | .local _ .vmem, ⟨6, _⟩ => ⟨S256x256, .bf16⟩
  | .local _ .vmem, ⟨7, _⟩ => ⟨S512x1024, .bf16⟩
  | .local _ .vmem, ⟨8, _⟩ => ⟨S512x1024, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvARefIdeal.lean ====
abbrev S65536x1024 : Shape := ⟨2, ![65536, 1024]⟩
abbrev S2x1024 : Shape := ⟨2, ![2, 1024]⟩
abbrev S1024x1536 : Shape := ⟨2, ![1024, 1536]⟩
abbrev S64 : Shape := ⟨1, ![64]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x1536 : Shape := ⟨2, ![65536, 1536]⟩
abbrev S65536x16x64 : Shape := ⟨3, ![65536, 16, 64]⟩
abbrev S65536x256 : Shape := ⟨2, ![65536, 256]⟩
abbrev S65536x4x64 : Shape := ⟨3, ![65536, 4, 64]⟩
abbrev S65536x16 : Shape := ⟨2, ![65536, 16]⟩
abbrev S65536x16x1 : Shape := ⟨3, ![65536, 16, 1]⟩
abbrev S1x1x64 : Shape := ⟨3, ![1, 1, 64]⟩
abbrev S65536x4 : Shape := ⟨2, ![65536, 4]⟩
abbrev S65536x4x1 : Shape := ⟨3, ![65536, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1024x1536, .bf16⟩
  | .hbm, ⟨3, _⟩ => ⟨S64, .f32⟩
  | .hbm, ⟨4, _⟩ => ⟨S64, .f32⟩
  | .hbm, ⟨5, _⟩ => ⟨S1x1024, .f32⟩
  | .hbm, ⟨6, _⟩ => ⟨S1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1024x1536, .f32⟩
  | .hbm, ⟨24, _⟩ => ⟨S65536x1536, .f32⟩
  | .hbm, ⟨25, _⟩ => ⟨S65536x1024, .f32⟩
  | .hbm, ⟨26, _⟩ => ⟨S65536x16x64, .f32⟩
  | .hbm, ⟨27, _⟩ => ⟨S65536x256, .f32⟩
  | .hbm, ⟨28, _⟩ => ⟨S65536x4x64, .f32⟩
  | .hbm, ⟨29, _⟩ => ⟨S65536x256, .f32⟩
  | .hbm, ⟨30, _⟩ => ⟨S65536x16x64, .f32⟩
  | .hbm, ⟨31, _⟩ => ⟨S_, .f32⟩
  | .hbm, ⟨32, _⟩ => ⟨S65536x16, .f32⟩
  | .hbm, ⟨33, _⟩ => ⟨S65536x16x1, .f32⟩
  | .hbm, ⟨34, _⟩ => ⟨S_, .f32⟩
  | .hbm, ⟨35, _⟩ => ⟨S65536x16x1, .f32⟩
  | .hbm, ⟨36, _⟩ => ⟨S65536x16x1, .f32⟩
  | .hbm, ⟨37, _⟩ => ⟨S_, .f32⟩
  | .hbm, ⟨38, _⟩ => ⟨S65536x16x1, .f32⟩
  | .hbm, ⟨39, _⟩ => ⟨S65536x16x1, .f32⟩
  | .hbm, ⟨40, _⟩ => ⟨S65536x16x1, .f32⟩
  | .hbm, ⟨41, _⟩ => ⟨S65536x16x64, .f32⟩
  | .hbm, ⟨42, _⟩ => ⟨S65536x16x64, .f32⟩
  | .hbm, ⟨43, _⟩ => ⟨S1x1x64, .f32⟩
  | .hbm, ⟨44, _⟩ => ⟨S65536x16x64, .f32⟩
  | .hbm, ⟨45, _⟩ => ⟨S65536x16x64, .f32⟩
  | .hbm, ⟨46, _⟩ => ⟨S_, .f32⟩
  | .hbm, ⟨47, _⟩ => ⟨S65536x16x64, .f32⟩
  | .hbm, ⟨48, _⟩ => ⟨S65536x16x64, .f32⟩
  | .hbm, ⟨49, _⟩ => ⟨S65536x4x64, .f32⟩
  | .hbm, ⟨50, _⟩ => ⟨S_, .f32⟩
  | .hbm, ⟨51, _⟩ => ⟨S65536x4, .f32⟩
  | .hbm, ⟨52, _⟩ => ⟨S65536x4x1, .f32⟩
  | .hbm, ⟨53, _⟩ => ⟨S_, .f32⟩
  | .hbm, ⟨54, _⟩ => ⟨S65536x4x1, .f32⟩
  | .hbm, ⟨55, _⟩ => ⟨S65536x4x1, .f32⟩
  | .hbm, ⟨56, _⟩ => ⟨S_, .f32⟩
  | .hbm, ⟨57, _⟩ => ⟨S65536x4x1, .f32⟩
  | .hbm, ⟨58, _⟩ => ⟨S65536x4x1, .f32⟩
  | .hbm, ⟨59, _⟩ => ⟨S65536x4x1, .f32⟩
  | .hbm, ⟨60, _⟩ => ⟨S65536x4x64, .f32⟩
  | .hbm, ⟨61, _⟩ => ⟨S65536x4x64, .f32⟩
  | .hbm, ⟨62, _⟩ => ⟨S1x1x64, .f32⟩
  | .hbm, ⟨63, _⟩ => ⟨S65536x4x64, .f32⟩
  | .hbm, ⟨64, _⟩ => ⟨S65536x4x64, .f32⟩
  | .hbm, ⟨65, _⟩ => ⟨S65536x1024, .f32⟩
  | .hbm, ⟨66, _⟩ => ⟨S65536x1024, .bf16⟩
  | .hbm, ⟨67, _⟩ => ⟨S65536x256, .f32⟩
  | .hbm, ⟨68, _⟩ => ⟨S65536x256, .bf16⟩
  | .hbm, ⟨69, _⟩ => ⟨S65536x256, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== QkvB.lean ====
abbrev S65536x1024 : Shape := ⟨2, ![65536, 1024]⟩
abbrev S2x1024 : Shape := ⟨2, ![2, 1024]⟩
abbrev S1024x1920 : Shape := ⟨2, ![1024, 1920]⟩
abbrev S64 : Shape := ⟨1, ![64]⟩
abbrev S256x256 : Shape := ⟨2, ![256, 256]⟩
abbrev S_ : Shape := ⟨0, ![]⟩
abbrev S1x64 : Shape := ⟨2, ![1, 64]⟩
abbrev S18x64 : Shape := ⟨2, ![18, 64]⟩
abbrev S1152 : Shape := ⟨1, ![1152]⟩
abbrev S1x1152 : Shape := ⟨2, ![1, 1152]⟩
abbrev S6x64 : Shape := ⟨2, ![6, 64]⟩
abbrev S384 : Shape := ⟨1, ![384]⟩
abbrev S1x384 : Shape := ⟨2, ![1, 384]⟩
abbrev S1x1024 : Shape := ⟨2, ![1, 1024]⟩
abbrev S1024 : Shape := ⟨1, ![1024]⟩
abbrev S65536x1152 : Shape := ⟨2, ![65536, 1152]⟩
abbrev S65536x384 : Shape := ⟨2, ![65536, 384]⟩
abbrev S512x1024 : Shape := ⟨2, ![512, 1024]⟩
abbrev S512x1152 : Shape := ⟨2, ![512, 1152]⟩
abbrev S512x384 : Shape := ⟨2, ![512, 384]⟩
abbrev S512 : Shape := ⟨1, ![512]⟩
abbrev S512x1 : Shape := ⟨2, ![512, 1]⟩
abbrev S512x1920 : Shape := ⟨2, ![512, 1920]⟩
abbrev S512x256 : Shape := ⟨2, ![512, 256]⟩
abbrev S512x128 : Shape := ⟨2, ![512, 128]⟩
abbrev S128x128 : Shape := ⟨2, ![128, 128]⟩

abbrev nBuf : Space → Nat
  | .hbm => 23
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1024x1920, .bf16⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S18x64, .f32⟩
  | .hbm, ⟨11, _⟩ => ⟨S1152, .f32⟩
  | .hbm, ⟨12, _⟩ => ⟨S1x1152, .f32⟩
  | .hbm, ⟨13, _⟩ => ⟨S1x64, .f32⟩
  | .hbm, ⟨14, _⟩ => ⟨S6x64, .f32⟩
  | .hbm, ⟨15, _⟩ => ⟨S384, .f32⟩
  | .hbm, ⟨16, _⟩ => ⟨S1x384, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S65536x1152, .bf16⟩
  | .hbm, ⟨21, _⟩ => ⟨S65536x384, .bf16⟩
  | .hbm, ⟨22, _⟩ => ⟨S65536x384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S1x1152, .f32⟩
  | .local _ .vmem, ⟨5, _⟩ => ⟨S1x384, .f32⟩
  | .local _ .vmem, ⟨6, _⟩ => ⟨S256x256, .bf16⟩
  | .local _ .vmem, ⟨7, _⟩ => ⟨S512x1152, .bf16⟩
  | .local _ .vmem, ⟨8, _⟩ => ⟨S512x1152, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvBRefIdeal.lean ====
abbrev S65536x1024 : Shape := ⟨2, ![65536, 1024]⟩
abbrev S2x1024 : Shape := ⟨2, ![2, 1024]⟩
abbrev S1024x1920 : Shape := ⟨2, ![1024, 1920]⟩
abbrev S64 : Shape := ⟨1, ![64]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x1920 : Shape := ⟨2, ![65536, 1920]⟩
abbrev S65536x1152 : Shape := ⟨2, ![65536, 1152]⟩
abbrev S65536x18x64 : Shape := ⟨3, ![65536, 18, 64]⟩
abbrev S65536x384 : Shape := ⟨2, ![65536, 384]⟩
abbrev S65536x6x64 : Shape := ⟨3, ![65536, 6, 64]⟩
abbrev S65536x18 : Shape := ⟨2, ![65536, 18]⟩
abbrev S65536x18x1 : Shape := ⟨3, ![65536, 18, 1]⟩
abbrev S1x1x64 : Shape := ⟨3, ![1, 1, 64]⟩
abbrev S65536x6 : Shape := ⟨2, ![65536, 6]⟩
abbrev S65536x6x1 : Shape := ⟨3, ![65536, 6, 1]⟩

abbrev nBuf : Space → Nat
  | .hbm => 70
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1024x1920, .bf16⟩
  | .hbm, ⟨3, _⟩ => ⟨S64, .f32⟩
  | .hbm, ⟨4, _⟩ => ⟨S64, .f32⟩
  | .hbm, ⟨5, _⟩ => ⟨S1x1024, .f32⟩
  | .hbm, ⟨6, _⟩ => ⟨S1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1024x1920, .f32⟩
  | .hbm, ⟨24, _⟩ => ⟨S65536x1920, .f32⟩
  | .hbm, ⟨25, _⟩ => ⟨S65536x1152, .f32⟩
  | .hbm, ⟨26, _⟩ => ⟨S65536x18x64, .f32⟩
  | .hbm, ⟨27, _⟩ => ⟨S65536x384, .f32⟩
  | .hbm, ⟨28, _⟩ => ⟨S65536x6x64, .f32⟩
  | .hbm, ⟨29, _⟩ => ⟨S65536x384, .f32⟩
  | .hbm, ⟨30, _⟩ => ⟨S65536x18x64, .f32⟩
  | .hbm, ⟨31, _⟩ => ⟨S_, .f32⟩
  | .hbm, ⟨32, _⟩ => ⟨S65536x18, .f32⟩
  | .hbm, ⟨33, _⟩ => ⟨S65536x18x1, .f32⟩
  | .hbm, ⟨34, _⟩ => ⟨S_, .f32⟩
  | .hbm, ⟨35, _⟩ => ⟨S65536x18x1, .f32⟩
  | .hbm, ⟨36, _⟩ => ⟨S65536x18x1, .f32⟩
  | .hbm, ⟨37, _⟩ => ⟨S_, .f32⟩
  | .hbm, ⟨38, _⟩ => ⟨S65536x18x1, .f32⟩
  | .hbm, ⟨39, _⟩ => ⟨S65536x18x1, .f32⟩
  | .hbm, ⟨40, _⟩ => ⟨S65536x18x1, .f32⟩
  | .hbm, ⟨41, _⟩ => ⟨S65536x18x64, .f32⟩
  | .hbm, ⟨42, _⟩ => ⟨S65536x18x64, .f32⟩
  | .hbm, ⟨43, _⟩ => ⟨S1x1x64, .f32⟩
  | .hbm, ⟨44, _⟩ => ⟨S65536x18x64, .f32⟩
  | .hbm, ⟨45, _⟩ => ⟨S65536x18x64, .f32⟩
  | .hbm, ⟨46, _⟩ => ⟨S_, .f32⟩
  | .hbm, ⟨47, _⟩ => ⟨S65536x18x64, .f32⟩
  | .hbm, ⟨48, _⟩ => ⟨S65536x18x64, .f32⟩
  | .hbm, ⟨49, _⟩ => ⟨S65536x6x64, .f32⟩
  | .hbm, ⟨50, _⟩ => ⟨S_, .f32⟩
  | .hbm, ⟨51, _⟩ => ⟨S65536x6, .f32⟩
  | .hbm, ⟨52, _⟩ => ⟨S65536x6x1, .f32⟩
  | .hbm, ⟨53, _⟩ => ⟨S_, .f32⟩
  | .hbm, ⟨54, _⟩ => ⟨S65536x6x1, .f32⟩
  | .hbm, ⟨55, _⟩ => ⟨S65536x6x1, .f32⟩
  | .hbm, ⟨56, _⟩ => ⟨S_, .f32⟩
  | .hbm, ⟨57, _⟩ => ⟨S65536x6x1, .f32⟩
  | .hbm, ⟨58, _⟩ => ⟨S65536x6x1, .f32⟩
  | .hbm, ⟨59, _⟩ => ⟨S65536x6x1, .f32⟩
  | .hbm, ⟨60, _⟩ => ⟨S65536x6x64, .f32⟩
  | .hbm, ⟨61, _⟩ => ⟨S65536x6x64, .f32⟩
  | .hbm, ⟨62, _⟩ => ⟨S1x1x64, .f32⟩
  | .hbm, ⟨63, _⟩ => ⟨S65536x6x64, .f32⟩
  | .hbm, ⟨64, _⟩ => ⟨S65536x6x64, .f32⟩
  | .hbm, ⟨65, _⟩ => ⟨S65536x1152, .f32⟩
  | .hbm, ⟨66, _⟩ => ⟨S65536x1152, .bf16⟩
  | .hbm, ⟨67, _⟩ => ⟨S65536x384, .f32⟩
  | .hbm, ⟨68, _⟩ => ⟨S65536x384, .bf16⟩
  | .hbm, ⟨69, _⟩ => ⟨S65536x384, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Proof.PostRow.lean ====
module

public import Idealize.ShloMosaic.Lib.Pointwise

@[expose] public section

set_option maxRecDepth 16384

noncomputable section

open Idealize.ShloMosaic

/-! What the layer does to one token after its attention, over extended reals: residual, norm,
    feed-forward, norm, gate. Both programs of each claim are read at an element as these. -/

namespace Cert.Layer

/-- The root-mean-square norm of a row, times a gain. -/
def rms (h g : Fin 1024 → EReal) (j : Fin 1024) : EReal :=
  h j * Ideal.rsqrt (Ideal.div (∑ k, h k * h k) (Ideal.ofBits .f32 0x44800000#32) + Ideal.ofBits .f32 0x358637BD#32) * g j

/-- One hidden unit of the feed-forward: the gated product of the two projections of a row. -/
def hid (n wg wu : Fin 1024 → EReal) : EReal :=
  (∑ a, n a * wg a) * Ideal.logistic (∑ a, n a * wg a) * ∑ a, n a * wu a

/-- The feed-forward's output at one channel. -/
def ffn (n : Fin 1024 → EReal) (wg wu : Fin 1024 → Fin 2816 → EReal) (wd : Fin 2816 → EReal) : EReal :=
  ∑ k : Fin 2816, hid n (fun a => wg a k) (fun a => wu a k) * wd k

/-- A stretch of hidden units, as many as a tile holds, starting at an offset. -/
def part (B o : ℕ) (ho : o + B ≤ 2816) (n : Fin 1024 → EReal) (wg wu : Fin 1024 → Fin 2816 → EReal) (wd : Fin 2816 → EReal) : EReal :=
  ∑ k : Fin B, hid n (fun a => wg a ⟨o + k.val, by omega⟩) (fun a => wu a ⟨o + k.val, by omega⟩) * wd ⟨o + k.val, by omega⟩

/-- The row after its feed-forward. -/
def mid (h g1 : Fin 1024 → EReal) (wg wu : Fin 1024 → Fin 2816 → EReal) (wd : Fin 2816 → Fin 1024 → EReal) (j : Fin 1024) : EReal :=
  h j + ffn (rms h g1) wg wu (fun k => wd k j)

/-- The gated per-layer embedding added to a row. -/
def gate (y g2 : Fin 1024 → EReal) (pg : Fin 1024 → Fin 1024 → EReal) (p : Fin 256 → EReal) (pp : Fin 256 → Fin 1024 → EReal) (j : Fin 1024) : EReal :=
  y j + Ideal.logistic (∑ k, rms y g2 k * pg k j) * ∑ k, p k * pp k j

/-- A sum over a stretch, then the next: one longer stretch. -/
theorem sum_split (A B : ℕ) (f : Fin (A + B) → EReal) :
    ∑ k, f k = (∑ k : Fin A, f ⟨k.val, by omega⟩) + ∑ k : Fin B, f ⟨A + k.val, by omega⟩ := by
  rw [Fin.sum_univ_add]; rfl

/-- The feed-forward taken a stretch of hidden units at a time. -/
theorem ffn_parts (n : Fin 1024 → EReal) (wg wu : Fin 1024 → Fin 2816 → EReal) (wd : Fin 2816 → EReal) :
    ffn n wg wu wd = part 512 0 (by omega) n wg wu wd + part 512 512 (by omega) n wg wu wd + part 512 1024 (by omega) n wg wu wd
      + part 512 1536 (by omega) n wg wu wd + part 512 2048 (by omega) n wg wu wd + part 256 2560 (by omega) n wg wu wd := by
  unfold ffn part
  generalize hf : (fun k : Fin 2816 => hid n (fun a => wg a k) (fun a => wu a k) * wd k) = f
  have e : ∀ k, hid n (fun a => wg a k) (fun a => wu a k) * wd k = f k := fun k => congrFun hf k
  simp only [e]
  have h1 := sum_split 2560 256 f
  have h2 := sum_split 2048 512 (fun k => f ⟨k.val, by omega⟩)
  have h3 := sum_split 1536 512 (fun k => f ⟨k.val, by omega⟩)
  have h4 := sum_split 1024 512 (fun k => f ⟨k.val, by omega⟩)
  have h5 := sum_split 512 512 (fun k => f ⟨k.val, by omega⟩)
  rw [h1, h2, h3, h4, h5]
  simp only [Nat.zero_add]

/-- Two rows' results agree where what they are computed from agrees. -/
theorem row_congr {h h' g1 g1' : Fin 1024 → EReal} {wg wg' wu wu' : Fin 1024 → Fin 2816 → EReal} {wd wd' : Fin 2816 → Fin 1024 → EReal}
    {g2 g2' : Fin 1024 → EReal} {pg pg' : Fin 1024 → Fin 1024 → EReal} {p p' : Fin 256 → EReal} {pp pp' : Fin 256 → Fin 1024 → EReal} (j : Fin 1024)
    (eh : ∀ j, h j = h' j) (e1 : ∀ j, g1 j = g1' j) (eg : ∀ a k, wg a k = wg' a k) (eu : ∀ a k, wu a k = wu' a k) (ed : ∀ k j, wd k j = wd' k j)
    (e2 : ∀ j, g2 j = g2' j) (eq : ∀ a b, pg a b = pg' a b) (ep : ∀ k, p k = p' k) (epp : ∀ k j, pp k j = pp' k j) :
    gate (mid h g1 wg wu wd) g2 pg p pp j = gate (mid h' g1' wg' wu' wd') g2' pg' p' pp' j := by
  obtain rfl : h = h' := funext eh
  obtain rfl : g1 = g1' := funext e1
  obtain rfl : wg = wg' := funext fun a => funext (eg a)
  obtain rfl : wu = wu' := funext fun a => funext (eu a)
  obtain rfl : wd = wd' := funext fun a => funext (ed a)
  obtain rfl : g2 = g2' := funext e2
  obtain rfl : pg = pg' := funext fun a => funext (eq a)
  obtain rfl : p = p' := funext ep
  obtain rfl : pp = pp' := funext fun a => funext (epp a)
  rfl

end Cert.Layer
-- ==== Proof.PostAPure.lean ====
module

public import proofs.«01_k».proof.Proof.Gen.PostAIdeal.Skeleton
public import proofs.«01_k».proof.Proof.PostRow

@[expose] public section

set_option maxRecDepth 16384

noncomputable section

open Idealize.ShloMosaic Idealize.ShloMosaic.TcCoe Idealize.SL.Sem

namespace Cert.PostAIdeal.Pure

open Cert.PostAIdeal Cert.PostAIdeal.Gen Cert.Layer

/-- The residual: the row plus the projected attention. -/
theorem pay2_at (v0 : FVec Ideal S512x1024 .bf16) (v1 : FVec Ideal S512x1024 .f32) (v2 : FVec Ideal S1024x1024 .bf16) (r : Fin 512) (j : Fin 1024) :
    k0_pay2 (F := Ideal) v0 v1 v2 (ix2 r j) = v1 (ix2 r j) + ∑ k : Fin 1024, v0 (ix2 r k) * v2 (ix2 k j) := by
  pointwise [k0_pay2]
  try simp only [zero_add]

theorem pay3_at (v0 : FVec Ideal S512x1024 .bf16) (v1 : FVec Ideal S512x1024 .f32) (v2 : FVec Ideal S1024x1024 .bf16) (v5 : FVec Ideal S1x1024 .f32) (r : Fin 512) (j : Fin 1024) :
    k0_pay3 (F := Ideal) v0 v1 v2 v5 (ix2 r j) = rms (fun j => k0_pay2 (F := Ideal) v0 v1 v2 (ix2 r j)) (fun j => v5 (ix2 0 j)) j := by
  pointwise [k0_pay3, rms]

theorem pay4_at (v0 : FVec Ideal S512x1024 .bf16) (v1 : FVec Ideal S512x1024 .f32) (v2 : FVec Ideal S1024x1024 .bf16) (v5 : FVec Ideal S1x1024 .f32) (v20 v23 : FVec Ideal S1024x512 .bf16) (v30 : FVec Ideal S512x1024 .bf16) (r : Fin 512) (j : Fin 1024) :
    k0_pay4 (F := Ideal) v0 v1 v2 v5 v20 v23 v30 (ix2 r j)
      = ∑ k : Fin 512, hid (fun a => k0_pay3 (F := Ideal) v0 v1 v2 v5 (ix2 r a)) (fun a => v20 (ix2 a k)) (fun a => v23 (ix2 a k)) * v30 (ix2 k j) := by
  pointwise [k0_pay4, hid]

theorem pay6_at (v19 : FVec Ideal S512x1024 .bf16) (v32 : FVec Ideal S512x1024 .f32) (v33 v36 : FVec Ideal S1024x512 .bf16) (v43 : FVec Ideal S512x1024 .bf16) (v47 v50 : FVec Ideal S1024x512 .bf16) (v57 : FVec Ideal S512x1024 .bf16) (r : Fin 512) (j : Fin 1024) :
    k0_pay6 (F := Ideal) v19 v32 (k0_pay5 v33) (constant S512x512 .f32 0x00000000#32) v36 v43 v47 v50 v57 (ix2 r j)
      = v32 (ix2 r j) + (∑ k : Fin 512, hid (fun a => v19 (ix2 r a)) (fun a => v33 (ix2 a k)) (fun a => v36 (ix2 a k)) * v43 (ix2 k j))
        + ∑ k : Fin 512, hid (fun a => v19 (ix2 r a)) (fun a => v47 (ix2 a k)) (fun a => v50 (ix2 a k)) * v57 (ix2 k j) := by
  pointwise [k0_pay6, k0_pay5, hid]

theorem pay8_at (v4 : FVec Ideal S512x1024 .f32) (v19 : FVec Ideal S512x1024 .bf16) (v60 : FVec Ideal S512x1024 .f32) (v61 v64 : FVec Ideal S1024x512 .bf16) (v71 : FVec Ideal S512x1024 .bf16) (v75 v78 : FVec Ideal S1024x512 .bf16) (v85 : FVec Ideal S512x1024 .bf16) (v89 v92 : FVec Ideal S1024x256 .bf16) (v99 : FVec Ideal S256x1024 .bf16) (r : Fin 512) (j : Fin 1024) :
    k0_pay8 (F := Ideal) v4 v19 v60 (k0_pay7 v19 v61 v64) v71 v75 v78 v85 v89 v92 v99 (ix2 r j)
      = v4 (ix2 r j) + (v60 (ix2 r j) + (∑ k : Fin 512, hid (fun a => v19 (ix2 r a)) (fun a => v61 (ix2 a k)) (fun a => v64 (ix2 a k)) * v71 (ix2 k j))
        + (∑ k : Fin 512, hid (fun a => v19 (ix2 r a)) (fun a => v75 (ix2 a k)) (fun a => v78 (ix2 a k)) * v85 (ix2 k j))
        + ∑ k : Fin 256, hid (fun a => v19 (ix2 r a)) (fun a => v89 (ix2 a k)) (fun a => v92 (ix2 a k)) * v99 (ix2 k j)) := by
  pointwise [k0_pay8, k0_pay7, hid]

theorem pay1_at (v4 : FVec Ideal S512x1024 .f32) (v19 : FVec Ideal S512x1024 .bf16) (v60 : FVec Ideal S512x1024 .f32) (v70 : FVec Ideal S512x512 .bf16) (v71 : FVec Ideal S512x1024 .bf16) (v75 v78 : FVec Ideal S1024x512 .bf16) (v85 : FVec Ideal S512x1024 .bf16) (v89 v92 : FVec Ideal S1024x256 .bf16) (v99 : FVec Ideal S256x1024 .bf16)
    (v104 : FVec Ideal S1x1024 .f32) (v119 : FVec Ideal S1024x1024 .bf16) (v123 : FVec Ideal S1x512x256 .f32) (v126 : FVec Ideal S256x1024 .bf16) (r : Fin 512) (j : Fin 1024) :
    k0_pay1 (F := Ideal) (k0_pay8 v4 v19 v60 v70 v71 v75 v78 v85 v89 v92 v99) (k0_pay9 v104) (k0_pay10 v4 v19 v60 v70 v71 v75 v78 v85 v89 v92 v99) (Scalar.ofBits .f32 0x44800000#32) v119 v123 v126 (ix2 r j)
      = gate (fun j => k0_pay8 (F := Ideal) v4 v19 v60 v70 v71 v75 v78 v85 v89 v92 v99 (ix2 r j)) (fun j => v104 (ix2 0 j)) (fun k j => v119 (ix2 k j)) (fun k => v123 (ix3 0 r k)) (fun k j => v126 (ix2 k j)) j := by
  pointwise [k0_pay1, k0_pay9, k0_pay10, gate, rms]

end Cert.PostAIdeal.Pure
-- ==== Proof.PostAOut.lean ====
module

public import proofs.«01_k».proof.Proof.Gen.PostAIdeal.Frame
public import proofs.«01_k».proof.Proof.PostAPure
public import Idealize.ShloMosaic.Lib.Pipeline.ValueKit

@[expose] public section

set_option maxRecDepth 16384

noncomputable section

open Idealize.ShloMosaic Idealize.ShloMosaic.TcCoe Idealize.SL.Sem

namespace Cert.PostAIdeal.Pure

open Cert.PostAIdeal Cert.PostAIdeal.Gen Cert.Layer

variable (x0 : FVec Ideal S512x1024 .f32) (x1 : FVec Ideal S512x1024 .bf16) (x2 : FVec Ideal S1x512x256 .f32) (x3 : FVec Ideal S1024x1024 .bf16) (x4 : FVec Ideal S1x1024 .f32) (x5 x6 : FVec Ideal S1024x2816 .bf16) (x7 : FVec Ideal S2816x1024 .bf16) (x8 : FVec Ideal S1x1024 .f32) (x9 : FVec Ideal S1024x1024 .bf16) (x10 : FVec Ideal S256x1024 .bf16) (r : Fin 512) (j : Fin 1024)

/-- The residual of a row, at the blocks. -/
theorem h_at : k0_pay11 (F := Ideal) x0 x1 x2 x3 x4 x5 x6 x7 x8 x9 x10 (ix2 r j) = x0 (ix2 r j) + ∑ k : Fin 1024, x1 (ix2 r k) * x3 (ix2 k j) := by
  unfold k0_pay11
  refine (pay2_at _ _ _ r j).trans ?_
  pointwise

/-- The normed row, at the blocks. -/
theorem n_at : k0_pay12 (F := Ideal) x0 x1 x2 x3 x4 x5 x6 x7 x8 x9 x10 (ix2 r j) = rms (fun j => x0 (ix2 r j) + ∑ k : Fin 1024, x1 (ix2 r k) * x3 (ix2 k j)) (fun j => x4 (ix2 0 j)) j := by
  unfold k0_pay12
  refine (pay3_at _ _ _ _ r j).trans ?_
  have e : ∀ j, _ = _ := h_at x0 x1 x2 x3 x4 x5 x6 x7 x8 x9 x10 r
  unfold k0_pay11 at e
  simp only [e]
  pointwise [rms]

/-- The first three stretches of the feed-forward, at the blocks. -/
theorem f_at : k0_pay13 (F := Ideal) x0 x1 x2 x3 x4 x5 x6 x7 x8 x9 x10 (ix2 r j)
    = part 512 0 (by omega) (rms (fun j => x0 (ix2 r j) + ∑ k : Fin 1024, x1 (ix2 r k) * x3 (ix2 k j)) (fun j => x4 (ix2 0 j))) (fun a k => x5 (ix2 a k)) (fun a k => x6 (ix2 a k)) (fun k => x7 (ix2 k j)) + part 512 512 (by omega) (rms (fun j => x0 (ix2 r j) + ∑ k : Fin 1024, x1 (ix2 r k) * x3 (ix2 k j)) (fun j => x4 (ix2 0 j))) (fun a k => x5 (ix2 a k)) (fun a k => x6 (ix2 a k)) (fun k => x7 (ix2 k j)) + part 512 1024 (by omega) (rms (fun j => x0 (ix2 r j) + ∑ k : Fin 1024, x1 (ix2 r k) * x3 (ix2 k j)) (fun j => x4 (ix2 0 j))) (fun a k => x5 (ix2 a k)) (fun a k => x6 (ix2 a k)) (fun k => x7 (ix2 k j)) := by
  have e : ∀ j, _ = _ := n_at x0 x1 x2 x3 x4 x5 x6 x7 x8 x9 x10 r
  unfold k0_pay13
  refine (pay6_at _ _ _ _ _ _ _ _ r j).trans ?_
  rw [pay4_at]
  simp only [e]
  unfold k0_pay12 at e
  simp only [e]
  pointwise [part, hid]

/-- The row after its feed-forward, at the blocks. -/
theorem y_at : k0_pay8 (F := Ideal) (k0_pay11 x0 x1 x2 x3 x4 x5 x6 x7 x8 x9 x10) (k0_pay12 x0 x1 x2 x3 x4 x5 x6 x7 x8 x9 x10) (k0_pay13 x0 x1 x2 x3 x4 x5 x6 x7 x8 x9 x10) (k0_pay14 x0 x1 x2 x3 x4 x5 x6 x7 x8 x9 x10) (View.ld x7 r0_10)
        (View.ld x5 r0_11) (View.ld x6 r0_11) (View.ld x7 r0_12) (View.ld x5 r0_13) (View.ld x6 r0_13)
        (View.ld x7 r0_14) (ix2 r j)
    = mid (fun j => x0 (ix2 r j) + ∑ k : Fin 1024, x1 (ix2 r k) * x3 (ix2 k j)) (fun j => x4 (ix2 0 j)) (fun a k => x5 (ix2 a k)) (fun a k => x6 (ix2 a k)) (fun k j => x7 (ix2 k j)) j := by
  have e : ∀ j, _ = _ := n_at x0 x1 x2 x3 x4 x5 x6 x7 x8 x9 x10 r
  unfold k0_pay14
  refine (pay8_at _ _ _ _ _ _ _ _ _ _ _ _ r j).trans ?_
  rw [h_at, f_at]
  unfold mid
  rw [ffn_parts]
  simp only [e]
  pointwise [part, hid]

/-- What a grid point stores, from the blocks it reads: the layer's arithmetic on each row. -/
theorem out_at :
    out0_11 (F := Ideal) x0 x1 x2 x3 x4 x5 x6 x7 x8 x9 x10 (ix2 r j)
      = gate (mid (fun j => x0 (ix2 r j) + ∑ k : Fin 1024, x1 (ix2 r k) * x3 (ix2 k j)) (fun j => x4 (ix2 0 j)) (fun a k => x5 (ix2 a k)) (fun a k => x6 (ix2 a k)) (fun k j => x7 (ix2 k j)))
          (fun j => x8 (ix2 0 j)) (fun k j => x9 (ix2 k j)) (fun k => x2 (ix3 0 r k)) (fun k j => x10 (ix2 k j)) j := by
  frame_out
  refine (pay1_at _ _ _ _ _ _ _ _ _ _ _ _ _ _ _ r j).trans ?_
  exact congrArg (fun y => gate y _ _ _ _ j) (funext fun j => y_at x0 x1 x2 x3 x4 x5 x6 x7 x8 x9 x10 r j)

end Cert.PostAIdeal.Pure
-- ==== Proof.PostARef.lean ====
module

public import proofs.«01_k».proof.Proof.Gen.PostARefIdeal.Read
public import proofs.«01_k».proof.Proof.PostRow

@[expose] public section

set_option maxRecDepth 16384

noncomputable section

open Idealize.ShloMosaic Idealize.ShloMosaic.TcCoe Idealize.SL.Sem

namespace Cert.PostARefIdeal.Pure

open Cert.PostARefIdeal Cert.PostARefIdeal.Gen Cert.PostARefIdeal.Read Cert.Layer

variable (x0 : FVec Ideal S65536x1024 .f32) (x1 : FVec Ideal S65536x1024 .bf16) (x2 : FVec Ideal S2x65536x256 .f32) (x3 : FVec Ideal S1024x1024 .bf16) (x4 : FVec Ideal S2x1024 .f32) (x5 x6 : FVec Ideal S2x1024x2816 .f32) (x7 : FVec Ideal S2x2816x1024 .f32) (x8 : FVec Ideal S2x1024 .f32) (x9 : FVec Ideal S2x1024x1024 .f32) (x10 : FVec Ideal S2x256x1024 .f32) (t : Fin 65536) (j : Fin 1024)

/-- The residual: the row plus the projected attention. -/
theorem v3_at : val_main_v3 (F := Ideal) x0 x1 x3 (ix2 t j) = x0 (ix2 t j) + ∑ k : Fin 1024, x1 (ix2 t k) * x3 (ix2 k j) := by
  pointwise [val_main_v3, val_main_v2, val_main_v1, val_main_v0]

/-- The first norm. -/
theorem v18_at : val_main_v18 (F := Ideal) x0 x1 x3 x4 (ix2 t j)
    = rms (fun j => val_main_v3 (F := Ideal) x0 x1 x3 (ix2 t j)) (fun j => x4 (ix2 0 j)) j := by
  pointwise [val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, rms]

/-- One hidden unit of the feed-forward. -/
theorem v28_at (k : Fin 2816) : val_main_v28 (F := Ideal) x0 x1 x3 x4 x5 x6 (ix2 t k)
    = hid (fun a => val_main_v18 (F := Ideal) x0 x1 x3 x4 (ix2 t a)) (fun a => x5 (ix3 0 a k)) (fun a => x6 (ix3 0 a k)) := by
  pointwise [val_main_v28, val_main_v27, val_main_v26, val_main_v25, val_main_call0_v5, val_main_call0_v4, val_main_call0_v3, val_main_call0_v2, val_main_call0_v1, val_main_call0_v0, val_main_call0_cst, val_main_call0_cst_0, val_main_v22, val_main_v21, val_main_v20, val_main_v19, hid, Ideal.logistic]

/-- The row after its feed-forward. -/
theorem v30_at : val_main_v30 (F := Ideal) x0 x1 x3 x4 x5 x6 x7 (ix2 t j)
    = mid (fun j => x0 (ix2 t j) + ∑ k : Fin 1024, x1 (ix2 t k) * x3 (ix2 k j)) (fun j => x4 (ix2 0 j)) (fun a k => x5 (ix3 0 a k)) (fun a k => x6 (ix3 0 a k)) (fun k j => x7 (ix3 0 k j)) j := by
  have e3 : ∀ j, _ = _ := v3_at x0 x1 x3 t
  have e18 : ∀ j, _ = _ := v18_at x0 x1 x3 x4 t
  have e28 : ∀ j, _ = _ := v28_at x0 x1 x3 x4 x5 x6 t
  pointwise [val_main_v30, val_main_v29, val_main_v24, val_main_v23, mid, ffn]
  simp only [e28, e18, e3]

/-- The second norm. -/
theorem v45_at : val_main_v45 (F := Ideal) x0 x1 x3 x4 x5 x6 x7 x8 (ix2 t j)
    = rms (fun j => val_main_v30 (F := Ideal) x0 x1 x3 x4 x5 x6 x7 (ix2 t j)) (fun j => x8 (ix2 0 j)) j := by
  pointwise [val_main_v45, val_main_v44, val_main_v43, val_main_v42, val_main_v41, val_main_v40, val_main_v39, val_main_v38, val_main_v37, val_main_v36, val_main_v35, val_main_v34, val_main_v33, val_main_v32, val_main_v31, val_main_cst_2, val_main_cst_3, val_main_cst_4, rms]

/-- The reference's result at an element. -/
theorem res_at : val_main_v61 (F := Ideal) x0 x1 x2 x3 x4 x5 x6 x7 x8 x9 x10 (ix2 t j)
    = gate (mid (fun j => x0 (ix2 t j) + ∑ k : Fin 1024, x1 (ix2 t k) * x3 (ix2 k j)) (fun j => x4 (ix2 0 j)) (fun a k => x5 (ix3 0 a k)) (fun a k => x6 (ix3 0 a k)) (fun k j => x7 (ix3 0 k j)))
        (fun j => x8 (ix2 0 j)) (fun k j => x9 (ix3 0 k j)) (fun k => x2 (ix3 0 t k)) (fun k j => x10 (ix3 0 k j)) j := by
  have e45 : ∀ j, _ = _ := v45_at x0 x1 x3 x4 x5 x6 x7 x8 t
  have e30 : ∀ j, _ = _ := v30_at x0 x1 x3 x4 x5 x6 x7 t
  pointwise [val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, gate, Ideal.logistic]
  simp only [e45, e30]

end Cert.PostARefIdeal.Pure
-- ==== Proof.PostAValue.lean ====
module

public import proofs.«01_k».proof.Proof.PostAOut
public import proofs.«01_k».proof.Proof.PostARef

@[expose] public section

set_option maxRecDepth 16384

noncomputable section

open Idealize.ShloMosaic Idealize.ShloMosaic.TcCoe Idealize.SL.Sem
open Idealize.ShloMosaic.Pipeline (Dat)

namespace Cert.PostAIdeal.Pure

open Cert.PostAIdeal Cert.PostAIdeal.Gen Cert.Layer

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![0, t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0] :=
  (by decide +kernel : ∀ t : Fin grid0.N, _)

/-- The reference's result over the kernel's arguments. -/
abbrev REF (c : Dev nD) : FVec Ideal S65536x1024 .f32 :=
  Cert.PostARefIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem rd0 (c : Dev nD) (t : Fin cfg0.N) (r : Fin 512) (q : Fin 65536) (hq : q.val = t.val * 512 + r.val) (j : Fin 1024) :
    (show FVec Ideal S512x1024 .f32 from iblk m c 0 t) (ix2 r j) = (show EReal from m ((c.tc : Thread nD τ).loc main_arg0) (ix2 q j)) := by
  blk_point [iblk, idx t]

theorem rd1 (c : Dev nD) (t : Fin cfg0.N) (r : Fin 512) (q : Fin 65536) (hq : q.val = t.val * 512 + r.val) (j : Fin 1024) :
    (show FVec Ideal S512x1024 .bf16 from iblk m c 1 t) (ix2 r j) = (show EReal from m ((c.tc : Thread nD τ).loc main_arg1) (ix2 q j)) := by
  blk_point [iblk, idx t]

theorem rd2 (c : Dev nD) (t : Fin cfg0.N) (r : Fin 512) (q : Fin 65536) (hq : q.val = t.val * 512 + r.val) (j : Fin 256) :
    (show FVec Ideal S1x512x256 .f32 from iblk m c 2 t) (ix3 0 r j) = (show EReal from m ((c.tc : Thread nD τ).loc main_arg2) (ix3 0 q j)) := by
  blk_point [iblk, idx t]

theorem rd3 (c : Dev nD) (t : Fin cfg0.N) (a b : Fin 1024) :
    (show FVec Ideal S1024x1024 .bf16 from iblk m c 3 t) (ix2 a b) = (show EReal from m ((c.tc : Thread nD τ).loc main_arg3) (ix2 a b)) := by
  blk_point [iblk, idx t]

theorem rd4 (c : Dev nD) (t : Fin cfg0.N) (b : Fin 1024) :
    (show FVec Ideal S1x1024 .f32 from iblk m c 4 t) (ix2 0 b) = (show EReal from m ((c.tc : Thread nD τ).loc main_arg4) (ix2 0 b)) := by
  blk_point [iblk, idx t]

theorem rd5 (c : Dev nD) (t : Fin cfg0.N) (a : Fin 1024) (b : Fin 2816) :
    (show FVec Ideal S1024x2816 .bf16 from iblk m c 5 t) (ix2 a b) = (show EReal from m ((c.tc : Thread nD τ).loc main_arg5) (ix3 0 a b)) := by
  blk_point [iblk, idx t]

theorem rd6 (c : Dev nD) (t : Fin cfg0.N) (a : Fin 1024) (b : Fin 2816) :
    (show FVec Ideal S1024x2816 .bf16 from iblk m c 6 t) (ix2 a b) = (show EReal from m ((c.tc : Thread nD τ).loc main_arg6) (ix3 0 a b)) := by
  blk_point [iblk, idx t]

theorem rd7 (c : Dev nD) (t : Fin cfg0.N) (a : Fin 2816) (b : Fin 1024) :
    (show FVec Ideal S2816x1024 .bf16 from iblk m c 7 t) (ix2 a b) = (show EReal from m ((c.tc : Thread nD τ).loc main_arg7) (ix3 0 a b)) := by
  blk_point [iblk, idx t]

theorem rd8 (c : Dev nD) (t : Fin cfg0.N) (b : Fin 1024) :
    (show FVec Ideal S1x1024 .f32 from iblk m c 8 t) (ix2 0 b) = (show EReal from m ((c.tc : Thread nD τ).loc main_arg8) (ix2 0 b)) := by
  blk_point [iblk, idx t]

theorem rd9 (c : Dev nD) (t : Fin cfg0.N) (a b : Fin 1024) :
    (show FVec Ideal S1024x1024 .bf16 from iblk m c 9 t) (ix2 a b) = (show EReal from m ((c.tc : Thread nD τ).loc main_arg9) (ix3 0 a b)) := by
  blk_point [iblk, idx t]

theorem rd10 (c : Dev nD) (t : Fin cfg0.N) (a : Fin 256) (b : Fin 1024) :
    (show FVec Ideal S256x1024 .bf16 from iblk m c 10 t) (ix2 a b) = (show EReal from m ((c.tc : Thread nD τ).loc main_arg10) (ix3 0 a b)) := by
  blk_point [iblk, idx t]

theorem point (c : Dev nD) (t : Fin cfg0.N) (r : Fin 512) (j : Fin 1024) (q : Fin 65536) (hq : q.val = t.val * 512 + r.val) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = REF m c (ix2 q j) := by
  refine (out_at _ _ _ _ _ _ _ _ _ _ _ r j).trans (Eq.trans ?_ (Cert.PostARefIdeal.Pure.res_at _ _ _ _ _ _ _ _ _ _ _ q j).symm)
  exact row_congr j (fun j => Ideal.add_congr (rd0 m c t r q hq j) (Finset.sum_congr rfl fun k _ => Ideal.mul_congr (rd1 m c t r q hq k) (rd3 m c t k j)))
    (rd4 m c t) (rd5 m c t) (rd6 m c t) (rd7 m c t) (rd8 m c t) (rd9 m c t) (rd2 m c t r q hq) (rd10 m c t)

/-- The kernel's result array is the reference's. -/
theorem final (c : Dev nD) : (dats m 0 c).arrAt 11 (cfgs 0).N = REF m c := by
  refine (dats m 0 c).arrAt_eq_of_covers 11 _ (by decide +kernel) fun t _ y => ?_
  blk_simp
  rw [after0_11]
  have ht : t.val < 128 := t.isLt
  have hr : ((y 0 : Fin 512)).val < 512 := (y 0 : Fin 512).isLt
  refine (congrArg (out0_11 (F := Ideal) _ _ _ _ _ _ _ _ _ _ _) (eq_ix2 (n0 := 512) (n1 := 1024) y)).trans ?_
  refine (point m c t (y 0) (y 1) ⟨t.val * 512 + (y 0 : Fin 512).val, by omega⟩ rfl).trans ?_
  blk_ext [idx t]

end Cert.PostAIdeal.Pure
-- ==== Proof.PostAClaim.lean ====
module

public import proofs.«01_k».proof.Defs
public import proofs.«01_k».proof.Proof.PostAValue
public import proofs.«01_k».proof.Proof.Gen.PostA.Frame
public import Idealize.ShloMosaic.Lib.Claim

@[expose] public section

set_option maxRecDepth 16384

noncomputable section

open Idealize.ShloMosaic Idealize.SL.Sem

namespace Cert.PostA.Claims

theorem quiescent : Cert.quiescent_PostA := fun m g _ => Cert.PostA.Gen.frame m g

theorem quiescentIdeal : Cert.quiescent_PostAIdeal := fun m g _ => Cert.PostAIdeal.Gen.frame m g

theorem quiescentRef : Cert.quiescent_PostARefIdeal := fun m g _ =>
  (θ_run Cert.PostARefIdeal.defs _ _).mono (fun r h => ⟨fun c => (h c).2,
      Idealize.ShloMosaic.sem_eq_zero_of_no_sems (by decide) r.2⟩)
    (Cert.PostARefIdeal.Value.run (F := Ideal) m g)

theorem preserves : Cert.preserves_PostA_PostAIdeal := trivial

theorem algebraic : Cert.algebraic_PostAIdeal_PostARefIdeal := by
  pair_intro
  · run_from Cert.PostAIdeal.Gen.run_main m g
  · run_from Cert.PostARefIdeal.Value.run m' g'
    rw [Cert.PostAIdeal.Pure.final m c, Cert.PostARefIdeal.Read.val_main_v61_eq]
    obtain ⟨h0, h1, h2, h3, h4, h5, h6, h7, h8, h9, h10⟩ := hagree c
    rw [h0, h1, h2, h3, h4, h5, h6, h7, h8, h9, h10]

end Cert.PostA.Claims
-- ==== Proof.PostBRow.lean ====
module

public import proofs.«01_k».proof.Proof.PostRow

@[expose] public section

set_option maxRecDepth 16384

noncomputable section

open Idealize.ShloMosaic

/-! The second layer's combination of its three groups over one token, over extended reals: each head
    of a group is weighted by that group's share of the softmax mass, the shares coming from the
    groups' logsumexps, and the nine pieces laid side by side. -/

namespace Cert.Layer

/-- The greatest of the three groups' logsumexps. -/
def top (a b c : EReal) : EReal := max (max a b) c

/-- The three groups' masses, relative to the greatest, added. -/
def mass (a b c : EReal) : EReal := Ideal.exp (a - top a b c) + Ideal.exp (b - top a b c) + Ideal.exp (c - top a b c)

/-- A group's share of the mass at each head, as the division. -/
def share (l a b c : Fin 128 → EReal) (h : Fin 6) : EReal :=
  Ideal.div (Ideal.exp (l ⟨h.val, by omega⟩ - top (a ⟨h.val, by omega⟩) (b ⟨h.val, by omega⟩) (c ⟨h.val, by omega⟩)))
    (mass (a ⟨h.val, by omega⟩) (b ⟨h.val, by omega⟩) (c ⟨h.val, by omega⟩))

/-- A group's share of the mass at each head, as the product with the reciprocal. -/
def recip (l a b c : Fin 128 → EReal) (h : Fin 6) : EReal :=
  Ideal.exp (l ⟨h.val, by omega⟩ - top (a ⟨h.val, by omega⟩) (b ⟨h.val, by omega⟩) (c ⟨h.val, by omega⟩))
    * Ideal.div 1 (mass (a ⟨h.val, by omega⟩) (b ⟨h.val, by omega⟩) (c ⟨h.val, by omega⟩))

/-- One channel of the combined row. -/
def comb (o0 o1 o2 : Fin 384 → EReal) (w0 w1 w2 : Fin 6 → EReal) (k : Fin 1152) : EReal :=
  if h : k.val < 384 then o0 ⟨k.val, by omega⟩ * w0 ⟨k.val % 128 / 64 * 3 + k.val / 128, by omega⟩
  else if h' : k.val < 768 then o1 ⟨k.val - 384, by omega⟩ * w1 ⟨k.val % 128 / 64 * 3 + (k.val / 128 - 3), by omega⟩
  else o2 ⟨k.val - 768, by omega⟩ * w2 ⟨k.val % 128 / 64 * 3 + (k.val / 128 - 6), by omega⟩

/-- A slab of a group's output, its two halves weighted by their heads. -/
def slab (o : Fin 384 → EReal) (w : Fin 6 → EReal) (a : Fin 3) (l : Fin 128) : EReal :=
  o ⟨a.val * 128 + l.val, by omega⟩ * if l.val < 64 then w ⟨a.val, by omega⟩ else w ⟨3 + a.val, by omega⟩

theorem comb_slab0 (o0 o1 o2 : Fin 384 → EReal) (w0 w1 w2 : Fin 6 → EReal) (a : Fin 3) (l : Fin 128) (k : Fin 1152)
    (hk : k.val = 0 + a.val * 128 + l.val) : comb o0 o1 o2 w0 w1 w2 k = slab o0 w0 a l := by
  have ha := a.isLt
  have hl := l.isLt
  unfold comb slab
  rw [dif_pos (show k.val < 384 by omega)]
  have e1 : k.val % 128 = l.val := by omega
  have e2 : k.val / 128 = 0 + a.val := by omega
  refine congr (congrArg _ (congrArg o0 (Fin.ext (show _ = _ by simp only; omega)))) ?_
  split_ifs with h
  · refine congrArg w0 (Fin.ext ?_)
    show k.val % 128 / 64 * 3 + k.val / 128 = a.val
    omega
  · refine congrArg w0 (Fin.ext ?_)
    show k.val % 128 / 64 * 3 + k.val / 128 = 3 + a.val
    omega

theorem comb_slab1 (o0 o1 o2 : Fin 384 → EReal) (w0 w1 w2 : Fin 6 → EReal) (a : Fin 3) (l : Fin 128) (k : Fin 1152)
    (hk : k.val = 384 + a.val * 128 + l.val) : comb o0 o1 o2 w0 w1 w2 k = slab o1 w1 a l := by
  have ha := a.isLt
  have hl := l.isLt
  unfold comb slab
  rw [dif_neg (show ¬ k.val < 384 by omega), dif_pos (show k.val < 768 by omega)]
  have e1 : k.val % 128 = l.val := by omega
  have e2 : k.val / 128 = 3 + a.val := by omega
  refine congr (congrArg _ (congrArg o1 (Fin.ext (show _ = _ by simp only; omega)))) ?_
  split_ifs with h
  · refine congrArg w1 (Fin.ext ?_)
    show k.val % 128 / 64 * 3 + (k.val / 128 - 3) = a.val
    omega
  · refine congrArg w1 (Fin.ext ?_)
    show k.val % 128 / 64 * 3 + (k.val / 128 - 3) = 3 + a.val
    omega

theorem comb_slab2 (o0 o1 o2 : Fin 384 → EReal) (w0 w1 w2 : Fin 6 → EReal) (a : Fin 3) (l : Fin 128) (k : Fin 1152)
    (hk : k.val = 768 + a.val * 128 + l.val) : comb o0 o1 o2 w0 w1 w2 k = slab o2 w2 a l := by
  have ha := a.isLt
  have hl := l.isLt
  unfold comb slab
  rw [dif_neg (show ¬ k.val < 384 by omega), dif_neg (show ¬ k.val < 768 by omega)]
  have e1 : k.val % 128 = l.val := by omega
  have e2 : k.val / 128 = 6 + a.val := by omega
  refine congr (congrArg _ (congrArg o2 (Fin.ext (show _ = _ by simp only; omega)))) ?_
  split_ifs with h
  · refine congrArg w2 (Fin.ext ?_)
    show k.val % 128 / 64 * 3 + (k.val / 128 - 6) = a.val
    omega
  · refine congrArg w2 (Fin.ext ?_)
    show k.val % 128 / 64 * 3 + (k.val / 128 - 6) = 3 + a.val
    omega

/-- The nine slabs side by side are the combined row. -/
theorem nine (o0 o1 o2 : Fin 384 → EReal) (w0 w1 w2 : Fin 6 → EReal) (f0 f1 f2 f3 f4 f5 f6 f7 f8 : Fin 128 → EReal)
    (e0 : ∀ l, f0 l = slab o0 w0 0 l) (e1 : ∀ l, f1 l = slab o0 w0 1 l) (e2 : ∀ l, f2 l = slab o0 w0 2 l) (e3 : ∀ l, f3 l = slab o1 w1 0 l) (e4 : ∀ l, f4 l = slab o1 w1 1 l) (e5 : ∀ l, f5 l = slab o1 w1 2 l) (e6 : ∀ l, f6 l = slab o2 w2 0 l) (e7 : ∀ l, f7 l = slab o2 w2 1 l) (e8 : ∀ l, f8 l = slab o2 w2 2 l) (k : Fin 1152) :
    (if h0 : k.val < 128 then f0 ⟨k.val, h0⟩ else if h1 : k.val - 128 < 128 then f1 ⟨k.val - 128, h1⟩ else if h2 : k.val - 128 - 128 < 128 then f2 ⟨k.val - 128 - 128, h2⟩ else if h3 : k.val - 128 - 128 - 128 < 128 then f3 ⟨k.val - 128 - 128 - 128, h3⟩ else if h4 : k.val - 128 - 128 - 128 - 128 < 128 then f4 ⟨k.val - 128 - 128 - 128 - 128, h4⟩ else if h5 : k.val - 128 - 128 - 128 - 128 - 128 < 128 then f5 ⟨k.val - 128 - 128 - 128 - 128 - 128, h5⟩ else if h6 : k.val - 128 - 128 - 128 - 128 - 128 - 128 < 128 then f6 ⟨k.val - 128 - 128 - 128 - 128 - 128 - 128, h6⟩ else if h7 : k.val - 128 - 128 - 128 - 128 - 128 - 128 - 128 < 128 then f7 ⟨k.val - 128 - 128 - 128 - 128 - 128 - 128 - 128, h7⟩ else f8 ⟨k.val - 128 - 128 - 128 - 128 - 128 - 128 - 128 - 128, by omega⟩)
      = comb o0 o1 o2 w0 w1 w2 k := by
  have hk := k.isLt
  split_ifs with h0 h1 h2 h3 h4 h5 h6 h7
  · rw [e0]; exact (comb_slab0 o0 o1 o2 w0 w1 w2 0 _ k (by show k.val = 0 + 0 * 128 + k.val; omega)).symm
  · rw [e1]; exact (comb_slab0 o0 o1 o2 w0 w1 w2 1 _ k (by show k.val = 0 + 1 * 128 + (k.val - 128); omega)).symm
  · rw [e2]; exact (comb_slab0 o0 o1 o2 w0 w1 w2 2 _ k (by show k.val = 0 + 2 * 128 + (k.val - 128 - 128); omega)).symm
  · rw [e3]; exact (comb_slab1 o0 o1 o2 w0 w1 w2 0 _ k (by show k.val = 384 + 0 * 128 + (k.val - 128 - 128 - 128); omega)).symm
  · rw [e4]; exact (comb_slab1 o0 o1 o2 w0 w1 w2 1 _ k (by show k.val = 384 + 1 * 128 + (k.val - 128 - 128 - 128 - 128); omega)).symm
  · rw [e5]; exact (comb_slab1 o0 o1 o2 w0 w1 w2 2 _ k (by show k.val = 384 + 2 * 128 + (k.val - 128 - 128 - 128 - 128 - 128); omega)).symm
  · rw [e6]; exact (comb_slab2 o0 o1 o2 w0 w1 w2 0 _ k (by show k.val = 768 + 0 * 128 + (k.val - 128 - 128 - 128 - 128 - 128 - 128); omega)).symm
  · rw [e7]; exact (comb_slab2 o0 o1 o2 w0 w1 w2 1 _ k (by show k.val = 768 + 1 * 128 + (k.val - 128 - 128 - 128 - 128 - 128 - 128 - 128); omega)).symm
  · rw [e8]; exact (comb_slab2 o0 o1 o2 w0 w1 w2 2 _ k (by show k.val = 768 + 2 * 128 + (k.val - 128 - 128 - 128 - 128 - 128 - 128 - 128 - 128); omega)).symm

/-- The three groups side by side, member by member, are the combined row. -/
theorem three (o0 o1 o2 : Fin 384 → EReal) (w0 w1 w2 : Fin 6 → EReal) (g0 g1 g2 : Fin 3 → Fin 2 → EReal)
    (e0 : ∀ (a : Fin 3) (b : Fin 2), g0 a b = w0 ⟨b.val * 3 + a.val, by omega⟩)
    (e1 : ∀ (a : Fin 3) (b : Fin 2), g1 a b = w1 ⟨b.val * 3 + a.val, by omega⟩)
    (e2 : ∀ (a : Fin 3) (b : Fin 2), g2 a b = w2 ⟨b.val * 3 + a.val, by omega⟩)
    (k : Fin 1152) :
    (if h : k.val / 128 < 3 then o0 ⟨k.val / 128 * 128 + k.val / 64 % 2 * 64 + k.val % 64, by omega⟩ * g0 ⟨k.val / 128, h⟩ ⟨k.val / 64 % 2, by omega⟩
      else if h' : k.val / 128 - 3 < 3 then o1 ⟨(k.val / 128 - 3) * 128 + k.val / 64 % 2 * 64 + k.val % 64, by omega⟩ * g1 ⟨k.val / 128 - 3, h'⟩ ⟨k.val / 64 % 2, by omega⟩
      else o2 ⟨(k.val / 128 - 3 - 3) * 128 + k.val / 64 % 2 * 64 + k.val % 64, by omega⟩ * g2 ⟨k.val / 128 - 3 - 3, by omega⟩ ⟨k.val / 64 % 2, by omega⟩)
      = comb o0 o1 o2 w0 w1 w2 k := by
  have hk := k.isLt
  rw [e2]
  simp only [e0, e1]
  unfold comb
  by_cases h1 : k.val < 384
  · rw [dif_pos (show k.val / 128 < 3 by omega), dif_pos h1]
    exact congr (congrArg _ (congrArg o0 (Fin.ext (by show k.val / 128 * 128 + k.val / 64 % 2 * 64 + k.val % 64 = k.val; omega))))
      (congrArg w0 (Fin.ext (by show k.val / 64 % 2 * 3 + k.val / 128 = k.val % 128 / 64 * 3 + k.val / 128; omega)))
  · rw [dif_neg (show ¬ k.val / 128 < 3 by omega), dif_neg h1]
    by_cases h2 : k.val < 768
    · rw [dif_pos (show k.val / 128 - 3 < 3 by omega), dif_pos h2]
      exact congr (congrArg _ (congrArg o1 (Fin.ext (by show (k.val / 128 - 3) * 128 + k.val / 64 % 2 * 64 + k.val % 64 = k.val - 384; omega))))
        (congrArg w1 (Fin.ext (by show k.val / 64 % 2 * 3 + (k.val / 128 - 3) = k.val % 128 / 64 * 3 + (k.val / 128 - 3); omega)))
    · rw [dif_neg (show ¬ k.val / 128 - 3 < 3 by omega), dif_neg h2]
      exact congr (congrArg _ (congrArg o2 (Fin.ext (by show (k.val / 128 - 3 - 3) * 128 + k.val / 64 % 2 * 64 + k.val % 64 = k.val - 768; omega))))
        (congrArg w2 (Fin.ext (by show k.val / 64 % 2 * 3 + (k.val / 128 - 3 - 3) = k.val % 128 / 64 * 3 + (k.val / 128 - 6); omega)))

/-- Where the greatest logsumexp is finite the masses add up to at least one: it holds one of them whole. -/
theorem mass_ne_zero (a b c : EReal) (hb : ⊥ < top a b c) (ht : top a b c < ⊤) : mass a b c ≠ 0 := by
  have nn : ∀ x, 0 ≤ Ideal.exp x := fun x => by
    induction x using EReal.rec with
    | bot => exact le_of_eq rfl
    | top => exact le_top
    | coe x => exact EReal.coe_nonneg.2 (Real.exp_pos x).le
  have one : Ideal.exp (top a b c - top a b c) = 1 := by
    generalize top a b c = x at hb ht
    induction x using EReal.rec with
    | bot => exact absurd hb (lt_irrefl _)
    | top => exact absurd ht (lt_irrefl _)
    | coe x => rw [← EReal.coe_sub, sub_self]; show ((Real.exp 0 : ℝ) : EReal) = 1; rw [Real.exp_zero]; rfl
  have cs : top a b c = a ∨ top a b c = b ∨ top a b c = c := by
    unfold top
    rcases max_choice (max a b) c with e | e
    · rcases max_choice a b with e' | e'
      · left; rw [e, e']
      · right; left; rw [e, e']
    · right; right; exact e
  have ge : (1 : EReal) ≤ mass a b c := by
    unfold mass
    rcases cs with e | e | e
    · have h1 := one; rw [show Ideal.exp (top a b c - top a b c) = Ideal.exp (a - top a b c) from congrArg (fun y => Ideal.exp (y - top a b c)) e] at h1
      rw [h1, add_assoc]; exact le_add_of_nonneg_right (add_nonneg (nn _) (nn _))
    · have h1 := one; rw [show Ideal.exp (top a b c - top a b c) = Ideal.exp (b - top a b c) from congrArg (fun y => Ideal.exp (y - top a b c)) e] at h1
      rw [h1]; exact (le_add_of_nonneg_left (nn _)).trans (le_add_of_nonneg_right (nn _))
    · have h1 := one; rw [show Ideal.exp (top a b c - top a b c) = Ideal.exp (c - top a b c) from congrArg (fun y => Ideal.exp (y - top a b c)) e] at h1
      rw [h1]; exact le_add_of_nonneg_left (add_nonneg (nn _) (nn _))
  intro h0
  rw [h0] at ge
  exact absurd ge (not_le.2 zero_lt_one)

/-- There the reciprocal's product is the division. -/
theorem recip_eq_share (l a b c : Fin 128 → EReal) (h : Fin 6)
    (hb : ⊥ < top (a ⟨h.val, by omega⟩) (b ⟨h.val, by omega⟩) (c ⟨h.val, by omega⟩)) (ht : top (a ⟨h.val, by omega⟩) (b ⟨h.val, by omega⟩) (c ⟨h.val, by omega⟩) < ⊤) :
    recip l a b c h = share l a b c h := by
  have := mass_ne_zero _ _ _ hb ht
  unfold recip share
  show _ * (if _ then _ else _) = (if _ then _ else _)
  rw [if_neg this, if_neg this, one_mul]

/-- Two combined rows agree where what they are computed from agrees and the greatest logsumexp of every head is finite. -/
theorem comb_congr {o0 o0' o1 o1' o2 o2' : Fin 384 → EReal} {a a' b b' c c' : Fin 128 → EReal} (k : Fin 1152)
    (e0 : ∀ j, o0 j = o0' j) (e1 : ∀ j, o1 j = o1' j) (e2 : ∀ j, o2 j = o2' j) (ea : ∀ j, a j = a' j) (eb : ∀ j, b j = b' j) (ec : ∀ j, c j = c' j)
    (hf : ∀ h : Fin 6, ⊥ < top (a' ⟨h.val, by omega⟩) (b' ⟨h.val, by omega⟩) (c' ⟨h.val, by omega⟩) ∧ top (a' ⟨h.val, by omega⟩) (b' ⟨h.val, by omega⟩) (c' ⟨h.val, by omega⟩) < ⊤) :
    comb o0 o1 o2 (recip a a b c) (recip b a b c) (recip c a b c) k = comb o0' o1' o2' (share a' a' b' c') (share b' a' b' c') (share c' a' b' c') k := by
  obtain rfl : o0 = o0' := funext e0
  obtain rfl : o1 = o1' := funext e1
  obtain rfl : o2 = o2' := funext e2
  obtain rfl : a = a' := funext ea
  obtain rfl : b = b' := funext eb
  obtain rfl : c = c' := funext ec
  have e : ∀ l, recip l a b c = share l a b c := fun l => funext fun h => recip_eq_share l a b c h (hf h).1 (hf h).2
  rw [e, e, e]

end Cert.Layer
-- ==== Proof.PostBPure.lean ====
module

public import proofs.«01_k».proof.Proof.Gen.PostBIdeal.Skeleton
public import proofs.«01_k».proof.Proof.PostBRow

@[expose] public section

set_option maxRecDepth 16384

noncomputable section

open Idealize.ShloMosaic Idealize.ShloMosaic.TcCoe Idealize.SL.Sem

namespace Cert.PostBIdeal.Pure

open Cert.PostBIdeal Cert.PostBIdeal.Gen Cert.Layer

/-- Which half of a slab a lane is in. -/
theorem half : ∀ l : Fin 128, IntOp.cmpi .slt (BitVec.ofNat 32 l.val) 64#32 = if l.val < 64 then 1#1 else 0#1 := by decide +kernel

theorem sel_half (l : Fin 128) (a b : EReal) : Scalar.select (IntOp.cmpi .slt (BitVec.ofNat 32 l.val) 64#32) a b = if l.val < 64 then a else b := by
  rw [half]
  split_ifs <;> rfl

theorem pay3_at (v0 v1 v2 : FVec Ideal S512x128 .f32) (r : Fin 512) (l : Fin 128) :
    k0_pay3 (F := Ideal) v0 v1 v2 (ix2 r l) = Ideal.exp (v0 (ix2 r l) - top (v0 (ix2 r l)) (v1 (ix2 r l)) (v2 (ix2 r l))) := by
  pointwise [k0_pay3, k0_pay2, top]

theorem pay4_at (v0 v1 v2 : FVec Ideal S512x128 .f32) (r : Fin 512) (l : Fin 128) :
    k0_pay4 (F := Ideal) v0 v1 v2 (ix2 r l) = Ideal.exp (v1 (ix2 r l) - top (v0 (ix2 r l)) (v1 (ix2 r l)) (v2 (ix2 r l))) := by
  pointwise [k0_pay4, k0_pay2, top]

theorem pay5_at (v0 v1 v2 : FVec Ideal S512x128 .f32) (r : Fin 512) (l : Fin 128) :
    k0_pay5 (F := Ideal) v0 v1 v2 (ix2 r l) = Ideal.exp (v2 (ix2 r l) - top (v0 (ix2 r l)) (v1 (ix2 r l)) (v2 (ix2 r l))) := by
  pointwise [k0_pay5, k0_pay2, top]

theorem pay6_at (v0 v1 v2 : FVec Ideal S512x128 .f32) (r : Fin 512) (l : Fin 128) :
    k0_pay6 (F := Ideal) v0 v1 v2 (ix2 r l) = Ideal.div 1 (mass (v0 (ix2 r l)) (v1 (ix2 r l)) (v2 (ix2 r l))) := by
  pointwise [k0_pay6, k0_pay5, k0_pay4, k0_pay3, k0_pay2, mass, top]

theorem pay7_at (v0 v1 v2 : FVec Ideal S512x128 .f32) (r : Fin 512) (l : Fin 128) :
    k0_pay7 (F := Ideal) v0 v1 v2 (ix2 r l) = Ideal.exp (v0 (ix2 r l) - top (v0 (ix2 r l)) (v1 (ix2 r l)) (v2 (ix2 r l))) * Ideal.div 1 (mass (v0 (ix2 r l)) (v1 (ix2 r l)) (v2 (ix2 r l))) := by
  pointwise [k0_pay7, k0_pay6, k0_pay5, k0_pay4, k0_pay3, k0_pay2, mass, top]

theorem pay8_at (v0 v1 v2 : FVec Ideal S512x128 .f32) (v17 : FVec Ideal S512x128 .bf16) (r : Fin 512) (l : Fin 128) :
    k0_pay8 (F := Ideal) v0 v1 v2 v17 (ix2 r l) = v17 (ix2 r l) * if l.val < 64 then k0_pay7 (F := Ideal) v0 v1 v2 (ix2 r 0) else k0_pay7 (F := Ideal) v0 v1 v2 (ix2 r 3) := by
  pointwise [k0_pay8]
  rw [sel_half]

theorem pay9_at (v0 v1 v2 : FVec Ideal S512x128 .f32) (v17 : FVec Ideal S512x128 .bf16) (r : Fin 512) (l : Fin 128) :
    k0_pay9 (F := Ideal) v0 v1 v2 v17 (ix2 r l) = v17 (ix2 r l) * if l.val < 64 then k0_pay7 (F := Ideal) v0 v1 v2 (ix2 r 1) else k0_pay7 (F := Ideal) v0 v1 v2 (ix2 r 4) := by
  pointwise [k0_pay9]
  rw [sel_half]

theorem pay10_at (v16 : FVec Ideal S512x128 .f32) (v17 : FVec Ideal S512x128 .bf16) (r : Fin 512) (l : Fin 128) :
    k0_pay10 (F := Ideal) (iota .tc S512x128 32 [1] iota_S512x128_d1_w32) v16 v17 (ix2 r l) = v17 (ix2 r l) * if l.val < 64 then v16 (ix2 r 2) else v16 (ix2 r 5) := by
  pointwise [k0_pay10]
  rw [sel_half]

theorem pay12_at (v8 v14 : FVec Ideal S512x128 .f32) (v17 : FVec Ideal S512x128 .bf16) (r : Fin 512) (l : Fin 128) :
    k0_pay12 (F := Ideal) v8 v14 (iota .tc S512x128 32 [1] iota_S512x128_d1_w32) v17 (ix2 r l) = v17 (ix2 r l) * if l.val < 64 then v8 (ix2 r 0) * v14 (ix2 r 0) else v8 (ix2 r 3) * v14 (ix2 r 3) := by
  pointwise [k0_pay12, k0_pay11]
  rw [sel_half]

theorem pay13_at (v8 v14 : FVec Ideal S512x128 .f32) (v17 : FVec Ideal S512x128 .bf16) (r : Fin 512) (l : Fin 128) :
    k0_pay13 (F := Ideal) v8 v14 (iota .tc S512x128 32 [1] iota_S512x128_d1_w32) v17 (ix2 r l) = v17 (ix2 r l) * if l.val < 64 then v8 (ix2 r 1) * v14 (ix2 r 1) else v8 (ix2 r 4) * v14 (ix2 r 4) := by
  pointwise [k0_pay13, k0_pay11]
  rw [sel_half]

theorem pay15_at (v8 v14 : FVec Ideal S512x128 .f32) (r : Fin 512) (l : Fin 128) :
    k0_pay15 (F := Ideal) v8 v14 (iota .tc S512x128 32 [1] iota_S512x128_d1_w32) (ix2 r l) = if l.val < 64 then v8 (ix2 r 2) * v14 (ix2 r 2) else v8 (ix2 r 5) * v14 (ix2 r 5) := by
  pointwise [k0_pay15, k0_pay11]
  rw [sel_half]

/-- The combined row projected: nine slabs side by side against the projection's rows. -/
theorem pay16_at (v10 v14 : FVec Ideal S512x128 .f32) (v29 v42 v55 v69 v82 : FVec Ideal S512x128 .bf16) (v84 v93 : FVec Ideal S512x128 .f32) (v97 v110 v123 : FVec Ideal S512x128 .bf16) (v138 : FVec Ideal S1152x1024 .bf16) (r : Fin 512) (j : Fin 1024)
    (o0 o1 o2 : Fin 384 → EReal) (w0 w1 w2 : Fin 6 → EReal)
    (e0 : ∀ l, v29 (ix2 r l) = slab o0 w0 0 l) (e1 : ∀ l, v42 (ix2 r l) = slab o0 w0 1 l) (e2 : ∀ l, v55 (ix2 r l) = slab o0 w0 2 l)
    (e3 : ∀ l, v69 (ix2 r l) = slab o1 w1 0 l) (e4 : ∀ l, v82 (ix2 r l) = slab o1 w1 1 l) (e5 : ∀ l, v84 (ix2 r l) * v93 (ix2 r l) = slab o1 w1 2 l)
    (e6 : ∀ l : Fin 128, (v97 (ix2 r l) * if l.val < 64 then v10 (ix2 r 0) * v14 (ix2 r 0) else v10 (ix2 r 3) * v14 (ix2 r 3)) = slab o2 w2 0 l)
    (e7 : ∀ l : Fin 128, (v110 (ix2 r l) * if l.val < 64 then v10 (ix2 r 1) * v14 (ix2 r 1) else v10 (ix2 r 4) * v14 (ix2 r 4)) = slab o2 w2 1 l)
    (e8 : ∀ l : Fin 128, (v123 (ix2 r l) * if l.val < 64 then v10 (ix2 r 2) * v14 (ix2 r 2) else v10 (ix2 r 5) * v14 (ix2 r 5)) = slab o2 w2 2 l) :
    k0_pay16 (F := Ideal) v10 v14 (iota .tc S512x128 32 [1] iota_S512x128_d1_w32) v29 v42 v55 v69 v82 v84 v93 v97 v110 v123 v138 (ix2 r j)
      = ∑ k : Fin 1152, comb o0 o1 o2 w0 w1 w2 k * v138 (ix2 k j) := by
  pointwise [k0_pay16]
  exact Finset.sum_congr rfl fun k _ => Ideal.mul_congr (nine o0 o1 o2 w0 w1 w2 (fun l => v29 (ix2 r l)) (fun l => v42 (ix2 r l)) (fun l => v55 (ix2 r l)) (fun l => v69 (ix2 r l)) (fun l => v82 (ix2 r l)) (fun l => v84 (ix2 r l) * v93 (ix2 r l))
    (fun l => v97 (ix2 r l) * Scalar.select (IntOp.cmpi .slt (BitVec.ofNat 32 l.val) 64#32) (v10 (ix2 r 0) * v14 (ix2 r 0)) (v10 (ix2 r 3) * v14 (ix2 r 3)))
    (fun l => v110 (ix2 r l) * Scalar.select (IntOp.cmpi .slt (BitVec.ofNat 32 l.val) 64#32) (v10 (ix2 r 1) * v14 (ix2 r 1)) (v10 (ix2 r 4) * v14 (ix2 r 4)))
    (fun l => v123 (ix2 r l) * Scalar.select (IntOp.cmpi .slt (BitVec.ofNat 32 l.val) 64#32) (v10 (ix2 r 2) * v14 (ix2 r 2)) (v10 (ix2 r 5) * v14 (ix2 r 5)))
    e0 e1 e2 e3 e4 e5 (fun l => (Ideal.mul_congr rfl (sel_half l _ _)).trans (e6 l)) (fun l => (Ideal.mul_congr rfl (sel_half l _ _)).trans (e7 l)) (fun l => (Ideal.mul_congr rfl (sel_half l _ _)).trans (e8 l)) k) rfl

theorem pay17_at (v137 v139 : FVec Ideal S512x1024 .f32) (r : Fin 512) (j : Fin 1024) :
    k0_pay17 (F := Ideal) v137 v139 (ix2 r j) = v137 (ix2 r j) + v139 (ix2 r j) := by
  pointwise [k0_pay17]

theorem pay18_at (v137 v139 : FVec Ideal S512x1024 .f32) (v141 : FVec Ideal S1x1024 .f32) (r : Fin 512) (j : Fin 1024) :
    k0_pay18 (F := Ideal) v137 v139 v141 (ix2 r j) = rms (fun j => v137 (ix2 r j) + v139 (ix2 r j)) (fun j => v141 (ix2 0 j)) j := by
  pointwise [k0_pay18, k0_pay17, rms]

theorem pay19_at (v137 v139 : FVec Ideal S512x1024 .f32) (v141 : FVec Ideal S1x1024 .f32) (v156 v159 : FVec Ideal S1024x512 .bf16) (v166 : FVec Ideal S512x1024 .bf16) (r : Fin 512) (j : Fin 1024) :
    k0_pay19 (F := Ideal) v137 v139 v141 v156 v159 v166 (ix2 r j) = (∑ k : Fin 512, hid (fun a => k0_pay18 (F := Ideal) v137 v139 v141 (ix2 r a)) (fun a => v156 (ix2 a k)) (fun a => v159 (ix2 a k)) * v166 (ix2 k j)) := by
  pointwise [k0_pay19, hid]

theorem pay20_at (v137 v139 : FVec Ideal S512x1024 .f32) (v141 : FVec Ideal S1x1024 .f32) (v169 v172 : FVec Ideal S1024x512 .bf16) (r k : Fin 512) :
    k0_pay20 (F := Ideal) v137 v139 v141 v169 v172 (ix2 r k) = hid (fun a => k0_pay18 (F := Ideal) v137 v139 v141 (ix2 r a)) (fun a => v169 (ix2 a k)) (fun a => v172 (ix2 a k)) := by
  pointwise [k0_pay20, hid]

theorem pay21_at (v155 : FVec Ideal S512x1024 .bf16) (v168 : FVec Ideal S512x1024 .f32) (v178 : FVec Ideal S512x512 .bf16) (v179 : FVec Ideal S512x1024 .bf16) (v183 v186 : FVec Ideal S1024x512 .bf16) (v193 : FVec Ideal S512x1024 .bf16) (v197 v200 : FVec Ideal S1024x512 .bf16) (v207 : FVec Ideal S512x1024 .bf16) (r : Fin 512) (j : Fin 1024) :
    k0_pay21 (F := Ideal) v155 v168 v178 v179 v183 v186 v193 v197 v200 v207 (ix2 r j)
      = v168 (ix2 r j) + (∑ k : Fin 512, v178 (ix2 r k) * v179 (ix2 k j)) + (∑ k : Fin 512, hid (fun a => v155 (ix2 r a)) (fun a => v183 (ix2 a k)) (fun a => v186 (ix2 a k)) * v193 (ix2 k j)) + (∑ k : Fin 512, hid (fun a => v155 (ix2 r a)) (fun a => v197 (ix2 a k)) (fun a => v200 (ix2 a k)) * v207 (ix2 k j)) := by
  pointwise [k0_pay21, hid]

theorem pay23_at (v140 : FVec Ideal S512x1024 .f32) (v155 : FVec Ideal S512x1024 .bf16) (v210 : FVec Ideal S512x1024 .f32) (v211 v214 : FVec Ideal S1024x512 .bf16) (v221 : FVec Ideal S512x1024 .bf16) (v225 v228 : FVec Ideal S1024x256 .bf16) (v235 : FVec Ideal S256x1024 .bf16) (r : Fin 512) (j : Fin 1024) :
    k0_pay23 (F := Ideal) v140 v155 v210 (k0_pay22 v155 v211) v214 v221 v225 v228 v235 (ix2 r j)
      = v140 (ix2 r j) + (v210 (ix2 r j) + (∑ k : Fin 512, hid (fun a => v155 (ix2 r a)) (fun a => v211 (ix2 a k)) (fun a => v214 (ix2 a k)) * v221 (ix2 k j)) + (∑ k : Fin 256, hid (fun a => v155 (ix2 r a)) (fun a => v225 (ix2 a k)) (fun a => v228 (ix2 a k)) * v235 (ix2 k j))) := by
  pointwise [k0_pay23, k0_pay22, hid]

theorem pay1_at (v140 : FVec Ideal S512x1024 .f32) (v155 : FVec Ideal S512x1024 .bf16) (v210 : FVec Ideal S512x1024 .f32) (v213 : FVec Ideal S512x512 .f32) (v214 : FVec Ideal S1024x512 .bf16) (v221 : FVec Ideal S512x1024 .bf16) (v225 v228 : FVec Ideal S1024x256 .bf16) (v235 : FVec Ideal S256x1024 .bf16)
    (v240 : FVec Ideal S1x1024 .f32) (v255 : FVec Ideal S1024x1024 .bf16) (v259 : FVec Ideal S1x512x256 .f32) (v262 : FVec Ideal S256x1024 .bf16) (r : Fin 512) (j : Fin 1024) :
    k0_pay1 (F := Ideal) (k0_pay23 v140 v155 v210 v213 v214 v221 v225 v228 v235) (k0_pay24 v140 v155 v210 v213 v214 v221 v225 v228 v235 v240) v255 v259 v262 (ix2 r j)
      = gate (fun j => k0_pay23 (F := Ideal) v140 v155 v210 v213 v214 v221 v225 v228 v235 (ix2 r j)) (fun j => v240 (ix2 0 j)) (fun k j => v255 (ix2 k j)) (fun k => v259 (ix3 0 r k)) (fun k j => v262 (ix2 k j)) j := by
  pointwise [k0_pay1, k0_pay24, gate, rms]

end Cert.PostBIdeal.Pure
-- ==== Proof.PostBOut.lean ====
module

public import proofs.«01_k».proof.Proof.Gen.PostBIdeal.Frame
public import proofs.«01_k».proof.Proof.PostBPure
public import Idealize.ShloMosaic.Lib.Pipeline.ValueKit

@[expose] public section

set_option maxRecDepth 16384

noncomputable section

open Idealize.ShloMosaic Idealize.ShloMosaic.TcCoe Idealize.SL.Sem

namespace Cert.PostBIdeal.Pure

open Cert.PostBIdeal Cert.PostBIdeal.Gen Cert.Layer

variable (x0 : FVec Ideal S512x1024 .f32) (x1 x2 x3 : FVec Ideal S512x384 .bf16) (x4 x5 x6 : FVec Ideal S512x128 .f32) (x7 : FVec Ideal S1x512x256 .f32) (x8 : FVec Ideal S1152x1024 .bf16) (x9 : FVec Ideal S1x1024 .f32) (x10 x11 : FVec Ideal S1024x2816 .bf16) (x12 : FVec Ideal S2816x1024 .bf16) (x13 : FVec Ideal S1x1024 .f32) (x14 : FVec Ideal S1024x1024 .bf16) (x15 : FVec Ideal S256x1024 .bf16) (r : Fin 512) (j : Fin 1024)

/-- The first group's slabs weighted, at the blocks. -/
theorem sl0_at (l : Fin 128) : k0_pay8 (F := Ideal) (View.ld x4 r0_0) (View.ld x5 r0_0) (View.ld x6 r0_0) (View.ld x1 r0_1) (ix2 r l) = slab (fun c => x1 (ix2 r c)) (recip (fun c => x4 (ix2 r c)) (fun c => x4 (ix2 r c)) (fun c => x5 (ix2 r c)) (fun c => x6 (ix2 r c))) 0 l := by
  rw [pay8_at, pay7_at, pay7_at]
  pointwise [slab, recip]

theorem sl1_at (l : Fin 128) : k0_pay9 (F := Ideal) (View.ld x4 r0_0) (View.ld x5 r0_0) (View.ld x6 r0_0) (View.ld x1 r0_2) (ix2 r l) = slab (fun c => x1 (ix2 r c)) (recip (fun c => x4 (ix2 r c)) (fun c => x4 (ix2 r c)) (fun c => x5 (ix2 r c)) (fun c => x6 (ix2 r c))) 1 l := by
  rw [pay9_at, pay7_at, pay7_at]
  pointwise [slab, recip]

theorem sl2_at (l : Fin 128) : k0_pay10 (F := Ideal) (iota .tc S512x128 32 [1] iota_S512x128_d1_w32) (k0_pay7 (View.ld x4 r0_0) (View.ld x5 r0_0) (View.ld x6 r0_0)) (View.ld x1 r0_3) (ix2 r l) = slab (fun c => x1 (ix2 r c)) (recip (fun c => x4 (ix2 r c)) (fun c => x4 (ix2 r c)) (fun c => x5 (ix2 r c)) (fun c => x6 (ix2 r c))) 2 l := by
  rw [pay10_at, pay7_at, pay7_at]
  pointwise [slab, recip]

theorem sl3_at (l : Fin 128) : k0_pay12 (F := Ideal) (k0_pay4 (View.ld x4 r0_0) (View.ld x5 r0_0) (View.ld x6 r0_0)) (k0_pay6 (View.ld x4 r0_0) (View.ld x5 r0_0) (View.ld x6 r0_0)) (iota .tc S512x128 32 [1] iota_S512x128_d1_w32) (View.ld x2 r0_1) (ix2 r l) = slab (fun c => x2 (ix2 r c)) (recip (fun c => x5 (ix2 r c)) (fun c => x4 (ix2 r c)) (fun c => x5 (ix2 r c)) (fun c => x6 (ix2 r c))) 0 l := by
  rw [pay12_at, pay4_at, pay4_at, pay6_at, pay6_at]
  pointwise [slab, recip]

theorem sl4_at (l : Fin 128) : k0_pay13 (F := Ideal) (k0_pay4 (View.ld x4 r0_0) (View.ld x5 r0_0) (View.ld x6 r0_0)) (k0_pay6 (View.ld x4 r0_0) (View.ld x5 r0_0) (View.ld x6 r0_0)) (iota .tc S512x128 32 [1] iota_S512x128_d1_w32) (View.ld x2 r0_2) (ix2 r l) = slab (fun c => x2 (ix2 r c)) (recip (fun c => x5 (ix2 r c)) (fun c => x4 (ix2 r c)) (fun c => x5 (ix2 r c)) (fun c => x6 (ix2 r c))) 1 l := by
  rw [pay13_at, pay4_at, pay4_at, pay6_at, pay6_at]
  pointwise [slab, recip]

theorem sl5_at (l : Fin 128) : k0_pay14 (F := Ideal) (View.ld x2 r0_3) (ix2 r l) * k0_pay15 (F := Ideal) (k0_pay4 (View.ld x4 r0_0) (View.ld x5 r0_0) (View.ld x6 r0_0)) (k0_pay6 (View.ld x4 r0_0) (View.ld x5 r0_0) (View.ld x6 r0_0)) (iota .tc S512x128 32 [1] iota_S512x128_d1_w32) (ix2 r l) = slab (fun c => x2 (ix2 r c)) (recip (fun c => x5 (ix2 r c)) (fun c => x4 (ix2 r c)) (fun c => x5 (ix2 r c)) (fun c => x6 (ix2 r c))) 2 l := by
  rw [pay15_at, pay4_at, pay4_at, pay6_at, pay6_at]
  unfold k0_pay14
  pointwise [slab, recip]

theorem sl6_at (l : Fin 128) : ((show EReal from (View.ld x3 r0_1 : Vec Ideal S512x128 .bf16) (ix2 r l)) * if l.val < 64 then k0_pay5 (F := Ideal) (View.ld x4 r0_0) (View.ld x5 r0_0) (View.ld x6 r0_0) (ix2 r 0) * k0_pay6 (F := Ideal) (View.ld x4 r0_0) (View.ld x5 r0_0) (View.ld x6 r0_0) (ix2 r 0) else k0_pay5 (F := Ideal) (View.ld x4 r0_0) (View.ld x5 r0_0) (View.ld x6 r0_0) (ix2 r 3) * k0_pay6 (F := Ideal) (View.ld x4 r0_0) (View.ld x5 r0_0) (View.ld x6 r0_0) (ix2 r 3)) = slab (fun c => x3 (ix2 r c)) (recip (fun c => x6 (ix2 r c)) (fun c => x4 (ix2 r c)) (fun c => x5 (ix2 r c)) (fun c => x6 (ix2 r c))) 0 l := by
  rw [pay5_at, pay5_at, pay6_at, pay6_at]
  pointwise [slab, recip]

theorem sl7_at (l : Fin 128) : ((show EReal from (View.ld x3 r0_2 : Vec Ideal S512x128 .bf16) (ix2 r l)) * if l.val < 64 then k0_pay5 (F := Ideal) (View.ld x4 r0_0) (View.ld x5 r0_0) (View.ld x6 r0_0) (ix2 r 1) * k0_pay6 (F := Ideal) (View.ld x4 r0_0) (View.ld x5 r0_0) (View.ld x6 r0_0) (ix2 r 1) else k0_pay5 (F := Ideal) (View.ld x4 r0_0) (View.ld x5 r0_0) (View.ld x6 r0_0) (ix2 r 4) * k0_pay6 (F := Ideal) (View.ld x4 r0_0) (View.ld x5 r0_0) (View.ld x6 r0_0) (ix2 r 4)) = slab (fun c => x3 (ix2 r c)) (recip (fun c => x6 (ix2 r c)) (fun c => x4 (ix2 r c)) (fun c => x5 (ix2 r c)) (fun c => x6 (ix2 r c))) 1 l := by
  rw [pay5_at, pay5_at, pay6_at, pay6_at]
  pointwise [slab, recip]

theorem sl8_at (l : Fin 128) : ((show EReal from (View.ld x3 r0_3 : Vec Ideal S512x128 .bf16) (ix2 r l)) * if l.val < 64 then k0_pay5 (F := Ideal) (View.ld x4 r0_0) (View.ld x5 r0_0) (View.ld x6 r0_0) (ix2 r 2) * k0_pay6 (F := Ideal) (View.ld x4 r0_0) (View.ld x5 r0_0) (View.ld x6 r0_0) (ix2 r 2) else k0_pay5 (F := Ideal) (View.ld x4 r0_0) (View.ld x5 r0_0) (View.ld x6 r0_0) (ix2 r 5) * k0_pay6 (F := Ideal) (View.ld x4 r0_0) (View.ld x5 r0_0) (View.ld x6 r0_0) (ix2 r 5)) = slab (fun c => x3 (ix2 r c)) (recip (fun c => x6 (ix2 r c)) (fun c => x4 (ix2 r c)) (fun c => x5 (ix2 r c)) (fun c => x6 (ix2 r c))) 2 l := by
  rw [pay5_at, pay5_at, pay6_at, pay6_at]
  pointwise [slab, recip]

/-- The combined row projected, at the blocks. -/
theorem c_at : k0_pay28 (F := Ideal) x0 x1 x2 x3 x4 x5 x6 x7 x8 x9 x10 x11 x12 x13 x14 x15 (ix2 r j) = ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j) := by
  unfold k0_pay28 k0_pay27 k0_pay26 k0_pay25
  refine (pay16_at _ _ _ _ _ _ _ _ _ _ _ _ _ r j (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c)))
    (sl0_at x1 x4 x5 x6 r) (sl1_at x1 x4 x5 x6 r) (sl2_at x1 x4 x5 x6 r) (sl3_at x2 x4 x5 x6 r) (sl4_at x2 x4 x5 x6 r) (sl5_at x2 x4 x5 x6 r) (sl6_at x3 x4 x5 x6 r) (sl7_at x3 x4 x5 x6 r) (sl8_at x3 x4 x5 x6 r)).trans ?_
  pointwise

/-- The residual of a row, at the blocks. -/
theorem h_at : k0_pay29 (F := Ideal) x0 x1 x2 x3 x4 x5 x6 x7 x8 x9 x10 x11 x12 x13 x14 x15 (ix2 r j) = (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) j := by
  unfold k0_pay29
  refine (pay17_at _ _ r j).trans ?_
  rw [c_at]
  pointwise

/-- The normed row, before the blocks' residual is spelt out. -/
theorem n0_at : k0_pay18 (F := Ideal) (View.ld x0 r0_4) (k0_pay28 x0 x1 x2 x3 x4 x5 x6 x7 x8 x9 x10 x11 x12 x13 x14 x15) (View.ld x9 r0_6) (ix2 r j) = (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) j := by
  refine (pay18_at _ _ _ r j).trans ?_
  simp only [c_at]
  pointwise [rms]

/-- The normed row, at the blocks. -/
theorem n_at : k0_pay30 (F := Ideal) x0 x1 x2 x3 x4 x5 x6 x7 x8 x9 x10 x11 x12 x13 x14 x15 (ix2 r j) = (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) j := by
  unfold k0_pay30
  exact n0_at x0 x1 x2 x3 x4 x5 x6 x7 x8 x9 x10 x11 x12 x13 x14 x15 r j

/-- The first four stretches of the feed-forward, at the blocks. -/
theorem f_at : k0_pay31 (F := Ideal) x0 x1 x2 x3 x4 x5 x6 x7 x8 x9 x10 x11 x12 x13 x14 x15 (ix2 r j)
    = part 512 0 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) + part 512 512 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) + part 512 1024 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) + part 512 1536 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) := by
  have e : ∀ j, _ = _ := n_at x0 x1 x2 x3 x4 x5 x6 x7 x8 x9 x10 x11 x12 x13 x14 x15 r
  have e0 : ∀ j, _ = _ := n0_at x0 x1 x2 x3 x4 x5 x6 x7 x8 x9 x10 x11 x12 x13 x14 x15 r
  unfold k0_pay31
  refine (pay21_at _ _ _ _ _ _ _ _ _ _ r j).trans ?_
  rw [pay19_at]
  simp only [pay20_at, e, e0]
  pointwise [part, hid]

/-- The row after its feed-forward, at the blocks. -/
theorem y_at : k0_pay23 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15) (k0_pay32 x0 x1 x2 x3 x4 x5 x6 x7 x8 x9 x10 x11 x12 x13 x14 x15) (View.ld x11 r0_15) (View.ld x12 r0_16) (View.ld x10 r0_17) (View.ld x11 r0_17) (View.ld x12 r0_18) (ix2 r j) = mid (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j)) (fun a k => x10 (ix2 a k)) (fun a k => x11 (ix2 a k)) (fun k j => x12 (ix2 k j)) j := by
  have e : ∀ j, _ = _ := n_at x0 x1 x2 x3 x4 x5 x6 x7 x8 x9 x10 x11 x12 x13 x14 x15 r
  unfold k0_pay32
  refine (pay23_at _ _ _ _ _ _ _ _ _ r j).trans ?_
  rw [h_at, f_at]
  unfold mid
  rw [ffn_parts]
  simp only [e]
  pointwise [part, hid]

/-- What a grid point stores, from the blocks it reads: the layer's arithmetic on each row. -/
theorem out_at :
    out0_16 (F := Ideal) x0 x1 x2 x3 x4 x5 x6 x7 x8 x9 x10 x11 x12 x13 x14 x15 (ix2 r j)
      = gate (mid (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j)) (fun a k => x10 (ix2 a k)) (fun a k => x11 (ix2 a k)) (fun k j => x12 (ix2 k j)))
          (fun j => x13 (ix2 0 j)) (fun k j => x14 (ix2 k j)) (fun k => x7 (ix3 0 r k)) (fun k j => x15 (ix2 k j)) j := by
  frame_out
  refine (pay1_at _ _ _ _ _ _ _ _ _ _ _ _ _ r j).trans ?_
  exact congrArg (fun y => gate y _ _ _ _ j) (funext fun j => y_at x0 x1 x2 x3 x4 x5 x6 x7 x8 x9 x10 x11 x12 x13 x14 x15 r j)

end Cert.PostBIdeal.Pure
-- ==== Proof.PostBRef.lean ====
module

public import proofs.«01_k».proof.Proof.Gen.PostBRefIdeal.Read
public import proofs.«01_k».proof.Proof.PostBRow

@[expose] public section

set_option maxRecDepth 16384

noncomputable section

open Idealize.ShloMosaic Idealize.ShloMosaic.TcCoe Idealize.SL.Sem

namespace Cert.PostBRefIdeal.Pure

open Cert.PostBRefIdeal Cert.PostBRefIdeal.Gen Cert.PostBRefIdeal.Read Cert.Layer

variable (x0 : FVec Ideal S65536x1024 .f32) (x1 x2 x3 : FVec Ideal S65536x384 .bf16) (x4 x5 x6 : FVec Ideal S65536x128 .f32) (x7 : FVec Ideal S2x65536x256 .f32) (x8 : FVec Ideal S1152x1024 .bf16) (x9 : FVec Ideal S2x1024 .f32) (x10 x11 : FVec Ideal S2x1024x2816 .f32) (x12 : FVec Ideal S2x2816x1024 .f32) (x13 : FVec Ideal S2x1024 .f32) (x14 : FVec Ideal S2x1024x1024 .f32) (x15 : FVec Ideal S2x256x1024 .f32) (t : Fin 65536) (j : Fin 1024)

theorem v2_at (a : Fin 3) (b : Fin 2) : val_main_v2 (F := Ideal) x4 (ix3 t a b) = x4 (ix2 t ⟨b.val * 3 + a.val, by omega⟩) := by
  pointwise [val_main_v2, val_main_v1, val_main_v0]

theorem v5_at (a : Fin 3) (b : Fin 2) : val_main_v5 (F := Ideal) x5 (ix3 t a b) = x5 (ix2 t ⟨b.val * 3 + a.val, by omega⟩) := by
  pointwise [val_main_v5, val_main_v4, val_main_v3]

theorem v8_at (a : Fin 3) (b : Fin 2) : val_main_v8 (F := Ideal) x6 (ix3 t a b) = x6 (ix2 t ⟨b.val * 3 + a.val, by omega⟩) := by
  pointwise [val_main_v8, val_main_v7, val_main_v6]

/-- The three logsumexps of a head, laid along an axis. -/
theorem v12_at (a : Fin 3) (b : Fin 2) (g : Fin 3) : val_main_v12 (F := Ideal) x4 x5 x6 (ix4 g t a b)
    = if g.val = 0 then x4 (ix2 t ⟨b.val * 3 + a.val, by omega⟩) else if g.val = 1 then x5 (ix2 t ⟨b.val * 3 + a.val, by omega⟩) else x6 (ix2 t ⟨b.val * 3 + a.val, by omega⟩) := by
  pointwise [val_main_v12, val_main_v11, val_main_v10, val_main_v9]
  rw [v2_at, v5_at, v8_at]
  have hg := g.isLt
  split_ifs <;> first | rfl | omega

theorem ninf : Ideal.ofBits .f32 4286578688#32 = ⊥ := by
  simp [Ideal.ofBits, Ideal.ieee]

theorem v13_at (a : Fin 3) (b : Fin 2) : val_main_v13 (F := Ideal) x4 x5 x6 (ix3 t a b) = top (x4 (ix2 t ⟨b.val * 3 + a.val, by omega⟩)) (x5 (ix2 t ⟨b.val * 3 + a.val, by omega⟩)) (x6 (ix2 t ⟨b.val * 3 + a.val, by omega⟩)) := by
  have e : ∀ g, _ = _ := v12_at x4 x5 x6 t a b
  pointwise [val_main_v13, val_main_cst]
  rw [ninf, show (Finset.univ : Finset (Fin 3)) = {0, 1, 2} from rfl, Finset.fold_insert (by decide), Finset.fold_insert (by decide), Finset.fold_singleton, max_bot_right]
  simp only [e]
  exact (max_assoc _ _ _).symm

/-- The greatest of them. -/
theorem v15_at (a : Fin 3) (b : Fin 2) : val_main_v15 (F := Ideal) x4 x5 x6 (ix3 t a b) = top (x4 (ix2 t ⟨b.val * 3 + a.val, by omega⟩)) (x5 (ix2 t ⟨b.val * 3 + a.val, by omega⟩)) (x6 (ix2 t ⟨b.val * 3 + a.val, by omega⟩)) := by
  have e : val_main_v13 (F := Ideal) x4 x5 x6 (ix3 t a b) = _ := v13_at x4 x5 x6 t a b
  pointwise [val_main_v15, val_main_v14, val_main_cst_0]
  rw [e, ninf, max_bot_left]

/-- A group's share of the mass at a head. -/
theorem v23_at (a : Fin 3) (b : Fin 2) (g : Fin 3) : val_main_v23 (F := Ideal) x4 x5 x6 (ix4 g t a b)
    = Ideal.div (Ideal.exp ((if g.val = 0 then x4 (ix2 t ⟨b.val * 3 + a.val, by omega⟩) else if g.val = 1 then x5 (ix2 t ⟨b.val * 3 + a.val, by omega⟩) else x6 (ix2 t ⟨b.val * 3 + a.val, by omega⟩)) - top (x4 (ix2 t ⟨b.val * 3 + a.val, by omega⟩)) (x5 (ix2 t ⟨b.val * 3 + a.val, by omega⟩)) (x6 (ix2 t ⟨b.val * 3 + a.val, by omega⟩)))) (mass (x4 (ix2 t ⟨b.val * 3 + a.val, by omega⟩)) (x5 (ix2 t ⟨b.val * 3 + a.val, by omega⟩)) (x6 (ix2 t ⟨b.val * 3 + a.val, by omega⟩))) := by
  have e : ∀ a b, _ = _ := v15_at x4 x5 x6 t
  pointwise [val_main_v23, val_main_v22, val_main_v21, val_main_v20, val_main_v19, val_main_v18, val_main_v17, val_main_v16, val_main_cst_1]
  simp only [e, v12_at, Fin.sum_univ_three]
  simp [mass]

theorem v23_0 (a : Fin 3) (b : Fin 2) : val_main_v23 (F := Ideal) x4 x5 x6 (ix4 0 t a b) = (share (fun c => x4 (ix2 t c)) (fun c => x4 (ix2 t c)) (fun c => x5 (ix2 t c)) (fun c => x6 (ix2 t c))) ⟨b.val * 3 + a.val, by omega⟩ := v23_at x4 x5 x6 t a b 0

theorem v23_1 (a : Fin 3) (b : Fin 2) : val_main_v23 (F := Ideal) x4 x5 x6 (ix4 1 t a b) = (share (fun c => x5 (ix2 t c)) (fun c => x4 (ix2 t c)) (fun c => x5 (ix2 t c)) (fun c => x6 (ix2 t c))) ⟨b.val * 3 + a.val, by omega⟩ := v23_at x4 x5 x6 t a b 1

theorem v23_2 (a : Fin 3) (b : Fin 2) : val_main_v23 (F := Ideal) x4 x5 x6 (ix4 2 t a b) = (share (fun c => x6 (ix2 t c)) (fun c => x4 (ix2 t c)) (fun c => x5 (ix2 t c)) (fun c => x6 (ix2 t c))) ⟨b.val * 3 + a.val, by omega⟩ := v23_at x4 x5 x6 t a b 2

/-- The combined row. -/
theorem v46_at (k : Fin 1152) : val_main_v46 (F := Ideal) x1 x2 x3 x4 x5 x6 (ix2 t k) = comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24]
  exact three (fun c => x1 (ix2 t c)) (fun c => x2 (ix2 t c)) (fun c => x3 (ix2 t c)) _ _ _ (fun a b => val_main_v23 (F := Ideal) x4 x5 x6 (ix4 0 t a b)) (fun a b => val_main_v23 (F := Ideal) x4 x5 x6 (ix4 1 t a b)) (fun a b => val_main_v23 (F := Ideal) x4 x5 x6 (ix4 2 t a b))
    (v23_0 x4 x5 x6 t) (v23_1 x4 x5 x6 t) (v23_2 x4 x5 x6 t) k

/-- The residual: the row plus the projected attention. -/
theorem v49_at : val_main_v49 (F := Ideal) x0 x1 x2 x3 x4 x5 x6 x8 (ix2 t j) = (fun j => x0 (ix2 t j) + ∑ k : Fin 1152, comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k * x8 (ix2 k j)) j := by
  have e : ∀ k, _ = _ := v46_at x1 x2 x3 x4 x5 x6 t
  pointwise [val_main_v49, val_main_v48, val_main_v47]
  simp only [e]

/-- The first norm. -/
theorem v64_at : val_main_v64 (F := Ideal) x0 x1 x2 x3 x4 x5 x6 x8 x9 (ix2 t j)
    = rms (fun j => val_main_v49 (F := Ideal) x0 x1 x2 x3 x4 x5 x6 x8 (ix2 t j)) (fun j => x9 (ix2 1 j)) j := by
  pointwise [val_main_v64, val_main_v63, val_main_v62, val_main_v61, val_main_v60, val_main_v59, val_main_v58, val_main_v57, val_main_v56, val_main_v55, val_main_v54, val_main_v53, val_main_v52, val_main_v51, val_main_v50, val_main_cst_2, val_main_cst_3, val_main_cst_4, rms]

/-- One hidden unit of the feed-forward. -/
theorem v74_at (k : Fin 2816) : val_main_v74 (F := Ideal) x0 x1 x2 x3 x4 x5 x6 x8 x9 x10 x11 (ix2 t k)
    = hid (fun a => val_main_v64 (F := Ideal) x0 x1 x2 x3 x4 x5 x6 x8 x9 (ix2 t a)) (fun a => x10 (ix3 1 a k)) (fun a => x11 (ix3 1 a k)) := by
  pointwise [val_main_v74, val_main_v73, val_main_v72, val_main_v71, val_main_call0_v5, val_main_call0_v4, val_main_call0_v3, val_main_call0_v2, val_main_call0_v1, val_main_call0_v0, val_main_call0_cst, val_main_call0_cst_0, val_main_v68, val_main_v67, val_main_v66, val_main_v65, hid, Ideal.logistic]

/-- The row after its feed-forward. -/
theorem v76_at : val_main_v76 (F := Ideal) x0 x1 x2 x3 x4 x5 x6 x8 x9 x10 x11 x12 (ix2 t j) = mid (fun j => x0 (ix2 t j) + ∑ k : Fin 1152, comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k * x8 (ix2 k j)) (fun j => x9 (ix2 1 j)) (fun a k => x10 (ix3 1 a k)) (fun a k => x11 (ix3 1 a k)) (fun k j => x12 (ix3 1 k j)) j := by
  have e3 : ∀ j, _ = _ := v49_at x0 x1 x2 x3 x4 x5 x6 x8 t
  have e18 : ∀ j, _ = _ := v64_at x0 x1 x2 x3 x4 x5 x6 x8 x9 t
  have e28 : ∀ j, _ = _ := v74_at x0 x1 x2 x3 x4 x5 x6 x8 x9 x10 x11 t
  pointwise [val_main_v76, val_main_v75, val_main_v70, val_main_v69, mid, ffn]
  simp only [e28, e18, e3]

/-- The second norm. -/
theorem v91_at : val_main_v91 (F := Ideal) x0 x1 x2 x3 x4 x5 x6 x8 x9 x10 x11 x12 x13 (ix2 t j)
    = rms (fun j => val_main_v76 (F := Ideal) x0 x1 x2 x3 x4 x5 x6 x8 x9 x10 x11 x12 (ix2 t j)) (fun j => x13 (ix2 1 j)) j := by
  pointwise [val_main_v91, val_main_v90, val_main_v89, val_main_v88, val_main_v87, val_main_v86, val_main_v85, val_main_v84, val_main_v83, val_main_v82, val_main_v81, val_main_v80, val_main_v79, val_main_v78, val_main_v77, val_main_cst_5, val_main_cst_6, val_main_cst_7, rms]

/-- The reference's result at an element. -/
theorem res_at : val_main_v107 (F := Ideal) x0 x1 x2 x3 x4 x5 x6 x7 x8 x9 x10 x11 x12 x13 x14 x15 (ix2 t j)
    = gate (mid (fun j => x0 (ix2 t j) + ∑ k : Fin 1152, comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k * x8 (ix2 k j)) (fun j => x9 (ix2 1 j)) (fun a k => x10 (ix3 1 a k)) (fun a k => x11 (ix3 1 a k)) (fun k j => x12 (ix3 1 k j)))
        (fun j => x13 (ix2 1 j)) (fun k j => x14 (ix3 1 k j)) (fun k => x7 (ix3 1 t k)) (fun k j => x15 (ix3 1 k j)) j := by
  have e45 : ∀ j, _ = _ := v91_at x0 x1 x2 x3 x4 x5 x6 x8 x9 x10 x11 x12 x13 t
  have e30 : ∀ j, _ = _ := v76_at x0 x1 x2 x3 x4 x5 x6 x8 x9 x10 x11 x12 t
  pointwise [val_main_v107, val_main_v106, val_main_v105, val_main_v104, val_main_v103, val_main_v102, val_main_v101, val_main_v100, val_main_v99, val_main_v98, val_main_v97, val_main_v96, val_main_v95, val_main_v94, val_main_v93, val_main_v92, val_main_cst_8, val_main_cst_9, gate, Ideal.logistic]
  simp only [e45, e30]

end Cert.PostBRefIdeal.Pure
-- ==== Proof.PostBValue.lean ====
module

public import proofs.«01_k».proof.Proof.PostBOut
public import proofs.«01_k».proof.Proof.PostBRef

@[expose] public section

set_option maxRecDepth 16384

noncomputable section

open Idealize.ShloMosaic Idealize.ShloMosaic.TcCoe Idealize.SL.Sem
open Idealize.ShloMosaic.Pipeline (Dat)

namespace Cert.PostBIdeal.Pure

open Cert.PostBIdeal Cert.PostBIdeal.Gen Cert.Layer

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![1, t.val, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0] :=
  (by decide +kernel : ∀ t : Fin grid0.N, _)

/-- The reference's result over the kernel's arguments. -/
abbrev REF (c : Dev nD) : FVec Ideal S65536x1024 .f32 :=
  Cert.PostBRefIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

theorem rd0 (c : Dev nD) (t : Fin cfg0.N) (r : Fin 512) (q : Fin 65536) (hq : q.val = t.val * 512 + r.val) (j : Fin 1024) :
    (show FVec Ideal S512x1024 .f32 from iblk m c 0 t) (ix2 r j) = (show EReal from m ((c.tc : Thread nD τ).loc main_arg0) (ix2 q j)) := by
  blk_point [iblk, idx t]

theorem rd1 (c : Dev nD) (t : Fin cfg0.N) (r : Fin 512) (q : Fin 65536) (hq : q.val = t.val * 512 + r.val) (j : Fin 384) :
    (show FVec Ideal S512x384 .bf16 from iblk m c 1 t) (ix2 r j) = (show EReal from m ((c.tc : Thread nD τ).loc main_arg1) (ix2 q j)) := by
  blk_point [iblk, idx t]

theorem rd2 (c : Dev nD) (t : Fin cfg0.N) (r : Fin 512) (q : Fin 65536) (hq : q.val = t.val * 512 + r.val) (j : Fin 384) :
    (show FVec Ideal S512x384 .bf16 from iblk m c 2 t) (ix2 r j) = (show EReal from m ((c.tc : Thread nD τ).loc main_arg2) (ix2 q j)) := by
  blk_point [iblk, idx t]

theorem rd3 (c : Dev nD) (t : Fin cfg0.N) (r : Fin 512) (q : Fin 65536) (hq : q.val = t.val * 512 + r.val) (j : Fin 384) :
    (show FVec Ideal S512x384 .bf16 from iblk m c 3 t) (ix2 r j) = (show EReal from m ((c.tc : Thread nD τ).loc main_arg3) (ix2 q j)) := by
  blk_point [iblk, idx t]

theorem rd4 (c : Dev nD) (t : Fin cfg0.N) (r : Fin 512) (q : Fin 65536) (hq : q.val = t.val * 512 + r.val) (j : Fin 128) :
    (show FVec Ideal S512x128 .f32 from iblk m c 4 t) (ix2 r j) = (show EReal from m ((c.tc : Thread nD τ).loc main_arg4) (ix2 q j)) := by
  blk_point [iblk, idx t]

theorem rd5 (c : Dev nD) (t : Fin cfg0.N) (r : Fin 512) (q : Fin 65536) (hq : q.val = t.val * 512 + r.val) (j : Fin 128) :
    (show FVec Ideal S512x128 .f32 from iblk m c 5 t) (ix2 r j) = (show EReal from m ((c.tc : Thread nD τ).loc main_arg5) (ix2 q j)) := by
  blk_point [iblk, idx t]

theorem rd6 (c : Dev nD) (t : Fin cfg0.N) (r : Fin 512) (q : Fin 65536) (hq : q.val = t.val * 512 + r.val) (j : Fin 128) :
    (show FVec Ideal S512x128 .f32 from iblk m c 6 t) (ix2 r j) = (show EReal from m ((c.tc : Thread nD τ).loc main_arg6) (ix2 q j)) := by
  blk_point [iblk, idx t]

theorem rd7 (c : Dev nD) (t : Fin cfg0.N) (r : Fin 512) (q : Fin 65536) (hq : q.val = t.val * 512 + r.val) (j : Fin 256) :
    (show FVec Ideal S1x512x256 .f32 from iblk m c 7 t) (ix3 0 r j) = (show EReal from m ((c.tc : Thread nD τ).loc main_arg7) (ix3 1 q j)) := by
  blk_point [iblk, idx t]

theorem rd8 (c : Dev nD) (t : Fin cfg0.N) (a : Fin 1152) (b : Fin 1024) :
    (show FVec Ideal S1152x1024 .bf16 from iblk m c 8 t) (ix2 a b) = (show EReal from m ((c.tc : Thread nD τ).loc main_arg8) (ix2 a b)) := by
  blk_point [iblk, idx t]

theorem rd9 (c : Dev nD) (t : Fin cfg0.N) (b : Fin 1024) :
    (show FVec Ideal S1x1024 .f32 from iblk m c 9 t) (ix2 0 b) = (show EReal from m ((c.tc : Thread nD τ).loc main_arg9) (ix2 1 b)) := by
  blk_point [iblk, idx t]

theorem rd10 (c : Dev nD) (t : Fin cfg0.N) (a : Fin 1024) (b : Fin 2816) :
    (show FVec Ideal S1024x2816 .bf16 from iblk m c 10 t) (ix2 a b) = (show EReal from m ((c.tc : Thread nD τ).loc main_arg10) (ix3 1 a b)) := by
  blk_point [iblk, idx t]

theorem rd11 (c : Dev nD) (t : Fin cfg0.N) (a : Fin 1024) (b : Fin 2816) :
    (show FVec Ideal S1024x2816 .bf16 from iblk m c 11 t) (ix2 a b) = (show EReal from m ((c.tc : Thread nD τ).loc main_arg11) (ix3 1 a b)) := by
  blk_point [iblk, idx t]

theorem rd12 (c : Dev nD) (t : Fin cfg0.N) (a : Fin 2816) (b : Fin 1024) :
    (show FVec Ideal S2816x1024 .bf16 from iblk m c 12 t) (ix2 a b) = (show EReal from m ((c.tc : Thread nD τ).loc main_arg12) (ix3 1 a b)) := by
  blk_point [iblk, idx t]

theorem rd13 (c : Dev nD) (t : Fin cfg0.N) (b : Fin 1024) :
    (show FVec Ideal S1x1024 .f32 from iblk m c 13 t) (ix2 0 b) = (show EReal from m ((c.tc : Thread nD τ).loc main_arg13) (ix2 1 b)) := by
  blk_point [iblk, idx t]

theorem rd14 (c : Dev nD) (t : Fin cfg0.N) (a b : Fin 1024) :
    (show FVec Ideal S1024x1024 .bf16 from iblk m c 14 t) (ix2 a b) = (show EReal from m ((c.tc : Thread nD τ).loc main_arg14) (ix3 1 a b)) := by
  blk_point [iblk, idx t]

theorem rd15 (c : Dev nD) (t : Fin cfg0.N) (a : Fin 256) (b : Fin 1024) :
    (show FVec Ideal S256x1024 .bf16 from iblk m c 15 t) (ix2 a b) = (show EReal from m ((c.tc : Thread nD τ).loc main_arg15) (ix3 1 a b)) := by
  blk_point [iblk, idx t]

/-- Where the greatest logsumexp of every head is finite. -/
def LseFinite (c : Dev nD) : Prop := ∀ (q : Fin 65536) (h : Fin 6), ⊥ < top (show EReal from m ((c.tc : Thread nD τ).loc main_arg4) (ix2 q ⟨h.val, by omega⟩)) (show EReal from m ((c.tc : Thread nD τ).loc main_arg5) (ix2 q ⟨h.val, by omega⟩)) (show EReal from m ((c.tc : Thread nD τ).loc main_arg6) (ix2 q ⟨h.val, by omega⟩)) ∧ top (show EReal from m ((c.tc : Thread nD τ).loc main_arg4) (ix2 q ⟨h.val, by omega⟩)) (show EReal from m ((c.tc : Thread nD τ).loc main_arg5) (ix2 q ⟨h.val, by omega⟩)) (show EReal from m ((c.tc : Thread nD τ).loc main_arg6) (ix2 q ⟨h.val, by omega⟩)) < ⊤

theorem point (c : Dev nD) (hf : LseFinite m c) (t : Fin cfg0.N) (r : Fin 512) (j : Fin 1024) (q : Fin 65536) (hq : q.val = t.val * 512 + r.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r j)
      = REF m c (ix2 q j) := by
  refine (out_at _ _ _ _ _ _ _ _ _ _ _ _ _ _ _ _ r j).trans (Eq.trans ?_ (Cert.PostBRefIdeal.Pure.res_at _ _ _ _ _ _ _ _ _ _ _ _ _ _ _ _ q j).symm)
  refine row_congr j (fun j => Ideal.add_congr (rd0 m c t r q hq j) (Finset.sum_congr rfl fun k _ => Ideal.mul_congr ?_ (rd8 m c t k j)))
    (rd9 m c t) (rd10 m c t) (rd11 m c t) (rd12 m c t) (rd13 m c t) (rd14 m c t) (rd7 m c t r q hq) (rd15 m c t)
  exact comb_congr k (rd1 m c t r q hq) (rd2 m c t r q hq) (rd3 m c t r q hq) (rd4 m c t r q hq) (rd5 m c t r q hq) (rd6 m c t r q hq) (hf q)

/-- The kernel's result array is the reference's. -/
theorem final (c : Dev nD) (hf : LseFinite m c) : (dats m 0 c).arrAt 16 (cfgs 0).N = REF m c := by
  refine (dats m 0 c).arrAt_eq_of_covers 16 _ (by decide +kernel) fun t _ y => ?_
  blk_simp
  rw [after0_16]
  have ht : t.val < 128 := t.isLt
  have hr : ((y 0 : Fin 512)).val < 512 := (y 0 : Fin 512).isLt
  refine (congrArg (out0_16 (F := Ideal) _ _ _ _ _ _ _ _ _ _ _ _ _ _ _ _) (eq_ix2 (n0 := 512) (n1 := 1024) y)).trans ?_
  refine (point m c hf t (y 0) (y 1) ⟨t.val * 512 + (y 0 : Fin 512).val, by omega⟩ rfl).trans ?_
  blk_ext [idx t]

end Cert.PostBIdeal.Pure
-- ==== Proof.PostBClaim.lean ====
module

public import proofs.«01_k».proof.Defs
public import proofs.«01_k».proof.Proof.PostBValue
public import proofs.«01_k».proof.Proof.Gen.PostB.Frame
public import proofs.«01_k».proof.Proof.Gen.Pre_greatest_lse_finite
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.PostB.Claims

theorem quiescent : Cert.quiescent_PostB := fun m g _ => Cert.PostB.Gen.frame m g

theorem quiescentIdeal : Cert.quiescent_PostBIdeal := fun m g _ => Cert.PostBIdeal.Gen.frame m g

theorem quiescentRef : Cert.quiescent_PostBRefIdeal := fun m g _ =>
  (θ_run Cert.PostBRefIdeal.defs _ _).mono (fun r h => ⟨fun c => (h c).2,
      Idealize.ShloMosaic.sem_eq_zero_of_no_sems (by decide) r.2⟩)
    (Cert.PostBRefIdeal.Value.run (F := Ideal) m g)

theorem quiescentIdealPre : Cert.quiescent_PostBIdeal_pre_greatest_lse_finite := fun m g _ => quiescentIdeal m g trivial

theorem quiescentRefPre : Cert.quiescent_PostBRefIdeal_pre_greatest_lse_finite := fun m g _ => quiescentRef m g trivial

/-- The precondition's function at a token and a head. -/
theorem fn_at (x0 : FVec Ideal Cert.Pre_greatest_lse_finite.S65536x1024 .f32) (x1 : FVec Ideal Cert.Pre_greatest_lse_finite.S65536x384 .bf16) (x2 : FVec Ideal Cert.Pre_greatest_lse_finite.S65536x384 .bf16) (x3 : FVec Ideal Cert.Pre_greatest_lse_finite.S65536x384 .bf16) (x4 : FVec Ideal Cert.Pre_greatest_lse_finite.S65536x128 .f32) (x5 : FVec Ideal Cert.Pre_greatest_lse_finite.S65536x128 .f32) (x6 : FVec Ideal Cert.Pre_greatest_lse_finite.S65536x128 .f32) (x7 : FVec Ideal Cert.Pre_greatest_lse_finite.S2x65536x256 .f32) (x8 : FVec Ideal Cert.Pre_greatest_lse_finite.S1152x1024 .bf16) (x9 : FVec Ideal Cert.Pre_greatest_lse_finite.S2x1024 .f32) (x10 : FVec Ideal Cert.Pre_greatest_lse_finite.S2x1024x2816 .f32) (x11 : FVec Ideal Cert.Pre_greatest_lse_finite.S2x1024x2816 .f32) (x12 : FVec Ideal Cert.Pre_greatest_lse_finite.S2x2816x1024 .f32) (x13 : FVec Ideal Cert.Pre_greatest_lse_finite.S2x1024 .f32) (x14 : FVec Ideal Cert.Pre_greatest_lse_finite.S2x1024x1024 .f32) (x15 : FVec Ideal Cert.Pre_greatest_lse_finite.S2x256x1024 .f32) (q : Fin 65536) (b : Fin 6) :
    Cert.Pre_greatest_lse_finite.fn (F := Ideal) x0 x1 x2 x3 x4 x5 x6 x7 x8 x9 x10 x11 x12 x13 x14 x15 (ix2 q b)
      = IntOp.andi (Ideal.cmp .ogt (Layer.top (x4 (ix2 q ⟨b.val, by omega⟩)) (x5 (ix2 q ⟨b.val, by omega⟩)) (x6 (ix2 q ⟨b.val, by omega⟩))) (Ideal.ofBits .f32 0xFF800000#32)) (Ideal.cmp .olt (Layer.top (x4 (ix2 q ⟨b.val, by omega⟩)) (x5 (ix2 q ⟨b.val, by omega⟩)) (x6 (ix2 q ⟨b.val, by omega⟩))) (Ideal.ofBits .f32 0x7F800000#32)) := by
  pointwise [Cert.Pre_greatest_lse_finite.fn, Layer.top]

/-- Both comparisons come out true only where both hold. -/
theorem both (x : EReal) (h : IntOp.andi (Ideal.cmp .ogt x (Ideal.ofBits .f32 0xFF800000#32)) (Ideal.cmp .olt x (Ideal.ofBits .f32 0x7F800000#32)) = 1#1) :
    ⊥ < x ∧ x < ⊤ := by
  have e0 : Ideal.ofBits .f32 0xFF800000#32 = ⊥ := by simp [Ideal.ofBits, Ideal.ieee]
  have e1 : Ideal.ofBits .f32 0x7F800000#32 = ⊤ := by simp [Ideal.ofBits, Ideal.ieee]
  rw [e0, e1] at h
  by_cases h0 : ⊥ < x
  · by_cases h1 : x < ⊤
    · exact ⟨h0, h1⟩
    · simp [Ideal.cmp, h1, IntOp.andi] at h
  · simp [Ideal.cmp, h0, IntOp.andi] at h

/-- The precondition at a token and a head: the greatest of the three logsumexps is finite. -/
theorem lseFinite (m : (ℓ : Loc Cert.PostBIdeal.nD Cert.PostBIdeal.τ Cert.PostBIdeal.sig) → Buf (Elt Ideal) ℓ) (h : Cert.Pre_PostBIdeal_greatest_lse_finite m)
    (c : Dev Cert.PostBIdeal.nD) : Cert.PostBIdeal.Pure.LseFinite m c :=
  fun q b => both _ ((fn_at _ _ _ _ _ _ _ _ _ _ _ _ _ _ _ _ q b).symm.trans (congrFun (h c) (ix2 q b)))

theorem preserves : Cert.preserves_PostB_PostBIdeal := trivial

/-- The reference's result over its own arguments is the one over the kernel's, where the arguments agree. -/
theorem refAt (m : (ℓ : Loc Cert.PostBIdeal.nD Cert.PostBIdeal.τ Cert.PostBIdeal.sig) → Buf (Elt Ideal) ℓ) (m' : (ℓ : Loc Cert.PostBRefIdeal.nD Cert.PostBRefIdeal.τ Cert.PostBRefIdeal.sig) → Buf (Elt Ideal) ℓ)
    (c : Dev Cert.PostBIdeal.nD)
    (h : m' ((c.tc : Thread Cert.PostBRefIdeal.nD Cert.PostBRefIdeal.τ).loc Cert.PostBRefIdeal.main_arg0) = m ((c.tc : Thread Cert.PostBIdeal.nD Cert.PostBIdeal.τ).loc Cert.PostBIdeal.main_arg0) ∧ m' ((c.tc : Thread Cert.PostBRefIdeal.nD Cert.PostBRefIdeal.τ).loc Cert.PostBRefIdeal.main_arg1) = m ((c.tc : Thread Cert.PostBIdeal.nD Cert.PostBIdeal.τ).loc Cert.PostBIdeal.main_arg1) ∧ m' ((c.tc : Thread Cert.PostBRefIdeal.nD Cert.PostBRefIdeal.τ).loc Cert.PostBRefIdeal.main_arg2) = m ((c.tc : Thread Cert.PostBIdeal.nD Cert.PostBIdeal.τ).loc Cert.PostBIdeal.main_arg2) ∧ m' ((c.tc : Thread Cert.PostBRefIdeal.nD Cert.PostBRefIdeal.τ).loc Cert.PostBRefIdeal.main_arg3) = m ((c.tc : Thread Cert.PostBIdeal.nD Cert.PostBIdeal.τ).loc Cert.PostBIdeal.main_arg3) ∧ m' ((c.tc : Thread Cert.PostBRefIdeal.nD Cert.PostBRefIdeal.τ).loc Cert.PostBRefIdeal.main_arg4) = m ((c.tc : Thread Cert.PostBIdeal.nD Cert.PostBIdeal.τ).loc Cert.PostBIdeal.main_arg4) ∧ m' ((c.tc : Thread Cert.PostBRefIdeal.nD Cert.PostBRefIdeal.τ).loc Cert.PostBRefIdeal.main_arg5) = m ((c.tc : Thread Cert.PostBIdeal.nD Cert.PostBIdeal.τ).loc Cert.PostBIdeal.main_arg5) ∧ m' ((c.tc : Thread Cert.PostBRefIdeal.nD Cert.PostBRefIdeal.τ).loc Cert.PostBRefIdeal.main_arg6) = m ((c.tc : Thread Cert.PostBIdeal.nD Cert.PostBIdeal.τ).loc Cert.PostBIdeal.main_arg6) ∧ m' ((c.tc : Thread Cert.PostBRefIdeal.nD Cert.PostBRefIdeal.τ).loc Cert.PostBRefIdeal.main_arg7) = m ((c.tc : Thread Cert.PostBIdeal.nD Cert.PostBIdeal.τ).loc Cert.PostBIdeal.main_arg7) ∧ m' ((c.tc : Thread Cert.PostBRefIdeal.nD Cert.PostBRefIdeal.τ).loc Cert.PostBRefIdeal.main_arg8) = m ((c.tc : Thread Cert.PostBIdeal.nD Cert.PostBIdeal.τ).loc Cert.PostBIdeal.main_arg8) ∧ m' ((c.tc : Thread Cert.PostBRefIdeal.nD Cert.PostBRefIdeal.τ).loc Cert.PostBRefIdeal.main_arg9) = m ((c.tc : Thread Cert.PostBIdeal.nD Cert.PostBIdeal.τ).loc Cert.PostBIdeal.main_arg9) ∧ m' ((c.tc : Thread Cert.PostBRefIdeal.nD Cert.PostBRefIdeal.τ).loc Cert.PostBRefIdeal.main_arg10) = m ((c.tc : Thread Cert.PostBIdeal.nD Cert.PostBIdeal.τ).loc Cert.PostBIdeal.main_arg10) ∧ m' ((c.tc : Thread Cert.PostBRefIdeal.nD Cert.PostBRefIdeal.τ).loc Cert.PostBRefIdeal.main_arg11) = m ((c.tc : Thread Cert.PostBIdeal.nD Cert.PostBIdeal.τ).loc Cert.PostBIdeal.main_arg11) ∧ m' ((c.tc : Thread Cert.PostBRefIdeal.nD Cert.PostBRefIdeal.τ).loc Cert.PostBRefIdeal.main_arg12) = m ((c.tc : Thread Cert.PostBIdeal.nD Cert.PostBIdeal.τ).loc Cert.PostBIdeal.main_arg12) ∧ m' ((c.tc : Thread Cert.PostBRefIdeal.nD Cert.PostBRefIdeal.τ).loc Cert.PostBRefIdeal.main_arg13) = m ((c.tc : Thread Cert.PostBIdeal.nD Cert.PostBIdeal.τ).loc Cert.PostBIdeal.main_arg13) ∧ m' ((c.tc : Thread Cert.PostBRefIdeal.nD Cert.PostBRefIdeal.τ).loc Cert.PostBRefIdeal.main_arg14) = m ((c.tc : Thread Cert.PostBIdeal.nD Cert.PostBIdeal.τ).loc Cert.PostBIdeal.main_arg14) ∧ m' ((c.tc : Thread Cert.PostBRefIdeal.nD Cert.PostBRefIdeal.τ).loc Cert.PostBRefIdeal.main_arg15) = m ((c.tc : Thread Cert.PostBIdeal.nD Cert.PostBIdeal.τ).loc Cert.PostBIdeal.main_arg15)) :
    Cert.PostBRefIdeal.Read.val_main_v107 (F := Ideal) (m' ((c.tc : Thread Cert.PostBRefIdeal.nD Cert.PostBRefIdeal.τ).loc Cert.PostBRefIdeal.main_arg0)) (m' ((c.tc : Thread Cert.PostBRefIdeal.nD Cert.PostBRefIdeal.τ).loc Cert.PostBRefIdeal.main_arg1)) (m' ((c.tc : Thread Cert.PostBRefIdeal.nD Cert.PostBRefIdeal.τ).loc Cert.PostBRefIdeal.main_arg2)) (m' ((c.tc : Thread Cert.PostBRefIdeal.nD Cert.PostBRefIdeal.τ).loc Cert.PostBRefIdeal.main_arg3)) (m' ((c.tc : Thread Cert.PostBRefIdeal.nD Cert.PostBRefIdeal.τ).loc Cert.PostBRefIdeal.main_arg4)) (m' ((c.tc : Thread Cert.PostBRefIdeal.nD Cert.PostBRefIdeal.τ).loc Cert.PostBRefIdeal.main_arg5)) (m' ((c.tc : Thread Cert.PostBRefIdeal.nD Cert.PostBRefIdeal.τ).loc Cert.PostBRefIdeal.main_arg6)) (m' ((c.tc : Thread Cert.PostBRefIdeal.nD Cert.PostBRefIdeal.τ).loc Cert.PostBRefIdeal.main_arg7)) (m' ((c.tc : Thread Cert.PostBRefIdeal.nD Cert.PostBRefIdeal.τ).loc Cert.PostBRefIdeal.main_arg8)) (m' ((c.tc : Thread Cert.PostBRefIdeal.nD Cert.PostBRefIdeal.τ).loc Cert.PostBRefIdeal.main_arg9)) (m' ((c.tc : Thread Cert.PostBRefIdeal.nD Cert.PostBRefIdeal.τ).loc Cert.PostBRefIdeal.main_arg10)) (m' ((c.tc : Thread Cert.PostBRefIdeal.nD Cert.PostBRefIdeal.τ).loc Cert.PostBRefIdeal.main_arg11)) (m' ((c.tc : Thread Cert.PostBRefIdeal.nD Cert.PostBRefIdeal.τ).loc Cert.PostBRefIdeal.main_arg12)) (m' ((c.tc : Thread Cert.PostBRefIdeal.nD Cert.PostBRefIdeal.τ).loc Cert.PostBRefIdeal.main_arg13)) (m' ((c.tc : Thread Cert.PostBRefIdeal.nD Cert.PostBRefIdeal.τ).loc Cert.PostBRefIdeal.main_arg14)) (m' ((c.tc : Thread Cert.PostBRefIdeal.nD Cert.PostBRefIdeal.τ).loc Cert.PostBRefIdeal.main_arg15)) = Cert.PostBIdeal.Pure.REF m c := by
  obtain ⟨h0, h1, h2, h3, h4, h5, h6, h7, h8, h9, h10, h11, h12, h13, h14, h15⟩ := h
  rw [h0, h1, h2, h3, h4, h5, h6, h7, h8, h9, h10, h11, h12, h13, h14, h15]

theorem algebraic : Cert.algebraic_PostBIdeal_PostBRefIdeal_pre_greatest_lse_finite := by
  intro m g m' g' hpre hagree
  refine ⟨fun c => Cert.PostBIdeal.Pure.REF m c, ?_, ?_⟩
  · exact (θ_run Cert.PostBIdeal.defs _ _).mono
      (fun r h c => ⟨((h.1 c).1 16).trans (Cert.PostBIdeal.Pure.final m c (lseFinite m hpre c)), h.2.1 c⟩)
      (Idealize.ShloMosaic.θ_run_and (Cert.PostBIdeal.Gen.run_main m g) (Cert.PostBIdeal.Gen.frame m g))
  · exact (θ_run Cert.PostBRefIdeal.defs _ _).mono
      (fun r h c => ⟨((h c).1.trans (Cert.PostBRefIdeal.Read.val_main_v107_eq _)).trans (refAt m m' c (hagree c)), (h c).2⟩)
      (Cert.PostBRefIdeal.Value.run (F := Ideal) m' g')

end Cert.PostB.Claims
-- ==== Proof.PostBSPure.lean ====
module

public import proofs.«01_k».proof.Proof.Gen.PostBSIdeal.Skeleton
public import proofs.«01_k».proof.Proof.PostBRow

@[expose] public section

set_option maxRecDepth 16384

noncomputable section

open Idealize.ShloMosaic Idealize.ShloMosaic.TcCoe Idealize.SL.Sem

namespace Cert.PostBSIdeal.Pure

open Cert.PostBSIdeal Cert.PostBSIdeal.Gen Cert.Layer

/-- Which half of a slab a lane is in. -/
theorem half : ∀ l : Fin 128, IntOp.cmpi .slt (BitVec.ofNat 32 l.val) 64#32 = if l.val < 64 then 1#1 else 0#1 := by decide +kernel

theorem sel_half (l : Fin 128) (a b : EReal) : Scalar.select (IntOp.cmpi .slt (BitVec.ofNat 32 l.val) 64#32) a b = if l.val < 64 then a else b := by
  rw [half]
  split_ifs <;> rfl

theorem pay3_at (v0 v1 v2 : FVec Ideal S512x128 .f32) (r : Fin 512) (l : Fin 128) :
    k0_pay3 (F := Ideal) v0 v1 v2 (ix2 r l) = Ideal.exp (v0 (ix2 r l) - top (v0 (ix2 r l)) (v1 (ix2 r l)) (v2 (ix2 r l))) := by
  pointwise [k0_pay3, k0_pay2, top]

theorem pay4_at (v0 v1 v2 : FVec Ideal S512x128 .f32) (r : Fin 512) (l : Fin 128) :
    k0_pay4 (F := Ideal) v0 v1 v2 (ix2 r l) = Ideal.exp (v1 (ix2 r l) - top (v0 (ix2 r l)) (v1 (ix2 r l)) (v2 (ix2 r l))) := by
  pointwise [k0_pay4, k0_pay2, top]

theorem pay5_at (v0 v1 v2 : FVec Ideal S512x128 .f32) (r : Fin 512) (l : Fin 128) :
    k0_pay5 (F := Ideal) v0 v1 v2 (ix2 r l) = Ideal.exp (v2 (ix2 r l) - top (v0 (ix2 r l)) (v1 (ix2 r l)) (v2 (ix2 r l))) := by
  pointwise [k0_pay5, k0_pay2, top]

theorem pay6_at (v0 v1 v2 : FVec Ideal S512x128 .f32) (r : Fin 512) (l : Fin 128) :
    k0_pay6 (F := Ideal) v0 v1 v2 (ix2 r l) = Ideal.div 1 (mass (v0 (ix2 r l)) (v1 (ix2 r l)) (v2 (ix2 r l))) := by
  pointwise [k0_pay6, k0_pay5, k0_pay4, k0_pay3, k0_pay2, mass, top]

theorem pay7_at (v0 v1 v2 : FVec Ideal S512x128 .f32) (r : Fin 512) (l : Fin 128) :
    k0_pay7 (F := Ideal) v0 v1 v2 (ix2 r l) = Ideal.exp (v0 (ix2 r l) - top (v0 (ix2 r l)) (v1 (ix2 r l)) (v2 (ix2 r l))) * Ideal.div 1 (mass (v0 (ix2 r l)) (v1 (ix2 r l)) (v2 (ix2 r l))) := by
  pointwise [k0_pay7, k0_pay6, k0_pay5, k0_pay4, k0_pay3, k0_pay2, mass, top]

theorem pay8_at (v0 v1 v2 : FVec Ideal S512x128 .f32) (v17 : FVec Ideal S512x128 .bf16) (r : Fin 512) (l : Fin 128) :
    k0_pay8 (F := Ideal) v0 v1 v2 v17 (ix2 r l) = v17 (ix2 r l) * if l.val < 64 then k0_pay7 (F := Ideal) v0 v1 v2 (ix2 r 0) else k0_pay7 (F := Ideal) v0 v1 v2 (ix2 r 3) := by
  pointwise [k0_pay8]
  rw [sel_half]

theorem pay9_at (v0 v1 v2 : FVec Ideal S512x128 .f32) (v17 : FVec Ideal S512x128 .bf16) (r : Fin 512) (l : Fin 128) :
    k0_pay9 (F := Ideal) v0 v1 v2 v17 (ix2 r l) = v17 (ix2 r l) * if l.val < 64 then k0_pay7 (F := Ideal) v0 v1 v2 (ix2 r 1) else k0_pay7 (F := Ideal) v0 v1 v2 (ix2 r 4) := by
  pointwise [k0_pay9]
  rw [sel_half]

theorem pay10_at (v16 : FVec Ideal S512x128 .f32) (v17 : FVec Ideal S512x128 .bf16) (r : Fin 512) (l : Fin 128) :
    k0_pay10 (F := Ideal) (iota .tc S512x128 32 [1] iota_S512x128_d1_w32) v16 v17 (ix2 r l) = v17 (ix2 r l) * if l.val < 64 then v16 (ix2 r 2) else v16 (ix2 r 5) := by
  pointwise [k0_pay10]
  rw [sel_half]

theorem pay12_at (v8 v14 : FVec Ideal S512x128 .f32) (v17 : FVec Ideal S512x128 .bf16) (r : Fin 512) (l : Fin 128) :
    k0_pay12 (F := Ideal) v8 v14 (iota .tc S512x128 32 [1] iota_S512x128_d1_w32) v17 (ix2 r l) = v17 (ix2 r l) * if l.val < 64 then v8 (ix2 r 0) * v14 (ix2 r 0) else v8 (ix2 r 3) * v14 (ix2 r 3) := by
  pointwise [k0_pay12, k0_pay11]
  rw [sel_half]

theorem pay13_at (v8 v14 : FVec Ideal S512x128 .f32) (v17 : FVec Ideal S512x128 .bf16) (r : Fin 512) (l : Fin 128) :
    k0_pay13 (F := Ideal) v8 v14 (iota .tc S512x128 32 [1] iota_S512x128_d1_w32) v17 (ix2 r l) = v17 (ix2 r l) * if l.val < 64 then v8 (ix2 r 1) * v14 (ix2 r 1) else v8 (ix2 r 4) * v14 (ix2 r 4) := by
  pointwise [k0_pay13, k0_pay11]
  rw [sel_half]

theorem pay15_at (v8 v14 : FVec Ideal S512x128 .f32) (r : Fin 512) (l : Fin 128) :
    k0_pay15 (F := Ideal) v8 v14 (iota .tc S512x128 32 [1] iota_S512x128_d1_w32) (ix2 r l) = if l.val < 64 then v8 (ix2 r 2) * v14 (ix2 r 2) else v8 (ix2 r 5) * v14 (ix2 r 5) := by
  pointwise [k0_pay15, k0_pay11]
  rw [sel_half]

/-- The combined row projected: nine slabs side by side against the projection's rows. -/
theorem pay16_at (v10 v14 : FVec Ideal S512x128 .f32) (v29 v42 v55 v69 v82 : FVec Ideal S512x128 .bf16) (v84 v93 : FVec Ideal S512x128 .f32) (v97 v110 v123 : FVec Ideal S512x128 .bf16) (v138 : FVec Ideal S1152x1024 .bf16) (r : Fin 512) (j : Fin 1024)
    (o0 o1 o2 : Fin 384 → EReal) (w0 w1 w2 : Fin 6 → EReal)
    (e0 : ∀ l, v29 (ix2 r l) = slab o0 w0 0 l) (e1 : ∀ l, v42 (ix2 r l) = slab o0 w0 1 l) (e2 : ∀ l, v55 (ix2 r l) = slab o0 w0 2 l)
    (e3 : ∀ l, v69 (ix2 r l) = slab o1 w1 0 l) (e4 : ∀ l, v82 (ix2 r l) = slab o1 w1 1 l) (e5 : ∀ l, v84 (ix2 r l) * v93 (ix2 r l) = slab o1 w1 2 l)
    (e6 : ∀ l : Fin 128, (v97 (ix2 r l) * if l.val < 64 then v10 (ix2 r 0) * v14 (ix2 r 0) else v10 (ix2 r 3) * v14 (ix2 r 3)) = slab o2 w2 0 l)
    (e7 : ∀ l : Fin 128, (v110 (ix2 r l) * if l.val < 64 then v10 (ix2 r 1) * v14 (ix2 r 1) else v10 (ix2 r 4) * v14 (ix2 r 4)) = slab o2 w2 1 l)
    (e8 : ∀ l : Fin 128, (v123 (ix2 r l) * if l.val < 64 then v10 (ix2 r 2) * v14 (ix2 r 2) else v10 (ix2 r 5) * v14 (ix2 r 5)) = slab o2 w2 2 l) :
    k0_pay16 (F := Ideal) v10 v14 (iota .tc S512x128 32 [1] iota_S512x128_d1_w32) v29 v42 v55 v69 v82 v84 v93 v97 v110 v123 v138 (ix2 r j)
      = ∑ k : Fin 1152, comb o0 o1 o2 w0 w1 w2 k * v138 (ix2 k j) := by
  pointwise [k0_pay16]
  exact Finset.sum_congr rfl fun k _ => Ideal.mul_congr (nine o0 o1 o2 w0 w1 w2 (fun l => v29 (ix2 r l)) (fun l => v42 (ix2 r l)) (fun l => v55 (ix2 r l)) (fun l => v69 (ix2 r l)) (fun l => v82 (ix2 r l)) (fun l => v84 (ix2 r l) * v93 (ix2 r l))
    (fun l => v97 (ix2 r l) * Scalar.select (IntOp.cmpi .slt (BitVec.ofNat 32 l.val) 64#32) (v10 (ix2 r 0) * v14 (ix2 r 0)) (v10 (ix2 r 3) * v14 (ix2 r 3)))
    (fun l => v110 (ix2 r l) * Scalar.select (IntOp.cmpi .slt (BitVec.ofNat 32 l.val) 64#32) (v10 (ix2 r 1) * v14 (ix2 r 1)) (v10 (ix2 r 4) * v14 (ix2 r 4)))
    (fun l => v123 (ix2 r l) * Scalar.select (IntOp.cmpi .slt (BitVec.ofNat 32 l.val) 64#32) (v10 (ix2 r 2) * v14 (ix2 r 2)) (v10 (ix2 r 5) * v14 (ix2 r 5)))
    e0 e1 e2 e3 e4 e5 (fun l => (Ideal.mul_congr rfl (sel_half l _ _)).trans (e6 l)) (fun l => (Ideal.mul_congr rfl (sel_half l _ _)).trans (e7 l)) (fun l => (Ideal.mul_congr rfl (sel_half l _ _)).trans (e8 l)) k) rfl

theorem pay17_at (v137 v139 : FVec Ideal S512x1024 .f32) (r : Fin 512) (j : Fin 1024) :
    k0_pay17 (F := Ideal) v137 v139 (ix2 r j) = v137 (ix2 r j) + v139 (ix2 r j) := by
  pointwise [k0_pay17]

theorem pay18_at (v137 v139 : FVec Ideal S512x1024 .f32) (v141 : FVec Ideal S1x1024 .f32) (r : Fin 512) (j : Fin 1024) :
    k0_pay18 (F := Ideal) v137 v139 v141 (ix2 r j) = rms (fun j => v137 (ix2 r j) + v139 (ix2 r j)) (fun j => v141 (ix2 0 j)) j := by
  pointwise [k0_pay18, k0_pay17, rms]

theorem pay19_at (v137 v139 : FVec Ideal S512x1024 .f32) (v141 : FVec Ideal S1x1024 .f32) (v156 v159 : FVec Ideal S1024x512 .bf16) (v166 : FVec Ideal S512x1024 .bf16) (r : Fin 512) (j : Fin 1024) :
    k0_pay19 (F := Ideal) v137 v139 v141 v156 v159 v166 (ix2 r j) = (∑ k : Fin 512, hid (fun a => k0_pay18 (F := Ideal) v137 v139 v141 (ix2 r a)) (fun a => v156 (ix2 a k)) (fun a => v159 (ix2 a k)) * v166 (ix2 k j)) := by
  pointwise [k0_pay19, hid]

theorem pay20_at (v137 v139 : FVec Ideal S512x1024 .f32) (v141 : FVec Ideal S1x1024 .f32) (v169 v172 : FVec Ideal S1024x512 .bf16) (r k : Fin 512) :
    k0_pay20 (F := Ideal) v137 v139 v141 v169 v172 (ix2 r k) = hid (fun a => k0_pay18 (F := Ideal) v137 v139 v141 (ix2 r a)) (fun a => v169 (ix2 a k)) (fun a => v172 (ix2 a k)) := by
  pointwise [k0_pay20, hid]

theorem pay21_at (v155 : FVec Ideal S512x1024 .bf16) (v168 : FVec Ideal S512x1024 .f32) (v178 : FVec Ideal S512x512 .bf16) (v179 : FVec Ideal S512x1024 .bf16) (v183 v186 : FVec Ideal S1024x512 .bf16) (v193 : FVec Ideal S512x1024 .bf16) (v197 v200 : FVec Ideal S1024x512 .bf16) (v207 : FVec Ideal S512x1024 .bf16) (r : Fin 512) (j : Fin 1024) :
    k0_pay21 (F := Ideal) v155 v168 v178 v179 v183 v186 v193 v197 v200 v207 (ix2 r j)
      = v168 (ix2 r j) + (∑ k : Fin 512, v178 (ix2 r k) * v179 (ix2 k j)) + (∑ k : Fin 512, hid (fun a => v155 (ix2 r a)) (fun a => v183 (ix2 a k)) (fun a => v186 (ix2 a k)) * v193 (ix2 k j)) + (∑ k : Fin 512, hid (fun a => v155 (ix2 r a)) (fun a => v197 (ix2 a k)) (fun a => v200 (ix2 a k)) * v207 (ix2 k j)) := by
  pointwise [k0_pay21, hid]

theorem pay23_at (v140 : FVec Ideal S512x1024 .f32) (v155 : FVec Ideal S512x1024 .bf16) (v210 : FVec Ideal S512x1024 .f32) (v211 v214 : FVec Ideal S1024x512 .bf16) (v221 : FVec Ideal S512x1024 .bf16) (v225 v228 : FVec Ideal S1024x256 .bf16) (v235 : FVec Ideal S256x1024 .bf16) (r : Fin 512) (j : Fin 1024) :
    k0_pay23 (F := Ideal) v140 v155 v210 (k0_pay22 v155 v211) v214 v221 v225 v228 v235 (ix2 r j)
      = v140 (ix2 r j) + (v210 (ix2 r j) + (∑ k : Fin 512, hid (fun a => v155 (ix2 r a)) (fun a => v211 (ix2 a k)) (fun a => v214 (ix2 a k)) * v221 (ix2 k j)) + (∑ k : Fin 256, hid (fun a => v155 (ix2 r a)) (fun a => v225 (ix2 a k)) (fun a => v228 (ix2 a k)) * v235 (ix2 k j))) := by
  pointwise [k0_pay23, k0_pay22, hid]

theorem pay1_at (v140 : FVec Ideal S512x1024 .f32) (v155 : FVec Ideal S512x1024 .bf16) (v210 : FVec Ideal S512x1024 .f32) (v213 : FVec Ideal S512x512 .f32) (v214 : FVec Ideal S1024x512 .bf16) (v221 : FVec Ideal S512x1024 .bf16) (v225 v228 : FVec Ideal S1024x256 .bf16) (v235 : FVec Ideal S256x1024 .bf16)
    (v240 : FVec Ideal S1x1024 .f32) (v255 : FVec Ideal S1024x1024 .bf16) (v259 : FVec Ideal S1x512x256 .f32) (v262 : FVec Ideal S256x1024 .bf16) (r : Fin 512) (j : Fin 1024) :
    k0_pay1 (F := Ideal) (k0_pay23 v140 v155 v210 v213 v214 v221 v225 v228 v235) (k0_pay24 v140 v155 v210 v213 v214 v221 v225 v228 v235 v240) v255 v259 v262 (ix2 r j)
      = gate (fun j => k0_pay23 (F := Ideal) v140 v155 v210 v213 v214 v221 v225 v228 v235 (ix2 r j)) (fun j => v240 (ix2 0 j)) (fun k j => v255 (ix2 k j)) (fun k => v259 (ix3 0 r k)) (fun k j => v262 (ix2 k j)) j := by
  pointwise [k0_pay1, k0_pay24, gate, rms]

end Cert.PostBSIdeal.Pure
-- ==== Proof.PostBSOut.lean ====
module

public import proofs.«01_k».proof.Proof.Gen.PostBSIdeal.Frame
public import proofs.«01_k».proof.Proof.PostBSPure
public import Idealize.ShloMosaic.Lib.Pipeline.ValueKit

@[expose] public section

set_option maxRecDepth 16384

noncomputable section

open Idealize.ShloMosaic Idealize.ShloMosaic.TcCoe Idealize.SL.Sem

namespace Cert.PostBSIdeal.Pure

open Cert.PostBSIdeal Cert.PostBSIdeal.Gen Cert.Layer

variable (x0 : FVec Ideal S512x1024 .f32) (x1 x2 x3 : FVec Ideal S512x384 .bf16) (x4 x5 x6 : FVec Ideal S512x128 .f32) (x7 : FVec Ideal S1x512x256 .f32) (x8 : FVec Ideal S1152x1024 .bf16) (x9 : FVec Ideal S1x1024 .f32) (x10 x11 : FVec Ideal S1024x2816 .bf16) (x12 : FVec Ideal S2816x1024 .bf16) (x13 : FVec Ideal S1x1024 .f32) (x14 : FVec Ideal S1024x1024 .bf16) (x15 : FVec Ideal S256x1024 .bf16) (r : Fin 512) (j : Fin 1024)

/-- The first group's slabs weighted, at the blocks. -/
theorem sl0_at (l : Fin 128) : k0_pay8 (F := Ideal) (View.ld x4 r0_0) (View.ld x5 r0_0) (View.ld x6 r0_0) (View.ld x1 r0_1) (ix2 r l) = slab (fun c => x1 (ix2 r c)) (recip (fun c => x4 (ix2 r c)) (fun c => x4 (ix2 r c)) (fun c => x5 (ix2 r c)) (fun c => x6 (ix2 r c))) 0 l := by
  rw [pay8_at, pay7_at, pay7_at]
  pointwise [slab, recip]

theorem sl1_at (l : Fin 128) : k0_pay9 (F := Ideal) (View.ld x4 r0_0) (View.ld x5 r0_0) (View.ld x6 r0_0) (View.ld x1 r0_2) (ix2 r l) = slab (fun c => x1 (ix2 r c)) (recip (fun c => x4 (ix2 r c)) (fun c => x4 (ix2 r c)) (fun c => x5 (ix2 r c)) (fun c => x6 (ix2 r c))) 1 l := by
  rw [pay9_at, pay7_at, pay7_at]
  pointwise [slab, recip]

theorem sl2_at (l : Fin 128) : k0_pay10 (F := Ideal) (iota .tc S512x128 32 [1] iota_S512x128_d1_w32) (k0_pay7 (View.ld x4 r0_0) (View.ld x5 r0_0) (View.ld x6 r0_0)) (View.ld x1 r0_3) (ix2 r l) = slab (fun c => x1 (ix2 r c)) (recip (fun c => x4 (ix2 r c)) (fun c => x4 (ix2 r c)) (fun c => x5 (ix2 r c)) (fun c => x6 (ix2 r c))) 2 l := by
  rw [pay10_at, pay7_at, pay7_at]
  pointwise [slab, recip]

theorem sl3_at (l : Fin 128) : k0_pay12 (F := Ideal) (k0_pay4 (View.ld x4 r0_0) (View.ld x5 r0_0) (View.ld x6 r0_0)) (k0_pay6 (View.ld x4 r0_0) (View.ld x5 r0_0) (View.ld x6 r0_0)) (iota .tc S512x128 32 [1] iota_S512x128_d1_w32) (View.ld x2 r0_1) (ix2 r l) = slab (fun c => x2 (ix2 r c)) (recip (fun c => x5 (ix2 r c)) (fun c => x4 (ix2 r c)) (fun c => x5 (ix2 r c)) (fun c => x6 (ix2 r c))) 0 l := by
  rw [pay12_at, pay4_at, pay4_at, pay6_at, pay6_at]
  pointwise [slab, recip]

theorem sl4_at (l : Fin 128) : k0_pay13 (F := Ideal) (k0_pay4 (View.ld x4 r0_0) (View.ld x5 r0_0) (View.ld x6 r0_0)) (k0_pay6 (View.ld x4 r0_0) (View.ld x5 r0_0) (View.ld x6 r0_0)) (iota .tc S512x128 32 [1] iota_S512x128_d1_w32) (View.ld x2 r0_2) (ix2 r l) = slab (fun c => x2 (ix2 r c)) (recip (fun c => x5 (ix2 r c)) (fun c => x4 (ix2 r c)) (fun c => x5 (ix2 r c)) (fun c => x6 (ix2 r c))) 1 l := by
  rw [pay13_at, pay4_at, pay4_at, pay6_at, pay6_at]
  pointwise [slab, recip]

theorem sl5_at (l : Fin 128) : k0_pay14 (F := Ideal) (View.ld x2 r0_3) (ix2 r l) * k0_pay15 (F := Ideal) (k0_pay4 (View.ld x4 r0_0) (View.ld x5 r0_0) (View.ld x6 r0_0)) (k0_pay6 (View.ld x4 r0_0) (View.ld x5 r0_0) (View.ld x6 r0_0)) (iota .tc S512x128 32 [1] iota_S512x128_d1_w32) (ix2 r l) = slab (fun c => x2 (ix2 r c)) (recip (fun c => x5 (ix2 r c)) (fun c => x4 (ix2 r c)) (fun c => x5 (ix2 r c)) (fun c => x6 (ix2 r c))) 2 l := by
  rw [pay15_at, pay4_at, pay4_at, pay6_at, pay6_at]
  unfold k0_pay14
  pointwise [slab, recip]

theorem sl6_at (l : Fin 128) : ((show EReal from (View.ld x3 r0_1 : Vec Ideal S512x128 .bf16) (ix2 r l)) * if l.val < 64 then k0_pay5 (F := Ideal) (View.ld x4 r0_0) (View.ld x5 r0_0) (View.ld x6 r0_0) (ix2 r 0) * k0_pay6 (F := Ideal) (View.ld x4 r0_0) (View.ld x5 r0_0) (View.ld x6 r0_0) (ix2 r 0) else k0_pay5 (F := Ideal) (View.ld x4 r0_0) (View.ld x5 r0_0) (View.ld x6 r0_0) (ix2 r 3) * k0_pay6 (F := Ideal) (View.ld x4 r0_0) (View.ld x5 r0_0) (View.ld x6 r0_0) (ix2 r 3)) = slab (fun c => x3 (ix2 r c)) (recip (fun c => x6 (ix2 r c)) (fun c => x4 (ix2 r c)) (fun c => x5 (ix2 r c)) (fun c => x6 (ix2 r c))) 0 l := by
  rw [pay5_at, pay5_at, pay6_at, pay6_at]
  pointwise [slab, recip]

theorem sl7_at (l : Fin 128) : ((show EReal from (View.ld x3 r0_2 : Vec Ideal S512x128 .bf16) (ix2 r l)) * if l.val < 64 then k0_pay5 (F := Ideal) (View.ld x4 r0_0) (View.ld x5 r0_0) (View.ld x6 r0_0) (ix2 r 1) * k0_pay6 (F := Ideal) (View.ld x4 r0_0) (View.ld x5 r0_0) (View.ld x6 r0_0) (ix2 r 1) else k0_pay5 (F := Ideal) (View.ld x4 r0_0) (View.ld x5 r0_0) (View.ld x6 r0_0) (ix2 r 4) * k0_pay6 (F := Ideal) (View.ld x4 r0_0) (View.ld x5 r0_0) (View.ld x6 r0_0) (ix2 r 4)) = slab (fun c => x3 (ix2 r c)) (recip (fun c => x6 (ix2 r c)) (fun c => x4 (ix2 r c)) (fun c => x5 (ix2 r c)) (fun c => x6 (ix2 r c))) 1 l := by
  rw [pay5_at, pay5_at, pay6_at, pay6_at]
  pointwise [slab, recip]

theorem sl8_at (l : Fin 128) : ((show EReal from (View.ld x3 r0_3 : Vec Ideal S512x128 .bf16) (ix2 r l)) * if l.val < 64 then k0_pay5 (F := Ideal) (View.ld x4 r0_0) (View.ld x5 r0_0) (View.ld x6 r0_0) (ix2 r 2) * k0_pay6 (F := Ideal) (View.ld x4 r0_0) (View.ld x5 r0_0) (View.ld x6 r0_0) (ix2 r 2) else k0_pay5 (F := Ideal) (View.ld x4 r0_0) (View.ld x5 r0_0) (View.ld x6 r0_0) (ix2 r 5) * k0_pay6 (F := Ideal) (View.ld x4 r0_0) (View.ld x5 r0_0) (View.ld x6 r0_0) (ix2 r 5)) = slab (fun c => x3 (ix2 r c)) (recip (fun c => x6 (ix2 r c)) (fun c => x4 (ix2 r c)) (fun c => x5 (ix2 r c)) (fun c => x6 (ix2 r c))) 2 l := by
  rw [pay5_at, pay5_at, pay6_at, pay6_at]
  pointwise [slab, recip]

/-- The combined row projected, at the blocks. -/
theorem c_at : k0_pay28 (F := Ideal) x0 x1 x2 x3 x4 x5 x6 x7 x8 x9 x10 x11 x12 x13 x14 x15 (ix2 r j) = ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j) := by
  unfold k0_pay28 k0_pay27 k0_pay26 k0_pay25
  refine (pay16_at _ _ _ _ _ _ _ _ _ _ _ _ _ r j (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c)))
    (sl0_at x1 x4 x5 x6 r) (sl1_at x1 x4 x5 x6 r) (sl2_at x1 x4 x5 x6 r) (sl3_at x2 x4 x5 x6 r) (sl4_at x2 x4 x5 x6 r) (sl5_at x2 x4 x5 x6 r) (sl6_at x3 x4 x5 x6 r) (sl7_at x3 x4 x5 x6 r) (sl8_at x3 x4 x5 x6 r)).trans ?_
  pointwise

/-- The residual of a row, at the blocks. -/
theorem h_at : k0_pay29 (F := Ideal) x0 x1 x2 x3 x4 x5 x6 x7 x8 x9 x10 x11 x12 x13 x14 x15 (ix2 r j) = (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) j := by
  unfold k0_pay29
  refine (pay17_at _ _ r j).trans ?_
  rw [c_at]
  pointwise

/-- The normed row, before the blocks' residual is spelt out. -/
theorem n0_at : k0_pay18 (F := Ideal) (View.ld x0 r0_4) (k0_pay28 x0 x1 x2 x3 x4 x5 x6 x7 x8 x9 x10 x11 x12 x13 x14 x15) (View.ld x9 r0_6) (ix2 r j) = (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) j := by
  refine (pay18_at _ _ _ r j).trans ?_
  simp only [c_at]
  pointwise [rms]

/-- The normed row, at the blocks. -/
theorem n_at : k0_pay30 (F := Ideal) x0 x1 x2 x3 x4 x5 x6 x7 x8 x9 x10 x11 x12 x13 x14 x15 (ix2 r j) = (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) j := by
  unfold k0_pay30
  exact n0_at x0 x1 x2 x3 x4 x5 x6 x7 x8 x9 x10 x11 x12 x13 x14 x15 r j

/-- The first four stretches of the feed-forward, at the blocks. -/
theorem f_at : k0_pay31 (F := Ideal) x0 x1 x2 x3 x4 x5 x6 x7 x8 x9 x10 x11 x12 x13 x14 x15 (ix2 r j)
    = part 512 0 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) + part 512 512 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) + part 512 1024 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) + part 512 1536 (by omega) (rms (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j))) (fun a k => x10 (ix2 a k)) (fun a k => x11 (ix2 a k)) (fun k => x12 (ix2 k j)) := by
  have e : ∀ j, _ = _ := n_at x0 x1 x2 x3 x4 x5 x6 x7 x8 x9 x10 x11 x12 x13 x14 x15 r
  have e0 : ∀ j, _ = _ := n0_at x0 x1 x2 x3 x4 x5 x6 x7 x8 x9 x10 x11 x12 x13 x14 x15 r
  unfold k0_pay31
  refine (pay21_at _ _ _ _ _ _ _ _ _ _ r j).trans ?_
  rw [pay19_at]
  simp only [pay20_at, e, e0]
  pointwise [part, hid]

/-- The row after its feed-forward, at the blocks. -/
theorem y_at : k0_pay23 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15) (k0_pay32 x0 x1 x2 x3 x4 x5 x6 x7 x8 x9 x10 x11 x12 x13 x14 x15) (View.ld x11 r0_15) (View.ld x12 r0_16) (View.ld x10 r0_17) (View.ld x11 r0_17) (View.ld x12 r0_18) (ix2 r j) = mid (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j)) (fun a k => x10 (ix2 a k)) (fun a k => x11 (ix2 a k)) (fun k j => x12 (ix2 k j)) j := by
  have e : ∀ j, _ = _ := n_at x0 x1 x2 x3 x4 x5 x6 x7 x8 x9 x10 x11 x12 x13 x14 x15 r
  unfold k0_pay32
  refine (pay23_at _ _ _ _ _ _ _ _ _ r j).trans ?_
  rw [h_at, f_at]
  unfold mid
  rw [ffn_parts]
  simp only [e]
  pointwise [part, hid]

/-- What a grid point stores, from the blocks it reads: the layer's arithmetic on each row. -/
theorem out_at :
    out0_16 (F := Ideal) x0 x1 x2 x3 x4 x5 x6 x7 x8 x9 x10 x11 x12 x13 x14 x15 (ix2 r j)
      = gate (mid (fun j => x0 (ix2 r j) + ∑ k : Fin 1152, comb (fun c => x1 (ix2 r c)) (fun c => x2 (ix2 r c)) (fun c => x3 (ix2 r c)) (recip (fun c => x4 (ix2 r c)) (fun c => x4 (ix2 r c)) (fun c => x5 (ix2 r c)) (fun c => x6 (ix2 r c))) (recip (fun c => x5 (ix2 r c)) (fun c => x4 (ix2 r c)) (fun c => x5 (ix2 r c)) (fun c => x6 (ix2 r c))) (recip (fun c => x6 (ix2 r c)) (fun c => x4 (ix2 r c)) (fun c => x5 (ix2 r c)) (fun c => x6 (ix2 r c))) k * x8 (ix2 k j)) (fun j => x9 (ix2 0 j)) (fun a k => x10 (ix2 a k)) (fun a k => x11 (ix2 a k)) (fun k j => x12 (ix2 k j)))
          (fun j => x13 (ix2 0 j)) (fun k j => x14 (ix2 k j)) (fun k => x7 (ix3 0 r k)) (fun k j => x15 (ix2 k j)) j := by
  frame_out
  refine (pay1_at _ _ _ _ _ _ _ _ _ _ _ _ _ r j).trans ?_
  exact congrArg (fun y => gate y _ _ _ _ j) (funext fun j => y_at x0 x1 x2 x3 x4 x5 x6 x7 x8 x9 x10 x11 x12 x13 x14 x15 r j)

end Cert.PostBSIdeal.Pure
-- ==== Proof.PostBSRef.lean ====
module

public import proofs.«01_k».proof.Proof.Gen.PostBSRefIdeal.Read
public import proofs.«01_k».proof.Proof.PostBRow

@[expose] public section

set_option maxRecDepth 16384

noncomputable section

open Idealize.ShloMosaic Idealize.ShloMosaic.TcCoe Idealize.SL.Sem

namespace Cert.PostBSRefIdeal.Pure

open Cert.PostBSRefIdeal Cert.PostBSRefIdeal.Gen Cert.PostBSRefIdeal.Read Cert.Layer

variable (x0 : FVec Ideal S32768x1024 .f32) (x1 x2 x3 : FVec Ideal S32768x384 .bf16) (x4 x5 x6 : FVec Ideal S32768x128 .f32) (x7 : FVec Ideal S2x32768x256 .f32) (x8 : FVec Ideal S1152x1024 .bf16) (x9 : FVec Ideal S2x1024 .f32) (x10 x11 : FVec Ideal S2x1024x2816 .f32) (x12 : FVec Ideal S2x2816x1024 .f32) (x13 : FVec Ideal S2x1024 .f32) (x14 : FVec Ideal S2x1024x1024 .f32) (x15 : FVec Ideal S2x256x1024 .f32) (t : Fin 32768) (j : Fin 1024)

theorem v2_at (a : Fin 3) (b : Fin 2) : val_main_v2 (F := Ideal) x4 (ix3 t a b) = x4 (ix2 t ⟨b.val * 3 + a.val, by omega⟩) := by
  pointwise [val_main_v2, val_main_v1, val_main_v0]

theorem v5_at (a : Fin 3) (b : Fin 2) : val_main_v5 (F := Ideal) x5 (ix3 t a b) = x5 (ix2 t ⟨b.val * 3 + a.val, by omega⟩) := by
  pointwise [val_main_v5, val_main_v4, val_main_v3]

theorem v8_at (a : Fin 3) (b : Fin 2) : val_main_v8 (F := Ideal) x6 (ix3 t a b) = x6 (ix2 t ⟨b.val * 3 + a.val, by omega⟩) := by
  pointwise [val_main_v8, val_main_v7, val_main_v6]

/-- The three logsumexps of a head, laid along an axis. -/
theorem v12_at (a : Fin 3) (b : Fin 2) (g : Fin 3) : val_main_v12 (F := Ideal) x4 x5 x6 (ix4 g t a b)
    = if g.val = 0 then x4 (ix2 t ⟨b.val * 3 + a.val, by omega⟩) else if g.val = 1 then x5 (ix2 t ⟨b.val * 3 + a.val, by omega⟩) else x6 (ix2 t ⟨b.val * 3 + a.val, by omega⟩) := by
  pointwise [val_main_v12, val_main_v11, val_main_v10, val_main_v9]
  rw [v2_at, v5_at, v8_at]
  have hg := g.isLt
  split_ifs <;> first | rfl | omega

theorem ninf : Ideal.ofBits .f32 4286578688#32 = ⊥ := by
  simp [Ideal.ofBits, Ideal.ieee]

theorem v13_at (a : Fin 3) (b : Fin 2) : val_main_v13 (F := Ideal) x4 x5 x6 (ix3 t a b) = top (x4 (ix2 t ⟨b.val * 3 + a.val, by omega⟩)) (x5 (ix2 t ⟨b.val * 3 + a.val, by omega⟩)) (x6 (ix2 t ⟨b.val * 3 + a.val, by omega⟩)) := by
  have e : ∀ g, _ = _ := v12_at x4 x5 x6 t a b
  pointwise [val_main_v13, val_main_cst]
  rw [ninf, show (Finset.univ : Finset (Fin 3)) = {0, 1, 2} from rfl, Finset.fold_insert (by decide), Finset.fold_insert (by decide), Finset.fold_singleton, max_bot_right]
  simp only [e]
  exact (max_assoc _ _ _).symm

/-- The greatest of them. -/
theorem v15_at (a : Fin 3) (b : Fin 2) : val_main_v15 (F := Ideal) x4 x5 x6 (ix3 t a b) = top (x4 (ix2 t ⟨b.val * 3 + a.val, by omega⟩)) (x5 (ix2 t ⟨b.val * 3 + a.val, by omega⟩)) (x6 (ix2 t ⟨b.val * 3 + a.val, by omega⟩)) := by
  have e : val_main_v13 (F := Ideal) x4 x5 x6 (ix3 t a b) = _ := v13_at x4 x5 x6 t a b
  pointwise [val_main_v15, val_main_v14, val_main_cst_0]
  rw [e, ninf, max_bot_left]

/-- A group's share of the mass at a head. -/
theorem v23_at (a : Fin 3) (b : Fin 2) (g : Fin 3) : val_main_v23 (F := Ideal) x4 x5 x6 (ix4 g t a b)
    = Ideal.div (Ideal.exp ((if g.val = 0 then x4 (ix2 t ⟨b.val * 3 + a.val, by omega⟩) else if g.val = 1 then x5 (ix2 t ⟨b.val * 3 + a.val, by omega⟩) else x6 (ix2 t ⟨b.val * 3 + a.val, by omega⟩)) - top (x4 (ix2 t ⟨b.val * 3 + a.val, by omega⟩)) (x5 (ix2 t ⟨b.val * 3 + a.val, by omega⟩)) (x6 (ix2 t ⟨b.val * 3 + a.val, by omega⟩)))) (mass (x4 (ix2 t ⟨b.val * 3 + a.val, by omega⟩)) (x5 (ix2 t ⟨b.val * 3 + a.val, by omega⟩)) (x6 (ix2 t ⟨b.val * 3 + a.val, by omega⟩))) := by
  have e : ∀ a b, _ = _ := v15_at x4 x5 x6 t
  pointwise [val_main_v23, val_main_v22, val_main_v21, val_main_v20, val_main_v19, val_main_v18, val_main_v17, val_main_v16, val_main_cst_1]
  simp only [e, v12_at, Fin.sum_univ_three]
  simp [mass]

theorem v23_0 (a : Fin 3) (b : Fin 2) : val_main_v23 (F := Ideal) x4 x5 x6 (ix4 0 t a b) = (share (fun c => x4 (ix2 t c)) (fun c => x4 (ix2 t c)) (fun c => x5 (ix2 t c)) (fun c => x6 (ix2 t c))) ⟨b.val * 3 + a.val, by omega⟩ := v23_at x4 x5 x6 t a b 0

theorem v23_1 (a : Fin 3) (b : Fin 2) : val_main_v23 (F := Ideal) x4 x5 x6 (ix4 1 t a b) = (share (fun c => x5 (ix2 t c)) (fun c => x4 (ix2 t c)) (fun c => x5 (ix2 t c)) (fun c => x6 (ix2 t c))) ⟨b.val * 3 + a.val, by omega⟩ := v23_at x4 x5 x6 t a b 1

theorem v23_2 (a : Fin 3) (b : Fin 2) : val_main_v23 (F := Ideal) x4 x5 x6 (ix4 2 t a b) = (share (fun c => x6 (ix2 t c)) (fun c => x4 (ix2 t c)) (fun c => x5 (ix2 t c)) (fun c => x6 (ix2 t c))) ⟨b.val * 3 + a.val, by omega⟩ := v23_at x4 x5 x6 t a b 2

/-- The combined row. -/
theorem v46_at (k : Fin 1152) : val_main_v46 (F := Ideal) x1 x2 x3 x4 x5 x6 (ix2 t k) = comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24]
  exact three (fun c => x1 (ix2 t c)) (fun c => x2 (ix2 t c)) (fun c => x3 (ix2 t c)) _ _ _ (fun a b => val_main_v23 (F := Ideal) x4 x5 x6 (ix4 0 t a b)) (fun a b => val_main_v23 (F := Ideal) x4 x5 x6 (ix4 1 t a b)) (fun a b => val_main_v23 (F := Ideal) x4 x5 x6 (ix4 2 t a b))
    (v23_0 x4 x5 x6 t) (v23_1 x4 x5 x6 t) (v23_2 x4 x5 x6 t) k

/-- The residual: the row plus the projected attention. -/
theorem v49_at : val_main_v49 (F := Ideal) x0 x1 x2 x3 x4 x5 x6 x8 (ix2 t j) = (fun j => x0 (ix2 t j) + ∑ k : Fin 1152, comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k * x8 (ix2 k j)) j := by
  have e : ∀ k, _ = _ := v46_at x1 x2 x3 x4 x5 x6 t
  pointwise [val_main_v49, val_main_v48, val_main_v47]
  simp only [e]

/-- The first norm. -/
theorem v64_at : val_main_v64 (F := Ideal) x0 x1 x2 x3 x4 x5 x6 x8 x9 (ix2 t j)
    = rms (fun j => val_main_v49 (F := Ideal) x0 x1 x2 x3 x4 x5 x6 x8 (ix2 t j)) (fun j => x9 (ix2 1 j)) j := by
  pointwise [val_main_v64, val_main_v63, val_main_v62, val_main_v61, val_main_v60, val_main_v59, val_main_v58, val_main_v57, val_main_v56, val_main_v55, val_main_v54, val_main_v53, val_main_v52, val_main_v51, val_main_v50, val_main_cst_2, val_main_cst_3, val_main_cst_4, rms]

/-- One hidden unit of the feed-forward. -/
theorem v74_at (k : Fin 2816) : val_main_v74 (F := Ideal) x0 x1 x2 x3 x4 x5 x6 x8 x9 x10 x11 (ix2 t k)
    = hid (fun a => val_main_v64 (F := Ideal) x0 x1 x2 x3 x4 x5 x6 x8 x9 (ix2 t a)) (fun a => x10 (ix3 1 a k)) (fun a => x11 (ix3 1 a k)) := by
  pointwise [val_main_v74, val_main_v73, val_main_v72, val_main_v71, val_main_call0_v5, val_main_call0_v4, val_main_call0_v3, val_main_call0_v2, val_main_call0_v1, val_main_call0_v0, val_main_call0_cst, val_main_call0_cst_0, val_main_v68, val_main_v67, val_main_v66, val_main_v65, hid, Ideal.logistic]

/-- The row after its feed-forward. -/
theorem v76_at : val_main_v76 (F := Ideal) x0 x1 x2 x3 x4 x5 x6 x8 x9 x10 x11 x12 (ix2 t j) = mid (fun j => x0 (ix2 t j) + ∑ k : Fin 1152, comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k * x8 (ix2 k j)) (fun j => x9 (ix2 1 j)) (fun a k => x10 (ix3 1 a k)) (fun a k => x11 (ix3 1 a k)) (fun k j => x12 (ix3 1 k j)) j := by
  have e3 : ∀ j, _ = _ := v49_at x0 x1 x2 x3 x4 x5 x6 x8 t
  have e18 : ∀ j, _ = _ := v64_at x0 x1 x2 x3 x4 x5 x6 x8 x9 t
  have e28 : ∀ j, _ = _ := v74_at x0 x1 x2 x3 x4 x5 x6 x8 x9 x10 x11 t
  pointwise [val_main_v76, val_main_v75, val_main_v70, val_main_v69, mid, ffn]
  simp only [e28, e18, e3]

/-- The second norm. -/
theorem v91_at : val_main_v91 (F := Ideal) x0 x1 x2 x3 x4 x5 x6 x8 x9 x10 x11 x12 x13 (ix2 t j)
    = rms (fun j => val_main_v76 (F := Ideal) x0 x1 x2 x3 x4 x5 x6 x8 x9 x10 x11 x12 (ix2 t j)) (fun j => x13 (ix2 1 j)) j := by
  pointwise [val_main_v91, val_main_v90, val_main_v89, val_main_v88, val_main_v87, val_main_v86, val_main_v85, val_main_v84, val_main_v83, val_main_v82, val_main_v81, val_main_v80, val_main_v79, val_main_v78, val_main_v77, val_main_cst_5, val_main_cst_6, val_main_cst_7, rms]

/-- The reference's result at an element. -/
theorem res_at : val_main_v107 (F := Ideal) x0 x1 x2 x3 x4 x5 x6 x7 x8 x9 x10 x11 x12 x13 x14 x15 (ix2 t j)
    = gate (mid (fun j => x0 (ix2 t j) + ∑ k : Fin 1152, comb (fun c => x1 (ix2 t c)) (fun c => x2 (ix2 t c)) (fun c => x3 (ix2 t c)) (share (fun c => x4 (ix2 t c)) (fun c => x4 (ix2 t c)) (fun c => x5 (ix2 t c)) (fun c => x6 (ix2 t c))) (share (fun c => x5 (ix2 t c)) (fun c => x4 (ix2 t c)) (fun c => x5 (ix2 t c)) (fun c => x6 (ix2 t c))) (share (fun c => x6 (ix2 t c)) (fun c => x4 (ix2 t c)) (fun c => x5 (ix2 t c)) (fun c => x6 (ix2 t c))) k * x8 (ix2 k j)) (fun j => x9 (ix2 1 j)) (fun a k => x10 (ix3 1 a k)) (fun a k => x11 (ix3 1 a k)) (fun k j => x12 (ix3 1 k j)))
        (fun j => x13 (ix2 1 j)) (fun k j => x14 (ix3 1 k j)) (fun k => x7 (ix3 1 t k)) (fun k j => x15 (ix3 1 k j)) j := by
  have e45 : ∀ j, _ = _ := v91_at x0 x1 x2 x3 x4 x5 x6 x8 x9 x10 x11 x12 x13 t
  have e30 : ∀ j, _ = _ := v76_at x0 x1 x2 x3 x4 x5 x6 x8 x9 x10 x11 x12 t
  pointwise [val_main_v107, val_main_v106, val_main_v105, val_main_v104, val_main_v103, val_main_v102, val_main_v101, val_main_v100, val_main_v99, val_main_v98, val_main_v97, val_main_v96, val_main_v95, val_main_v94, val_main_v93, val_main_v92, val_main_cst_8, val_main_cst_9, gate, Ideal.logistic]
  simp only [e45, e30]

end Cert.PostBSRefIdeal.Pure
-- ==== Proof.PostBSValue.lean ====
module

public import proofs.«01_k».proof.Proof.PostBSOut
public import proofs.«01_k».proof.Proof.PostBSRef

@[expose] public section

set_option maxRecDepth 16384

noncomputable section

open Idealize.ShloMosaic Idealize.ShloMosaic.TcCoe Idealize.SL.Sem
open Idealize.ShloMosaic.Pipeline (Dat)

namespace Cert.PostBSIdeal.Pure

open Cert.PostBSIdeal Cert.PostBSIdeal.Gen Cert.Layer

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![1, t.val, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0] :=
  (by decide +kernel : ∀ t : Fin grid0.N, _)

/-- The reference's result over the kernel's arguments. -/
abbrev REF (c : Dev nD) : FVec Ideal S32768x1024 .f32 :=
  Cert.PostBSRefIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

theorem rd0 (c : Dev nD) (t : Fin cfg0.N) (r : Fin 512) (q : Fin 32768) (hq : q.val = t.val * 512 + r.val) (j : Fin 1024) :
    (show FVec Ideal S512x1024 .f32 from iblk m c 0 t) (ix2 r j) = (show EReal from m ((c.tc : Thread nD τ).loc main_arg0) (ix2 q j)) := by
  blk_point [iblk, idx t]

theorem rd1 (c : Dev nD) (t : Fin cfg0.N) (r : Fin 512) (q : Fin 32768) (hq : q.val = t.val * 512 + r.val) (j : Fin 384) :
    (show FVec Ideal S512x384 .bf16 from iblk m c 1 t) (ix2 r j) = (show EReal from m ((c.tc : Thread nD τ).loc main_arg1) (ix2 q j)) := by
  blk_point [iblk, idx t]

theorem rd2 (c : Dev nD) (t : Fin cfg0.N) (r : Fin 512) (q : Fin 32768) (hq : q.val = t.val * 512 + r.val) (j : Fin 384) :
    (show FVec Ideal S512x384 .bf16 from iblk m c 2 t) (ix2 r j) = (show EReal from m ((c.tc : Thread nD τ).loc main_arg2) (ix2 q j)) := by
  blk_point [iblk, idx t]

theorem rd3 (c : Dev nD) (t : Fin cfg0.N) (r : Fin 512) (q : Fin 32768) (hq : q.val = t.val * 512 + r.val) (j : Fin 384) :
    (show FVec Ideal S512x384 .bf16 from iblk m c 3 t) (ix2 r j) = (show EReal from m ((c.tc : Thread nD τ).loc main_arg3) (ix2 q j)) := by
  blk_point [iblk, idx t]

theorem rd4 (c : Dev nD) (t : Fin cfg0.N) (r : Fin 512) (q : Fin 32768) (hq : q.val = t.val * 512 + r.val) (j : Fin 128) :
    (show FVec Ideal S512x128 .f32 from iblk m c 4 t) (ix2 r j) = (show EReal from m ((c.tc : Thread nD τ).loc main_arg4) (ix2 q j)) := by
  blk_point [iblk, idx t]

theorem rd5 (c : Dev nD) (t : Fin cfg0.N) (r : Fin 512) (q : Fin 32768) (hq : q.val = t.val * 512 + r.val) (j : Fin 128) :
    (show FVec Ideal S512x128 .f32 from iblk m c 5 t) (ix2 r j) = (show EReal from m ((c.tc : Thread nD τ).loc main_arg5) (ix2 q j)) := by
  blk_point [iblk, idx t]

theorem rd6 (c : Dev nD) (t : Fin cfg0.N) (r : Fin 512) (q : Fin 32768) (hq : q.val = t.val * 512 + r.val) (j : Fin 128) :
    (show FVec Ideal S512x128 .f32 from iblk m c 6 t) (ix2 r j) = (show EReal from m ((c.tc : Thread nD τ).loc main_arg6) (ix2 q j)) := by
  blk_point [iblk, idx t]

theorem rd7 (c : Dev nD) (t : Fin cfg0.N) (r : Fin 512) (q : Fin 32768) (hq : q.val = t.val * 512 + r.val) (j : Fin 256) :
    (show FVec Ideal S1x512x256 .f32 from iblk m c 7 t) (ix3 0 r j) = (show EReal from m ((c.tc : Thread nD τ).loc main_arg7) (ix3 1 q j)) := by
  blk_point [iblk, idx t]

theorem rd8 (c : Dev nD) (t : Fin cfg0.N) (a : Fin 1152) (b : Fin 1024) :
    (show FVec Ideal S1152x1024 .bf16 from iblk m c 8 t) (ix2 a b) = (show EReal from m ((c.tc : Thread nD τ).loc main_arg8) (ix2 a b)) := by
  blk_point [iblk, idx t]

theorem rd9 (c : Dev nD) (t : Fin cfg0.N) (b : Fin 1024) :
    (show FVec Ideal S1x1024 .f32 from iblk m c 9 t) (ix2 0 b) = (show EReal from m ((c.tc : Thread nD τ).loc main_arg9) (ix2 1 b)) := by
  blk_point [iblk, idx t]

theorem rd10 (c : Dev nD) (t : Fin cfg0.N) (a : Fin 1024) (b : Fin 2816) :
    (show FVec Ideal S1024x2816 .bf16 from iblk m c 10 t) (ix2 a b) = (show EReal from m ((c.tc : Thread nD τ).loc main_arg10) (ix3 1 a b)) := by
  blk_point [iblk, idx t]

theorem rd11 (c : Dev nD) (t : Fin cfg0.N) (a : Fin 1024) (b : Fin 2816) :
    (show FVec Ideal S1024x2816 .bf16 from iblk m c 11 t) (ix2 a b) = (show EReal from m ((c.tc : Thread nD τ).loc main_arg11) (ix3 1 a b)) := by
  blk_point [iblk, idx t]

theorem rd12 (c : Dev nD) (t : Fin cfg0.N) (a : Fin 2816) (b : Fin 1024) :
    (show FVec Ideal S2816x1024 .bf16 from iblk m c 12 t) (ix2 a b) = (show EReal from m ((c.tc : Thread nD τ).loc main_arg12) (ix3 1 a b)) := by
  blk_point [iblk, idx t]

theorem rd13 (c : Dev nD) (t : Fin cfg0.N) (b : Fin 1024) :
    (show FVec Ideal S1x1024 .f32 from iblk m c 13 t) (ix2 0 b) = (show EReal from m ((c.tc : Thread nD τ).loc main_arg13) (ix2 1 b)) := by
  blk_point [iblk, idx t]

theorem rd14 (c : Dev nD) (t : Fin cfg0.N) (a b : Fin 1024) :
    (show FVec Ideal S1024x1024 .bf16 from iblk m c 14 t) (ix2 a b) = (show EReal from m ((c.tc : Thread nD τ).loc main_arg14) (ix3 1 a b)) := by
  blk_point [iblk, idx t]

theorem rd15 (c : Dev nD) (t : Fin cfg0.N) (a : Fin 256) (b : Fin 1024) :
    (show FVec Ideal S256x1024 .bf16 from iblk m c 15 t) (ix2 a b) = (show EReal from m ((c.tc : Thread nD τ).loc main_arg15) (ix3 1 a b)) := by
  blk_point [iblk, idx t]

/-- Where the greatest logsumexp of every head is finite. -/
def LseFinite (c : Dev nD) : Prop := ∀ (q : Fin 32768) (h : Fin 6), ⊥ < top (show EReal from m ((c.tc : Thread nD τ).loc main_arg4) (ix2 q ⟨h.val, by omega⟩)) (show EReal from m ((c.tc : Thread nD τ).loc main_arg5) (ix2 q ⟨h.val, by omega⟩)) (show EReal from m ((c.tc : Thread nD τ).loc main_arg6) (ix2 q ⟨h.val, by omega⟩)) ∧ top (show EReal from m ((c.tc : Thread nD τ).loc main_arg4) (ix2 q ⟨h.val, by omega⟩)) (show EReal from m ((c.tc : Thread nD τ).loc main_arg5) (ix2 q ⟨h.val, by omega⟩)) (show EReal from m ((c.tc : Thread nD τ).loc main_arg6) (ix2 q ⟨h.val, by omega⟩)) < ⊤

theorem point (c : Dev nD) (hf : LseFinite m c) (t : Fin cfg0.N) (r : Fin 512) (j : Fin 1024) (q : Fin 32768) (hq : q.val = t.val * 512 + r.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r j)
      = REF m c (ix2 q j) := by
  refine (out_at _ _ _ _ _ _ _ _ _ _ _ _ _ _ _ _ r j).trans (Eq.trans ?_ (Cert.PostBSRefIdeal.Pure.res_at _ _ _ _ _ _ _ _ _ _ _ _ _ _ _ _ q j).symm)
  refine row_congr j (fun j => Ideal.add_congr (rd0 m c t r q hq j) (Finset.sum_congr rfl fun k _ => Ideal.mul_congr ?_ (rd8 m c t k j)))
    (rd9 m c t) (rd10 m c t) (rd11 m c t) (rd12 m c t) (rd13 m c t) (rd14 m c t) (rd7 m c t r q hq) (rd15 m c t)
  exact comb_congr k (rd1 m c t r q hq) (rd2 m c t r q hq) (rd3 m c t r q hq) (rd4 m c t r q hq) (rd5 m c t r q hq) (rd6 m c t r q hq) (hf q)

/-- The kernel's result array is the reference's. -/
theorem final (c : Dev nD) (hf : LseFinite m c) : (dats m 0 c).arrAt 16 (cfgs 0).N = REF m c := by
  refine (dats m 0 c).arrAt_eq_of_covers 16 _ (by decide +kernel) fun t _ y => ?_
  blk_simp
  rw [after0_16]
  have ht : t.val < 64 := t.isLt
  have hr : ((y 0 : Fin 512)).val < 512 := (y 0 : Fin 512).isLt
  refine (congrArg (out0_16 (F := Ideal) _ _ _ _ _ _ _ _ _ _ _ _ _ _ _ _) (eq_ix2 (n0 := 512) (n1 := 1024) y)).trans ?_
  refine (point m c hf t (y 0) (y 1) ⟨t.val * 512 + (y 0 : Fin 512).val, by omega⟩ rfl).trans ?_
  blk_ext [idx t]

end Cert.PostBSIdeal.Pure
-- ==== Proof.PostBSClaim.lean ====
module

public import proofs.«01_k».proof.Defs
public import proofs.«01_k».proof.Proof.PostBSValue
public import proofs.«01_k».proof.Proof.Gen.PostBS.Frame
public import proofs.«01_k».proof.Proof.Gen.Pre_greatest_lse_finite_sample
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.PostBS.Claims

theorem quiescent : Cert.quiescent_PostBS := fun m g _ => Cert.PostBS.Gen.frame m g

theorem quiescentIdeal : Cert.quiescent_PostBSIdeal := fun m g _ => Cert.PostBSIdeal.Gen.frame m g

theorem quiescentRef : Cert.quiescent_PostBSRefIdeal := fun m g _ =>
  (θ_run Cert.PostBSRefIdeal.defs _ _).mono (fun r h => ⟨fun c => (h c).2,
      Idealize.ShloMosaic.sem_eq_zero_of_no_sems (by decide) r.2⟩)
    (Cert.PostBSRefIdeal.Value.run (F := Ideal) m g)

theorem quiescentIdealPre : Cert.quiescent_PostBSIdeal_pre_greatest_lse_finite_sample := fun m g _ => quiescentIdeal m g trivial

theorem quiescentRefPre : Cert.quiescent_PostBSRefIdeal_pre_greatest_lse_finite_sample := fun m g _ => quiescentRef m g trivial

/-- The precondition's function at a token and a head. -/
theorem fn_at (x0 : FVec Ideal Cert.Pre_greatest_lse_finite_sample.S32768x1024 .f32) (x1 : FVec Ideal Cert.Pre_greatest_lse_finite_sample.S32768x384 .bf16) (x2 : FVec Ideal Cert.Pre_greatest_lse_finite_sample.S32768x384 .bf16) (x3 : FVec Ideal Cert.Pre_greatest_lse_finite_sample.S32768x384 .bf16) (x4 : FVec Ideal Cert.Pre_greatest_lse_finite_sample.S32768x128 .f32) (x5 : FVec Ideal Cert.Pre_greatest_lse_finite_sample.S32768x128 .f32) (x6 : FVec Ideal Cert.Pre_greatest_lse_finite_sample.S32768x128 .f32) (x7 : FVec Ideal Cert.Pre_greatest_lse_finite_sample.S2x32768x256 .f32) (x8 : FVec Ideal Cert.Pre_greatest_lse_finite_sample.S1152x1024 .bf16) (x9 : FVec Ideal Cert.Pre_greatest_lse_finite_sample.S2x1024 .f32) (x10 : FVec Ideal Cert.Pre_greatest_lse_finite_sample.S2x1024x2816 .f32) (x11 : FVec Ideal Cert.Pre_greatest_lse_finite_sample.S2x1024x2816 .f32) (x12 : FVec Ideal Cert.Pre_greatest_lse_finite_sample.S2x2816x1024 .f32) (x13 : FVec Ideal Cert.Pre_greatest_lse_finite_sample.S2x1024 .f32) (x14 : FVec Ideal Cert.Pre_greatest_lse_finite_sample.S2x1024x1024 .f32) (x15 : FVec Ideal Cert.Pre_greatest_lse_finite_sample.S2x256x1024 .f32) (q : Fin 32768) (b : Fin 6) :
    Cert.Pre_greatest_lse_finite_sample.fn (F := Ideal) x0 x1 x2 x3 x4 x5 x6 x7 x8 x9 x10 x11 x12 x13 x14 x15 (ix2 q b)
      = IntOp.andi (Ideal.cmp .ogt (Layer.top (x4 (ix2 q ⟨b.val, by omega⟩)) (x5 (ix2 q ⟨b.val, by omega⟩)) (x6 (ix2 q ⟨b.val, by omega⟩))) (Ideal.ofBits .f32 0xFF800000#32)) (Ideal.cmp .olt (Layer.top (x4 (ix2 q ⟨b.val, by omega⟩)) (x5 (ix2 q ⟨b.val, by omega⟩)) (x6 (ix2 q ⟨b.val, by omega⟩))) (Ideal.ofBits .f32 0x7F800000#32)) := by
  pointwise [Cert.Pre_greatest_lse_finite_sample.fn, Layer.top]

/-- Both comparisons come out true only where both hold. -/
theorem both (x : EReal) (h : IntOp.andi (Ideal.cmp .ogt x (Ideal.ofBits .f32 0xFF800000#32)) (Ideal.cmp .olt x (Ideal.ofBits .f32 0x7F800000#32)) = 1#1) :
    ⊥ < x ∧ x < ⊤ := by
  have e0 : Ideal.ofBits .f32 0xFF800000#32 = ⊥ := by simp [Ideal.ofBits, Ideal.ieee]
  have e1 : Ideal.ofBits .f32 0x7F800000#32 = ⊤ := by simp [Ideal.ofBits, Ideal.ieee]
  rw [e0, e1] at h
  by_cases h0 : ⊥ < x
  · by_cases h1 : x < ⊤
    · exact ⟨h0, h1⟩
    · simp [Ideal.cmp, h1, IntOp.andi] at h
  · simp [Ideal.cmp, h0, IntOp.andi] at h

/-- The precondition at a token and a head: the greatest of the three logsumexps is finite. -/
theorem lseFinite (m : (ℓ : Loc Cert.PostBSIdeal.nD Cert.PostBSIdeal.τ Cert.PostBSIdeal.sig) → Buf (Elt Ideal) ℓ) (h : Cert.Pre_PostBSIdeal_greatest_lse_finite_sample m)
    (c : Dev Cert.PostBSIdeal.nD) : Cert.PostBSIdeal.Pure.LseFinite m c :=
  fun q b => both _ ((fn_at _ _ _ _ _ _ _ _ _ _ _ _ _ _ _ _ q b).symm.trans (congrFun (h c) (ix2 q b)))

theorem preserves : Cert.preserves_PostBS_PostBSIdeal := trivial

/-- The reference's result over its own arguments is the one over the kernel's, where the arguments agree. -/
theorem refAt (m : (ℓ : Loc Cert.PostBSIdeal.nD Cert.PostBSIdeal.τ Cert.PostBSIdeal.sig) → Buf (Elt Ideal) ℓ) (m' : (ℓ : Loc Cert.PostBSRefIdeal.nD Cert.PostBSRefIdeal.τ Cert.PostBSRefIdeal.sig) → Buf (Elt Ideal) ℓ)
    (c : Dev Cert.PostBSIdeal.nD)
    (h : m' ((c.tc : Thread Cert.PostBSRefIdeal.nD Cert.PostBSRefIdeal.τ).loc Cert.PostBSRefIdeal.main_arg0) = m ((c.tc : Thread Cert.PostBSIdeal.nD Cert.PostBSIdeal.τ).loc Cert.PostBSIdeal.main_arg0) ∧ m' ((c.tc : Thread Cert.PostBSRefIdeal.nD Cert.PostBSRefIdeal.τ).loc Cert.PostBSRefIdeal.main_arg1) = m ((c.tc : Thread Cert.PostBSIdeal.nD Cert.PostBSIdeal.τ).loc Cert.PostBSIdeal.main_arg1) ∧ m' ((c.tc : Thread Cert.PostBSRefIdeal.nD Cert.PostBSRefIdeal.τ).loc Cert.PostBSRefIdeal.main_arg2) = m ((c.tc : Thread Cert.PostBSIdeal.nD Cert.PostBSIdeal.τ).loc Cert.PostBSIdeal.main_arg2) ∧ m' ((c.tc : Thread Cert.PostBSRefIdeal.nD Cert.PostBSRefIdeal.τ).loc Cert.PostBSRefIdeal.main_arg3) = m ((c.tc : Thread Cert.PostBSIdeal.nD Cert.PostBSIdeal.τ).loc Cert.PostBSIdeal.main_arg3) ∧ m' ((c.tc : Thread Cert.PostBSRefIdeal.nD Cert.PostBSRefIdeal.τ).loc Cert.PostBSRefIdeal.main_arg4) = m ((c.tc : Thread Cert.PostBSIdeal.nD Cert.PostBSIdeal.τ).loc Cert.PostBSIdeal.main_arg4) ∧ m' ((c.tc : Thread Cert.PostBSRefIdeal.nD Cert.PostBSRefIdeal.τ).loc Cert.PostBSRefIdeal.main_arg5) = m ((c.tc : Thread Cert.PostBSIdeal.nD Cert.PostBSIdeal.τ).loc Cert.PostBSIdeal.main_arg5) ∧ m' ((c.tc : Thread Cert.PostBSRefIdeal.nD Cert.PostBSRefIdeal.τ).loc Cert.PostBSRefIdeal.main_arg6) = m ((c.tc : Thread Cert.PostBSIdeal.nD Cert.PostBSIdeal.τ).loc Cert.PostBSIdeal.main_arg6) ∧ m' ((c.tc : Thread Cert.PostBSRefIdeal.nD Cert.PostBSRefIdeal.τ).loc Cert.PostBSRefIdeal.main_arg7) = m ((c.tc : Thread Cert.PostBSIdeal.nD Cert.PostBSIdeal.τ).loc Cert.PostBSIdeal.main_arg7) ∧ m' ((c.tc : Thread Cert.PostBSRefIdeal.nD Cert.PostBSRefIdeal.τ).loc Cert.PostBSRefIdeal.main_arg8) = m ((c.tc : Thread Cert.PostBSIdeal.nD Cert.PostBSIdeal.τ).loc Cert.PostBSIdeal.main_arg8) ∧ m' ((c.tc : Thread Cert.PostBSRefIdeal.nD Cert.PostBSRefIdeal.τ).loc Cert.PostBSRefIdeal.main_arg9) = m ((c.tc : Thread Cert.PostBSIdeal.nD Cert.PostBSIdeal.τ).loc Cert.PostBSIdeal.main_arg9) ∧ m' ((c.tc : Thread Cert.PostBSRefIdeal.nD Cert.PostBSRefIdeal.τ).loc Cert.PostBSRefIdeal.main_arg10) = m ((c.tc : Thread Cert.PostBSIdeal.nD Cert.PostBSIdeal.τ).loc Cert.PostBSIdeal.main_arg10) ∧ m' ((c.tc : Thread Cert.PostBSRefIdeal.nD Cert.PostBSRefIdeal.τ).loc Cert.PostBSRefIdeal.main_arg11) = m ((c.tc : Thread Cert.PostBSIdeal.nD Cert.PostBSIdeal.τ).loc Cert.PostBSIdeal.main_arg11) ∧ m' ((c.tc : Thread Cert.PostBSRefIdeal.nD Cert.PostBSRefIdeal.τ).loc Cert.PostBSRefIdeal.main_arg12) = m ((c.tc : Thread Cert.PostBSIdeal.nD Cert.PostBSIdeal.τ).loc Cert.PostBSIdeal.main_arg12) ∧ m' ((c.tc : Thread Cert.PostBSRefIdeal.nD Cert.PostBSRefIdeal.τ).loc Cert.PostBSRefIdeal.main_arg13) = m ((c.tc : Thread Cert.PostBSIdeal.nD Cert.PostBSIdeal.τ).loc Cert.PostBSIdeal.main_arg13) ∧ m' ((c.tc : Thread Cert.PostBSRefIdeal.nD Cert.PostBSRefIdeal.τ).loc Cert.PostBSRefIdeal.main_arg14) = m ((c.tc : Thread Cert.PostBSIdeal.nD Cert.PostBSIdeal.τ).loc Cert.PostBSIdeal.main_arg14) ∧ m' ((c.tc : Thread Cert.PostBSRefIdeal.nD Cert.PostBSRefIdeal.τ).loc Cert.PostBSRefIdeal.main_arg15) = m ((c.tc : Thread Cert.PostBSIdeal.nD Cert.PostBSIdeal.τ).loc Cert.PostBSIdeal.main_arg15)) :
    Cert.PostBSRefIdeal.Read.val_main_v107 (F := Ideal) (m' ((c.tc : Thread Cert.PostBSRefIdeal.nD Cert.PostBSRefIdeal.τ).loc Cert.PostBSRefIdeal.main_arg0)) (m' ((c.tc : Thread Cert.PostBSRefIdeal.nD Cert.PostBSRefIdeal.τ).loc Cert.PostBSRefIdeal.main_arg1)) (m' ((c.tc : Thread Cert.PostBSRefIdeal.nD Cert.PostBSRefIdeal.τ).loc Cert.PostBSRefIdeal.main_arg2)) (m' ((c.tc : Thread Cert.PostBSRefIdeal.nD Cert.PostBSRefIdeal.τ).loc Cert.PostBSRefIdeal.main_arg3)) (m' ((c.tc : Thread Cert.PostBSRefIdeal.nD Cert.PostBSRefIdeal.τ).loc Cert.PostBSRefIdeal.main_arg4)) (m' ((c.tc : Thread Cert.PostBSRefIdeal.nD Cert.PostBSRefIdeal.τ).loc Cert.PostBSRefIdeal.main_arg5)) (m' ((c.tc : Thread Cert.PostBSRefIdeal.nD Cert.PostBSRefIdeal.τ).loc Cert.PostBSRefIdeal.main_arg6)) (m' ((c.tc : Thread Cert.PostBSRefIdeal.nD Cert.PostBSRefIdeal.τ).loc Cert.PostBSRefIdeal.main_arg7)) (m' ((c.tc : Thread Cert.PostBSRefIdeal.nD Cert.PostBSRefIdeal.τ).loc Cert.PostBSRefIdeal.main_arg8)) (m' ((c.tc : Thread Cert.PostBSRefIdeal.nD Cert.PostBSRefIdeal.τ).loc Cert.PostBSRefIdeal.main_arg9)) (m' ((c.tc : Thread Cert.PostBSRefIdeal.nD Cert.PostBSRefIdeal.τ).loc Cert.PostBSRefIdeal.main_arg10)) (m' ((c.tc : Thread Cert.PostBSRefIdeal.nD Cert.PostBSRefIdeal.τ).loc Cert.PostBSRefIdeal.main_arg11)) (m' ((c.tc : Thread Cert.PostBSRefIdeal.nD Cert.PostBSRefIdeal.τ).loc Cert.PostBSRefIdeal.main_arg12)) (m' ((c.tc : Thread Cert.PostBSRefIdeal.nD Cert.PostBSRefIdeal.τ).loc Cert.PostBSRefIdeal.main_arg13)) (m' ((c.tc : Thread Cert.PostBSRefIdeal.nD Cert.PostBSRefIdeal.τ).loc Cert.PostBSRefIdeal.main_arg14)) (m' ((c.tc : Thread Cert.PostBSRefIdeal.nD Cert.PostBSRefIdeal.τ).loc Cert.PostBSRefIdeal.main_arg15)) = Cert.PostBSIdeal.Pure.REF m c := by
  obtain ⟨h0, h1, h2, h3, h4, h5, h6, h7, h8, h9, h10, h11, h12, h13, h14, h15⟩ := h
  rw [h0, h1, h2, h3, h4, h5, h6, h7, h8, h9, h10, h11, h12, h13, h14, h15]

theorem algebraic : Cert.algebraic_PostBSIdeal_PostBSRefIdeal_pre_greatest_lse_finite_sample := by
  intro m g m' g' hpre hagree
  refine ⟨fun c => Cert.PostBSIdeal.Pure.REF m c, ?_, ?_⟩
  · exact (θ_run Cert.PostBSIdeal.defs _ _).mono
      (fun r h c => ⟨((h.1 c).1 16).trans (Cert.PostBSIdeal.Pure.final m c (lseFinite m hpre c)), h.2.1 c⟩)
      (Idealize.ShloMosaic.θ_run_and (Cert.PostBSIdeal.Gen.run_main m g) (Cert.PostBSIdeal.Gen.frame m g))
  · exact (θ_run Cert.PostBSRefIdeal.defs _ _).mono
      (fun r h c => ⟨((h c).1.trans (Cert.PostBSRefIdeal.Read.val_main_v107_eq _)).trans (refAt m m' c (hagree c)), (h c).2⟩)
      (Cert.PostBSRefIdeal.Value.run (F := Ideal) m' g')

end Cert.PostBS.Claims
-- ==== Proof.QkvRow.lean ====
module

public import proofs.«01_k».proof.Proof.PostRow

@[expose] public section

set_option maxRecDepth 16384

noncomputable section

open Idealize.ShloMosaic

/-! What the projection to queries, keys and values does to one token, over extended reals: norm,
    projection, and the norm of each head of the queries and of the keys. -/

namespace Cert.Layer

/-- One channel of the projection of a normed row. -/
def proj (n w : Fin 1024 → EReal) : EReal := ∑ a, n a * w a

/-- A channel divided by its head's root mean square. -/
def unit (p : Fin 64 → EReal) (x : EReal) : EReal :=
  x * Ideal.rsqrt (Ideal.div (∑ d, p d * p d) (Ideal.ofBits .f32 0x42800000#32) + Ideal.ofBits .f32 0x358637BD#32)

/-- A channel of a row of whole heads, divided by its head's root mean square. -/
def head {B : ℕ} (h64 : B % 64 = 0) (y : Fin B → EReal) (c : Fin B) : EReal :=
  unit (fun d : Fin 64 => y ⟨c.val / 64 * 64 + d.val, by omega⟩) (y c)

theorem one_bf16 : Ideal.ofBits .bf16 0x3F80#16 = 1 := by
  simp [Ideal.ofBits, Ideal.ieee]
  rw [← EReal.coe_mul]; norm_num

theorem zero_bf16 : Ideal.ofBits .bf16 0x0000#16 = 0 := by
  simp [Ideal.ofBits, Ideal.ieee]

/-- The product with 1/64 is the division by 64. -/
theorem mean64 (x : EReal) : x * Ideal.ofBits .f32 0x3C800000#32 = Ideal.div x (Ideal.ofBits .f32 0x42800000#32) := by
  have e : Ideal.ofBits .f32 0x42800000#32 = ((64 : ℝ) : EReal) := by
    simp [Ideal.ofBits, Ideal.ieee]; rw [← EReal.coe_mul]; norm_num
  have e' : Ideal.ofBits .f32 0x3C800000#32 = (((64 : ℝ)⁻¹ : ℝ) : EReal) := by
    simp [Ideal.ofBits, Ideal.ieee]; rw [← EReal.coe_mul]; norm_num
  rw [e, e', Ideal.div, if_neg (by norm_num), EReal.coe_inv]

/-- A stretch of whole heads summed against the block-diagonal ones: the sum over the channel's own head. -/
theorem head_sum (m : ℕ) (f : Fin (m * 64) → EReal) (c : Fin (m * 64)) :
    ∑ l, f l * (if l.val / 64 = c.val / 64 then (1 : EReal) else 0) = ∑ d : Fin 64, f ⟨c.val / 64 * 64 + d.val, by omega⟩ := by
  rw [← finProdFinEquiv.sum_comp, Fintype.sum_prod_type, Finset.sum_eq_single (⟨c.val / 64, by omega⟩ : Fin m)]
  · refine Finset.sum_congr rfl fun d _ => ?_
    have h : (finProdFinEquiv ((⟨c.val / 64, by omega⟩ : Fin m), d)).val = d.val + 64 * (c.val / 64) := rfl
    rw [if_pos (by rw [h]; omega), mul_one]
    exact congrArg f (Fin.ext (by rw [h]; show _ = c.val / 64 * 64 + d.val; omega))
  · intro b _ hb
    refine Finset.sum_eq_zero fun d _ => ?_
    have h : (finProdFinEquiv (b, d)).val = d.val + 64 * b.val := rfl
    rw [if_neg (by rw [h]; intro e; exact hb (Fin.ext (by show b.val = c.val / 64; omega))), mul_zero]
  · intro h
    exact absurd (Finset.mem_univ _) h

/-- The table of ones on the heads' diagonal blocks. -/
def Ones (bd : Fin 256 → Fin 256 → EReal) : Prop := ∀ a b, bd a b = if a.val / 64 = b.val / 64 then 1 else 0

/-- A stretch of four heads against the table. -/
theorem stretch256 (f : Fin 256 → EReal) (bd : Fin 256 → Fin 256 → EReal) (hbd : Ones bd) (c : Fin 256) (g : Fin 64 → EReal)
    (hg : ∀ d : Fin 64, f ⟨c.val / 64 * 64 + d.val, by omega⟩ = g d) : ∑ x, f x * f x * bd x c = ∑ d, g d * g d :=
  ((Finset.sum_congr rfl fun x _ => congrArg (f x * f x * ·) (hbd x c)).trans (head_sum 4 (fun x => f x * f x) c)).trans
    (Finset.sum_congr rfl fun d _ => congrArg (fun z => z * z) (hg d))

/-- A stretch of two heads against the table's corner. -/
theorem stretch128 (f : Fin 128 → EReal) (bd : Fin 256 → Fin 256 → EReal) (hbd : Ones bd) (c : Fin 128) (g : Fin 64 → EReal)
    (hg : ∀ d : Fin 64, f ⟨c.val / 64 * 64 + d.val, by omega⟩ = g d) :
    ∑ x : Fin 128, f x * f x * bd ⟨x.val, by omega⟩ ⟨c.val, by omega⟩ = ∑ d, g d * g d :=
  ((Finset.sum_congr rfl fun x _ => congrArg (f x * f x * ·) (hbd ⟨x.val, by omega⟩ ⟨c.val, by omega⟩)).trans (head_sum 2 (fun x => f x * f x) c)).trans
    (Finset.sum_congr rfl fun d _ => congrArg (fun z => z * z) (hg d))

/-- The stretches of 1024 channels laid side by side: at each channel the sum of squares over its own head. -/
theorem cat1024 (y : Fin 1024 → EReal) (bd : Fin 256 → Fin 256 → EReal) (hbd : Ones bd) (c : Fin 1024) :
    (if h : c.val < 256 then ∑ x : Fin 256, y ⟨x.val, by omega⟩ * y ⟨x.val, by omega⟩ * bd x ⟨c.val, by omega⟩ else (if h : c.val - 256 < 256 then ∑ x : Fin 256, y ⟨256 + x.val, by omega⟩ * y ⟨256 + x.val, by omega⟩ * bd x ⟨c.val - 256, by omega⟩ else (if h : c.val - 256 - 256 < 256 then ∑ x : Fin 256, y ⟨512 + x.val, by omega⟩ * y ⟨512 + x.val, by omega⟩ * bd x ⟨c.val - 256 - 256, by omega⟩ else ∑ x : Fin 256, y ⟨768 + x.val, by omega⟩ * y ⟨768 + x.val, by omega⟩ * bd x ⟨c.val - 256 - 256 - 256, by omega⟩)))
      = ∑ d : Fin 64, y ⟨c.val / 64 * 64 + d.val, by omega⟩ * y ⟨c.val / 64 * 64 + d.val, by omega⟩ := by
  split_ifs
  · exact stretch256 (fun x => y ⟨x.val, by omega⟩) bd hbd ⟨c.val, by omega⟩ _ fun d => congrArg y (Fin.ext (by dsimp only <;> omega))
  · exact stretch256 (fun x => y ⟨256 + x.val, by omega⟩) bd hbd ⟨c.val - 256, by omega⟩ _ fun d => congrArg y (Fin.ext (by dsimp only <;> omega))
  · exact stretch256 (fun x => y ⟨512 + x.val, by omega⟩) bd hbd ⟨c.val - 256 - 256, by omega⟩ _ fun d => congrArg y (Fin.ext (by dsimp only <;> omega))
  · exact stretch256 (fun x => y ⟨768 + x.val, by omega⟩) bd hbd ⟨c.val - 256 - 256 - 256, by omega⟩ _ fun d => congrArg y (Fin.ext (by dsimp only <;> omega))

/-- The stretches of 256 channels laid side by side: at each channel the sum of squares over its own head. -/
theorem cat256 (y : Fin 256 → EReal) (bd : Fin 256 → Fin 256 → EReal) (hbd : Ones bd) (c : Fin 256) :
    ∑ x : Fin 256, y ⟨x.val, by omega⟩ * y ⟨x.val, by omega⟩ * bd x ⟨c.val, by omega⟩
      = ∑ d : Fin 64, y ⟨c.val / 64 * 64 + d.val, by omega⟩ * y ⟨c.val / 64 * 64 + d.val, by omega⟩ := by
  exact stretch256 (fun x => y ⟨x.val, by omega⟩) bd hbd ⟨c.val, by omega⟩ _ fun d => congrArg y (Fin.ext (by dsimp only <;> omega))

/-- The stretches of 1152 channels laid side by side: at each channel the sum of squares over its own head. -/
theorem cat1152 (y : Fin 1152 → EReal) (bd : Fin 256 → Fin 256 → EReal) (hbd : Ones bd) (c : Fin 1152) :
    (if h : c.val < 256 then ∑ x : Fin 256, y ⟨x.val, by omega⟩ * y ⟨x.val, by omega⟩ * bd x ⟨c.val, by omega⟩ else (if h : c.val - 256 < 256 then ∑ x : Fin 256, y ⟨256 + x.val, by omega⟩ * y ⟨256 + x.val, by omega⟩ * bd x ⟨c.val - 256, by omega⟩ else (if h : c.val - 256 - 256 < 256 then ∑ x : Fin 256, y ⟨512 + x.val, by omega⟩ * y ⟨512 + x.val, by omega⟩ * bd x ⟨c.val - 256 - 256, by omega⟩ else (if h : c.val - 256 - 256 - 256 < 256 then ∑ x : Fin 256, y ⟨768 + x.val, by omega⟩ * y ⟨768 + x.val, by omega⟩ * bd x ⟨c.val - 256 - 256 - 256, by omega⟩ else ∑ x : Fin 128, y ⟨1024 + x.val, by omega⟩ * y ⟨1024 + x.val, by omega⟩ * bd ⟨x.val, by omega⟩ ⟨c.val - 256 - 256 - 256 - 256, by omega⟩))))
      = ∑ d : Fin 64, y ⟨c.val / 64 * 64 + d.val, by omega⟩ * y ⟨c.val / 64 * 64 + d.val, by omega⟩ := by
  split_ifs
  · exact stretch256 (fun x => y ⟨x.val, by omega⟩) bd hbd ⟨c.val, by omega⟩ _ fun d => congrArg y (Fin.ext (by dsimp only <;> omega))
  · exact stretch256 (fun x => y ⟨256 + x.val, by omega⟩) bd hbd ⟨c.val - 256, by omega⟩ _ fun d => congrArg y (Fin.ext (by dsimp only <;> omega))
  · exact stretch256 (fun x => y ⟨512 + x.val, by omega⟩) bd hbd ⟨c.val - 256 - 256, by omega⟩ _ fun d => congrArg y (Fin.ext (by dsimp only <;> omega))
  · exact stretch256 (fun x => y ⟨768 + x.val, by omega⟩) bd hbd ⟨c.val - 256 - 256 - 256, by omega⟩ _ fun d => congrArg y (Fin.ext (by dsimp only <;> omega))
  · exact stretch128 (fun x => y ⟨1024 + x.val, by omega⟩) bd hbd ⟨c.val - 256 - 256 - 256 - 256, by omega⟩ _ fun d => congrArg y (Fin.ext (by dsimp only <;> omega))

/-- The stretches of 384 channels laid side by side: at each channel the sum of squares over its own head. -/
theorem cat384 (y : Fin 384 → EReal) (bd : Fin 256 → Fin 256 → EReal) (hbd : Ones bd) (c : Fin 384) :
    (if h : c.val < 256 then ∑ x : Fin 256, y ⟨x.val, by omega⟩ * y ⟨x.val, by omega⟩ * bd x ⟨c.val, by omega⟩ else ∑ x : Fin 128, y ⟨256 + x.val, by omega⟩ * y ⟨256 + x.val, by omega⟩ * bd ⟨x.val, by omega⟩ ⟨c.val - 256, by omega⟩)
      = ∑ d : Fin 64, y ⟨c.val / 64 * 64 + d.val, by omega⟩ * y ⟨c.val / 64 * 64 + d.val, by omega⟩ := by
  split_ifs
  · exact stretch256 (fun x => y ⟨x.val, by omega⟩) bd hbd ⟨c.val, by omega⟩ _ fun d => congrArg y (Fin.ext (by dsimp only <;> omega))
  · exact stretch128 (fun x => y ⟨256 + x.val, by omega⟩) bd hbd ⟨c.val - 256, by omega⟩ _ fun d => congrArg y (Fin.ext (by dsimp only <;> omega))

/-- The projection at a channel agrees where what it is computed from agrees. -/
theorem proj_congr {x x' g g' w w' : Fin 1024 → EReal} (ex : ∀ j, x j = x' j) (eg : ∀ j, g j = g' j) (ew : ∀ j, w j = w' j) :
    proj (rms x g) w = proj (rms x' g') w' := by
  obtain rfl : x = x' := funext ex
  obtain rfl : g = g' := funext eg
  obtain rfl : w = w' := funext ew
  rfl

/-- The kernel's form of a head's norm is the division's. -/
theorem unit_of (p : Fin 64 → EReal) (x s g : EReal) (h : s = ∑ d, p d * p d) :
    x * Ideal.rsqrt (s * Ideal.ofBits .f32 0x3C800000#32 + Ideal.ofBits .f32 0x358637BD#32) * g = unit p x * g := by
  rw [unit, ← mean64, h]

end Cert.Layer
-- ==== Proof.QkvAPure.lean ====
module

public import proofs.«01_k».proof.Proof.Gen.QkvAIdeal.Skeleton
public import proofs.«01_k».proof.Proof.QkvRow

@[expose] public section

set_option maxRecDepth 16384

noncomputable section

open Idealize.ShloMosaic Idealize.ShloMosaic.TcCoe Idealize.SL.Sem

namespace Cert.QkvAIdeal.Pure

open Cert.QkvAIdeal Cert.QkvAIdeal.Gen Cert.Layer

variable (v0 : FVec Ideal S512x1024 .f32) (v1 : FVec Ideal S1x1024 .f32) (v16 : FVec Ideal S1024x1536 .bf16) (v18 : FVec Ideal S256x256 .bf16)
  (g3 : FVec Ideal S1x1024 .f32) (g4 : FVec Ideal S1x256 .f32) (r : Fin 512)

/-- The projection at a channel. -/
theorem pay4_at (c : Fin 1536) :
    k0_pay4 (F := Ideal) v0 v1 v16 (ix2 r c) = proj (rms (fun j => v0 (ix2 r j)) (fun j => v1 (ix2 0 j))) (fun a => v16 (ix2 a c)) := by
  pointwise [k0_pay4, rms, proj]
  try simp only [zero_add]

/-- The queries at a channel, from the projection. -/
theorem q_at (h : Ones fun a b => v18 (ix2 a b)) (c : Fin 1024) :
    k0_pay1 (F := Ideal) (k0_pay6 v0 v1 v16 v18) g3 (ix2 r c)
      = head (by omega) (fun c : Fin 1024 => (fun c => k0_pay4 (F := Ideal) v0 v1 v16 (ix2 r c))  ⟨c.val, by omega⟩) c * g3 (ix2 0 c) := by
  have e := unit_of _ (k0_pay4 (F := Ideal) v0 v1 v16 (ix2 r ⟨c.val, by omega⟩)) _ (g3 (ix2 0 c)) (cat1024 (fun c => k0_pay4 (F := Ideal) v0 v1 v16 (ix2 r ⟨c.val, by omega⟩)) _ h c)
  refine Eq.trans ?_ e
  pointwise [k0_pay1, k0_pay6]

/-- The keys at a channel, from the projection. -/
theorem k_at (h : Ones fun a b => v18 (ix2 a b)) (c : Fin 256) :
    k0_pay2 (F := Ideal) v18 (k0_pay5 v0 v1 v16) g4 (ix2 r c)
      = head (by omega) (fun c : Fin 256 => (fun c => k0_pay4 (F := Ideal) v0 v1 v16 (ix2 r c))  ⟨1024 + c.val, by omega⟩) c * g4 (ix2 0 c) := by
  have e := unit_of _ (k0_pay4 (F := Ideal) v0 v1 v16 (ix2 r ⟨1024 + c.val, by omega⟩)) _ (g4 (ix2 0 c)) (cat256 (fun c => k0_pay4 (F := Ideal) v0 v1 v16 (ix2 r ⟨1024 + c.val, by omega⟩)) _ h c)
  refine Eq.trans ?_ e
  pointwise [k0_pay2, k0_pay5]

/-- The values at a channel, from the projection. -/
theorem v_at (c : Fin 256) :
    k0_pay3 (F := Ideal) (k0_pay4 v0 v1 v16) (ix2 r c) = k0_pay4 (F := Ideal) v0 v1 v16 (ix2 r ⟨1280 + c.val, by omega⟩) := by
  pointwise [k0_pay3]

end Cert.QkvAIdeal.Pure
-- ==== Proof.QkvAOut.lean ====
module

public import proofs.«01_k».proof.Proof.Gen.QkvAIdeal.Frame
public import proofs.«01_k».proof.Proof.QkvAPure
public import Idealize.ShloMosaic.Lib.Pipeline.ValueKit

@[expose] public section

set_option maxRecDepth 16384

noncomputable section

open Idealize.ShloMosaic Idealize.ShloMosaic.TcCoe Idealize.SL.Sem

namespace Cert.QkvAIdeal.Pure

open Cert.QkvAIdeal Cert.QkvAIdeal.Gen Cert.Layer

variable (x0 : FVec Ideal S512x1024 .f32) (x1 : FVec Ideal S1x1024 .f32) (x2 : FVec Ideal S1024x1536 .bf16) (x3 : FVec Ideal S1x1024 .f32) (x4 : FVec Ideal S1x256 .f32)
  (x5 : FVec Ideal S256x256 .bf16) (r : Fin 512)

/-- The queries a grid point stores, from the blocks it reads. -/
theorem out6_at (h : Ones fun a b => x5 (ix2 a b)) (c : Fin 1024) : out0_6 (F := Ideal) x0 x1 x2 x3 x4 x5 (ix2 r c)
    = head (by omega) (fun c : Fin 1024 => (fun c => proj (rms (fun j => x0 (ix2 r j)) (fun j => x1 (ix2 0 j))) (fun a => x2 (ix2 a c)))  ⟨c.val, by omega⟩) c * x3 (ix2 0 c) := by
  have e : ∀ c, _ = _ := pay4_at x0 x1 x2 r
  frame_out
  refine (q_at _ _ _ _ _ r h c).trans ?_
  simp only [e]

/-- The keys a grid point stores, from the blocks it reads. -/
theorem out7_at (h : Ones fun a b => x5 (ix2 a b)) (c : Fin 256) : out0_7 (F := Ideal) x0 x1 x2 x3 x4 x5 (ix2 r c)
    = head (by omega) (fun c : Fin 256 => (fun c => proj (rms (fun j => x0 (ix2 r j)) (fun j => x1 (ix2 0 j))) (fun a => x2 (ix2 a c)))  ⟨1024 + c.val, by omega⟩) c * x4 (ix2 0 c) := by
  have e : ∀ c, _ = _ := pay4_at x0 x1 x2 r
  frame_out
  refine (k_at _ _ _ _ _ r h c).trans ?_
  simp only [e]

/-- The values a grid point stores, from the blocks it reads. -/
theorem out8_at (c : Fin 256) : out0_8 (F := Ideal) x0 x1 x2 x3 x4 x5 (ix2 r c)
    = (fun c => proj (rms (fun j => x0 (ix2 r j)) (fun j => x1 (ix2 0 j))) (fun a => x2 (ix2 a c))) ⟨1280 + c.val, by omega⟩ := by
  frame_out
  exact (v_at _ _ _ r c).trans (pay4_at x0 x1 x2 r _)

end Cert.QkvAIdeal.Pure
-- ==== Proof.QkvARef.lean ====
module

public import proofs.«01_k».proof.Proof.Gen.QkvARefIdeal.Read
public import proofs.«01_k».proof.Proof.QkvRow

@[expose] public section

set_option maxRecDepth 16384

noncomputable section

open Idealize.ShloMosaic Idealize.ShloMosaic.TcCoe Idealize.SL.Sem

namespace Cert.QkvARefIdeal.Pure

open Cert.QkvARefIdeal Cert.QkvARefIdeal.Gen Cert.QkvARefIdeal.Read Cert.Layer

variable (x0 : FVec Ideal S65536x1024 .f32) (x1 : FVec Ideal S2x1024 .f32) (x2 : FVec Ideal S1024x1536 .bf16) (x3 x4 : FVec Ideal S64 .f32) (t : Fin 65536)

/-- The projection at a channel. -/
theorem v16_at (c : Fin 1536) : val_main_v16 (F := Ideal) x0 x1 x2 (ix2 t c)
    = proj (rms (fun j => x0 (ix2 t j)) (fun j => x1 (ix2 0 j))) (fun a => x2 (ix2 a c)) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, proj]

/-- The queries at a channel. -/
theorem v51_at (c : Fin 1024) : val_main_v51 (F := Ideal) x0 x1 x2 x3 (ix2 t c)
    = head (by omega) (fun c : Fin 1024 => (fun c => proj (rms (fun j => x0 (ix2 t j)) (fun j => x1 (ix2 0 j))) (fun a => x2 (ix2 a c)))  ⟨c.val, by omega⟩) c * x3 (ix1 ⟨c.val % 64, by omega⟩) * Ideal.ofBits .f32 0x3E000000#32 := by
  have e : ∀ c, _ = _ := v16_at x0 x1 x2 t
  simp only [← e]
  pointwise [val_main_v51, val_main_v50, val_main_v36, val_main_v35, val_main_v34, val_main_v33, val_main_v32, val_main_v31, val_main_v30, val_main_v29, val_main_v28, val_main_v27, val_main_v26, val_main_v25, val_main_v24, val_main_v23, val_main_v22, val_main_v18, val_main_v17, val_main_cst_2, val_main_cst_3, val_main_cst_4, val_main_cst_5, head, unit]

/-- The keys at a channel. -/
theorem v53_at (c : Fin 256) : val_main_v53 (F := Ideal) x0 x1 x2 x4 (ix2 t c)
    = head (by omega) (fun c : Fin 256 => (fun c => proj (rms (fun j => x0 (ix2 t j)) (fun j => x1 (ix2 0 j))) (fun a => x2 (ix2 a c)))  ⟨1024 + c.val, by omega⟩) c * x4 (ix1 ⟨c.val % 64, by omega⟩) := by
  have e : ∀ c, _ = _ := v16_at x0 x1 x2 t
  simp only [← e]
  pointwise [val_main_v53, val_main_v52, val_main_v49, val_main_v48, val_main_v47, val_main_v46, val_main_v45, val_main_v44, val_main_v43, val_main_v42, val_main_v41, val_main_v40, val_main_v39, val_main_v38, val_main_v37, val_main_v20, val_main_v19, val_main_cst_6, val_main_cst_7, val_main_cst_8, head, unit]

/-- The values at a channel. -/
theorem v54_at (c : Fin 256) : val_main_v54 (F := Ideal) x0 x1 x2 (ix2 t c)
    = (fun c => proj (rms (fun j => x0 (ix2 t j)) (fun j => x1 (ix2 0 j))) (fun a => x2 (ix2 a c))) ⟨1280 + c.val, by omega⟩ := by
  refine Eq.trans ?_ (v16_at x0 x1 x2 t _)
  pointwise [val_main_v54, val_main_v21]

end Cert.QkvARefIdeal.Pure
-- ==== Proof.QkvALit.lean ====
module

public import proofs.«01_k».proof.Proof.Gen.QkvAIdeal.Skeleton

@[expose] public section

set_option maxRecDepth 16384

noncomputable section

open Idealize.ShloMosaic Idealize.ShloMosaic.TcCoe Idealize.SL.Sem

/-! The host's table of ones, word by word: eight rows at a time, by evaluation. -/

namespace Cert.QkvAIdeal.Pure

open Cert.QkvAIdeal Cert.QkvAIdeal.Gen

/-- One row of the table: ones where the two channels are of one head. -/
def Row (a : Fin 256) : Prop :=
  ∀ b : Fin 256, lit0 ⟨a.val * 256 + b.val, by omega⟩ = if a.val / 64 = b.val / 64 then 0x3F80#16 else 0x0000#16

/-- Eight rows. -/
def Rows (k : Fin 32) : Prop := ∀ i : Fin 8, Row ⟨k.val * 8 + i.val, by omega⟩

theorem rows0 : Rows 0 := by unfold Rows Row; decide +kernel

theorem rows1 : Rows 1 := by unfold Rows Row; decide +kernel

theorem rows2 : Rows 2 := by unfold Rows Row; decide +kernel

theorem rows3 : Rows 3 := by unfold Rows Row; decide +kernel

theorem rows4 : Rows 4 := by unfold Rows Row; decide +kernel

theorem rows5 : Rows 5 := by unfold Rows Row; decide +kernel

theorem rows6 : Rows 6 := by unfold Rows Row; decide +kernel

theorem rows7 : Rows 7 := by unfold Rows Row; decide +kernel

theorem rows8 : Rows 8 := by unfold Rows Row; decide +kernel

theorem rows9 : Rows 9 := by unfold Rows Row; decide +kernel

theorem rows10 : Rows 10 := by unfold Rows Row; decide +kernel

theorem rows11 : Rows 11 := by unfold Rows Row; decide +kernel

theorem rows12 : Rows 12 := by unfold Rows Row; decide +kernel

theorem rows13 : Rows 13 := by unfold Rows Row; decide +kernel

theorem rows14 : Rows 14 := by unfold Rows Row; decide +kernel

theorem rows15 : Rows 15 := by unfold Rows Row; decide +kernel

theorem rows16 : Rows 16 := by unfold Rows Row; decide +kernel

theorem rows17 : Rows 17 := by unfold Rows Row; decide +kernel

theorem rows18 : Rows 18 := by unfold Rows Row; decide +kernel

theorem rows19 : Rows 19 := by unfold Rows Row; decide +kernel

theorem rows20 : Rows 20 := by unfold Rows Row; decide +kernel

theorem rows21 : Rows 21 := by unfold Rows Row; decide +kernel

theorem rows22 : Rows 22 := by unfold Rows Row; decide +kernel

theorem rows23 : Rows 23 := by unfold Rows Row; decide +kernel

theorem rows24 : Rows 24 := by unfold Rows Row; decide +kernel

theorem rows25 : Rows 25 := by unfold Rows Row; decide +kernel

theorem rows26 : Rows 26 := by unfold Rows Row; decide +kernel

theorem rows27 : Rows 27 := by unfold Rows Row; decide +kernel

theorem rows28 : Rows 28 := by unfold Rows Row; decide +kernel

theorem rows29 : Rows 29 := by unfold Rows Row; decide +kernel

theorem rows30 : Rows 30 := by unfold Rows Row; decide +kernel

theorem rows31 : Rows 31 := by unfold Rows Row; decide +kernel

theorem rows : ∀ k, Rows k := by
  intro k
  fin_cases k
  · exact rows0
  · exact rows1
  · exact rows2
  · exact rows3
  · exact rows4
  · exact rows5
  · exact rows6
  · exact rows7
  · exact rows8
  · exact rows9
  · exact rows10
  · exact rows11
  · exact rows12
  · exact rows13
  · exact rows14
  · exact rows15
  · exact rows16
  · exact rows17
  · exact rows18
  · exact rows19
  · exact rows20
  · exact rows21
  · exact rows22
  · exact rows23
  · exact rows24
  · exact rows25
  · exact rows26
  · exact rows27
  · exact rows28
  · exact rows29
  · exact rows30
  · exact rows31

/-- The table at any two channels. -/
theorem lit_at (a b : Fin 256) : lit0 ⟨a.val * 256 + b.val, by omega⟩ = if a.val / 64 = b.val / 64 then 0x3F80#16 else 0x0000#16 := by
  have e : (⟨a.val / 8 * 8 + a.val % 8, by omega⟩ : Fin 256) = a := Fin.ext (by dsimp only; omega)
  have h : Row ⟨a.val / 8 * 8 + a.val % 8, by omega⟩ := rows ⟨a.val / 8, by omega⟩ ⟨a.val % 8, by omega⟩
  rw [e] at h
  exact h b

end Cert.QkvAIdeal.Pure
-- ==== Proof.QkvAValue.lean ====
module

public import proofs.«01_k».proof.Proof.QkvAOut
public import proofs.«01_k».proof.Proof.QkvARef
public import proofs.«01_k».proof.Proof.QkvALit

@[expose] public section

set_option maxRecDepth 16384

noncomputable section

open Idealize.ShloMosaic Idealize.ShloMosaic.TcCoe Idealize.SL.Sem
open Idealize.ShloMosaic.Pipeline (Dat)

namespace Cert.QkvAIdeal.Pure

open Cert.QkvAIdeal Cert.QkvAIdeal.Gen Cert.Layer

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The reference's queries over the kernel's arguments. -/
abbrev REF6 (c : Dev nD) : FVec Ideal S65536x1024 .bf16 :=
  Cert.QkvARefIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3))

/-- The reference's keys over the kernel's arguments. -/
abbrev REF7 (c : Dev nD) : FVec Ideal S65536x256 .bf16 :=
  Cert.QkvARefIdeal.Read.val_main_v53 (F := Ideal) (m ((c.tc : Thread nD τ).loc main_arg0)) (m ((c.tc : Thread nD τ).loc main_arg1)) (m ((c.tc : Thread nD τ).loc main_arg2)) (m ((c.tc : Thread nD τ).loc main_arg4))

/-- The reference's values over the kernel's arguments. -/
abbrev REF8 (c : Dev nD) : FVec Ideal S65536x256 .bf16 :=
  Cert.QkvARefIdeal.Read.val_main_v54 (F := Ideal) (m ((c.tc : Thread nD τ).loc main_arg0)) (m ((c.tc : Thread nD τ).loc main_arg1)) (m ((c.tc : Thread nD τ).loc main_arg2))

theorem rd0 (c : Dev nD) (t : Fin cfg0.N) (r : Fin 512) (q : Fin 65536) (hq : q.val = t.val * 512 + r.val) (j : Fin 1024) :
    (show FVec Ideal S512x1024 .f32 from iblk m c 0 t) (ix2 r j) = (show EReal from m ((c.tc : Thread nD τ).loc main_arg0) (ix2 q j)) := by
  blk_point [iblk, idx t]

theorem rd1 (c : Dev nD) (t : Fin cfg0.N) (b : Fin 1024) :
    (show FVec Ideal S1x1024 .f32 from iblk m c 1 t) (ix2 0 b) = (show EReal from m ((c.tc : Thread nD τ).loc main_arg1) (ix2 0 b)) := by
  blk_point [iblk, idx t]

theorem rd2 (c : Dev nD) (t : Fin cfg0.N) (a : Fin 1024) (b : Fin 1536) :
    (show FVec Ideal S1024x1536 .bf16 from iblk m c 2 t) (ix2 a b) = (show EReal from m ((c.tc : Thread nD τ).loc main_arg2) (ix2 a b)) := by
  blk_point [iblk, idx t]

theorem rd3 (c : Dev nD) (t : Fin cfg0.N) (b : Fin 1024) :
    (show FVec Ideal S1x1024 .f32 from iblk m c 3 t) (ix2 0 b) = (show EReal from m ((c.tc : Thread nD τ).loc main_arg3) (ix1 ⟨b.val % 64, by omega⟩)) * Ideal.ofBits .f32 0x3E000000#32 := by
  blk_point [iblk, idx t]

theorem rd4 (c : Dev nD) (t : Fin cfg0.N) (b : Fin 256) :
    (show FVec Ideal S1x256 .f32 from iblk m c 4 t) (ix2 0 b) = (show EReal from m ((c.tc : Thread nD τ).loc main_arg4) (ix1 ⟨b.val % 64, by omega⟩)) := by
  blk_point [iblk, idx t]

theorem rd5 (c : Dev nD) (t : Fin cfg0.N) (a b : Fin 256) :
    (show FVec Ideal S256x256 .bf16 from iblk m c 5 t) (ix2 a b) = Ideal.ofBits .bf16 (lit0 (S256x256.rowMajor (ix2 a b))) := by
  blk_point [iblk, idx t]

/-- The table's block is ones on the heads' diagonal blocks. -/
theorem ones (c : Dev nD) (t : Fin cfg0.N) : Ones fun a b => (show FVec Ideal S256x256 .bf16 from iblk m c 5 t) (ix2 a b) := by
  intro a b
  refine (rd5 m c t a b).trans ?_
  have hr : @Eq (Fin 65536) (S256x256.rowMajor (ix2 a b)) ⟨a.val * 256 + b.val, by omega⟩ := Fin.ext (Shape.rowMajor_val_two _)
  refine (congrArg (Ideal.ofBits .bf16) ((congrArg lit0 hr).trans (lit_at a b))).trans ?_
  split_ifs
  · exact one_bf16
  · exact zero_bf16

/-- The projection at a channel, from the blocks and from the arguments. -/
theorem y_eq (c : Dev nD) (t : Fin cfg0.N) (r : Fin 512) (q : Fin 65536) (hq : q.val = t.val * 512 + r.val) :
    (fun j : Fin 1536 => proj (rms (fun j => (show FVec Ideal S512x1024 .f32 from iblk m c 0 t) (ix2 r j)) (fun j => (show FVec Ideal S1x1024 .f32 from iblk m c 1 t) (ix2 0 j))) (fun a => (show FVec Ideal S1024x1536 .bf16 from iblk m c 2 t) (ix2 a j)))
      = fun j : Fin 1536 => proj (rms (fun j => (show EReal from m ((c.tc : Thread nD τ).loc main_arg0) (ix2 q j))) (fun j => (show EReal from m ((c.tc : Thread nD τ).loc main_arg1) (ix2 0 j)))) (fun a => (show EReal from m ((c.tc : Thread nD τ).loc main_arg2) (ix2 a j))) :=
  funext fun j => proj_congr (rd0 m c t r q hq) (rd1 m c t) fun a => rd2 m c t a j

theorem point6 (c : Dev nD) (t : Fin cfg0.N) (r : Fin 512) (j : Fin 1024) (q : Fin 65536) (hq : q.val = t.val * 512 + r.val) :
    out0_6 (F := Ideal) (iblk m c 0 t) (iblk m c 1 t) (iblk m c 2 t) (iblk m c 3 t) (iblk m c 4 t) (iblk m c 5 t) (ix2 r j) = REF6 m c (ix2 q j) := by
  refine (out6_at _ _ _ _ _ _ r (ones m c t) j).trans (Eq.trans ?_ (Cert.QkvARefIdeal.Pure.v51_at _ _ _ _ q j).symm)
  refine (Ideal.mul_congr (congrArg (fun y : Fin 1536 → EReal => head (by omega) (fun c : Fin 1024 => y  ⟨c.val, by omega⟩) j) (y_eq m c t r q hq)) (rd3 m c t j)).trans ?_
  exact (mul_assoc _ _ _).symm

theorem point7 (c : Dev nD) (t : Fin cfg0.N) (r : Fin 512) (j : Fin 256) (q : Fin 65536) (hq : q.val = t.val * 512 + r.val) :
    out0_7 (F := Ideal) (iblk m c 0 t) (iblk m c 1 t) (iblk m c 2 t) (iblk m c 3 t) (iblk m c 4 t) (iblk m c 5 t) (ix2 r j) = REF7 m c (ix2 q j) := by
  refine (out7_at _ _ _ _ _ _ r (ones m c t) j).trans (Eq.trans ?_ (Cert.QkvARefIdeal.Pure.v53_at _ _ _ _ q j).symm)
  exact Ideal.mul_congr (congrArg (fun y : Fin 1536 → EReal => head (by omega) (fun c : Fin 256 => y  ⟨1024 + c.val, by omega⟩) j) (y_eq m c t r q hq)) (rd4 m c t j)

theorem point8 (c : Dev nD) (t : Fin cfg0.N) (r : Fin 512) (j : Fin 256) (q : Fin 65536) (hq : q.val = t.val * 512 + r.val) :
    out0_8 (F := Ideal) (iblk m c 0 t) (iblk m c 1 t) (iblk m c 2 t) (iblk m c 3 t) (iblk m c 4 t) (iblk m c 5 t) (ix2 r j) = REF8 m c (ix2 q j) := by
  refine (out8_at _ _ _ _ _ _ r j).trans (Eq.trans ?_ (Cert.QkvARefIdeal.Pure.v54_at _ _ _ q j).symm)
  exact congrFun (y_eq m c t r q hq) _

/-- The kernel's queries are the reference's. -/
theorem final6 (c : Dev nD) : (dats m 0 c).arrAt 6 (cfgs 0).N = REF6 m c := by
  refine (dats m 0 c).arrAt_eq_of_covers 6 _ (by decide +kernel) fun t _ y => ?_
  blk_simp
  rw [after0_6]
  have ht : t.val < 128 := t.isLt
  have hr : ((y 0 : Fin 512)).val < 512 := (y 0 : Fin 512).isLt
  refine (congrArg (out0_6 (F := Ideal) _ _ _ _ _ _) (eq_ix2 (n0 := 512) (n1 := 1024) y)).trans ?_
  refine (point6 m c t (y 0) (y 1) ⟨t.val * 512 + (y 0 : Fin 512).val, by omega⟩ rfl).trans ?_
  blk_ext [idx t]

/-- The kernel's keys are the reference's. -/
theorem final7 (c : Dev nD) : (dats m 0 c).arrAt 7 (cfgs 0).N = REF7 m c := by
  refine (dats m 0 c).arrAt_eq_of_covers 7 _ (by decide +kernel) fun t _ y => ?_
  blk_simp
  rw [after0_7]
  have ht : t.val < 128 := t.isLt
  have hr : ((y 0 : Fin 512)).val < 512 := (y 0 : Fin 512).isLt
  refine (congrArg (out0_7 (F := Ideal) _ _ _ _ _ _) (eq_ix2 (n0 := 512) (n1 := 256) y)).trans ?_
  refine (point7 m c t (y 0) (y 1) ⟨t.val * 512 + (y 0 : Fin 512).val, by omega⟩ rfl).trans ?_
  blk_ext [idx t]

/-- The kernel's values are the reference's. -/
theorem final8 (c : Dev nD) : (dats m 0 c).arrAt 8 (cfgs 0).N = REF8 m c := by
  refine (dats m 0 c).arrAt_eq_of_covers 8 _ (by decide +kernel) fun t _ y => ?_
  blk_simp
  rw [after0_8]
  have ht : t.val < 128 := t.isLt
  have hr : ((y 0 : Fin 512)).val < 512 := (y 0 : Fin 512).isLt
  refine (congrArg (out0_8 (F := Ideal) _ _ _ _ _ _) (eq_ix2 (n0 := 512) (n1 := 256) y)).trans ?_
  refine (point8 m c t (y 0) (y 1) ⟨t.val * 512 + (y 0 : Fin 512).val, by omega⟩ rfl).trans ?_
  blk_ext [idx t]

end Cert.QkvAIdeal.Pure
-- ==== Proof.QkvAClaim.lean ====
module

public import proofs.«01_k».proof.Defs
public import proofs.«01_k».proof.Proof.QkvAValue
public import proofs.«01_k».proof.Proof.Gen.QkvA.Frame
public import Idealize.ShloMosaic.Lib.Claim

@[expose] public section

set_option maxRecDepth 16384

noncomputable section

open Idealize.ShloMosaic Idealize.SL.Sem

namespace Cert.QkvA.Claims

theorem quiescent : Cert.quiescent_QkvA := fun m g _ => Cert.QkvA.Gen.frame m g

theorem quiescentIdeal : Cert.quiescent_QkvAIdeal := fun m g _ => Cert.QkvAIdeal.Gen.frame m g

theorem quiescentRef : Cert.quiescent_QkvARefIdeal := fun m g _ =>
  (θ_run Cert.QkvARefIdeal.defs _ _).mono (fun r h => ⟨fun c => (h c).2.2.2,
      Idealize.ShloMosaic.sem_eq_zero_of_no_sems (by decide) r.2⟩)
    (Cert.QkvARefIdeal.Value.run (F := Ideal) m g)

theorem preserves : Cert.preserves_QkvA_QkvAIdeal := trivial

theorem refAt6 (m : (ℓ : Loc Cert.QkvAIdeal.nD Cert.QkvAIdeal.τ Cert.QkvAIdeal.sig) → Buf (Elt Ideal) ℓ) (m' : (ℓ : Loc Cert.QkvARefIdeal.nD Cert.QkvARefIdeal.τ Cert.QkvARefIdeal.sig) → Buf (Elt Ideal) ℓ)
    (c : Dev Cert.QkvAIdeal.nD)
    (h : m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0) ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1) ∧ m' ((c.tc : Thread Cert.QkvARefIdeal.nD Cert.QkvARefIdeal.τ).loc Cert.QkvARefIdeal.main_arg2) = m ((c.tc : Thread Cert.QkvAIdeal.nD Cert.QkvAIdeal.τ).loc Cert.QkvAIdeal.main_arg2) ∧ m' ((c.tc : Thread Cert.QkvARefIdeal.nD Cert.QkvARefIdeal.τ).loc Cert.QkvARefIdeal.main_arg3) = m ((c.tc : Thread Cert.QkvAIdeal.nD Cert.QkvAIdeal.τ).loc Cert.QkvAIdeal.main_arg3) ∧ m' ((c.tc : Thread Cert.QkvARefIdeal.nD Cert.QkvARefIdeal.τ).loc Cert.QkvARefIdeal.main_arg4) = m ((c.tc : Thread Cert.QkvAIdeal.nD Cert.QkvAIdeal.τ).loc Cert.QkvAIdeal.main_arg4)) :
    Cert.QkvARefIdeal.Read.val_main_v51 (F := Ideal) (m' ((c.tc : Thread Cert.QkvARefIdeal.nD Cert.QkvARefIdeal.τ).loc Cert.QkvARefIdeal.main_arg0)) (m' ((c.tc : Thread Cert.QkvARefIdeal.nD Cert.QkvARefIdeal.τ).loc Cert.QkvARefIdeal.main_arg1)) (m' ((c.tc : Thread Cert.QkvARefIdeal.nD Cert.QkvARefIdeal.τ).loc Cert.QkvARefIdeal.main_arg2)) (m' ((c.tc : Thread Cert.QkvARefIdeal.nD Cert.QkvARefIdeal.τ).loc Cert.QkvARefIdeal.main_arg3)) = Cert.QkvAIdeal.Pure.REF6 m c := by
  obtain ⟨h0, h1, h2, h3, h4⟩ := h
  rw [h0, h1, h2, h3]

theorem refAt7 (m : (ℓ : Loc Cert.QkvAIdeal.nD Cert.QkvAIdeal.τ Cert.QkvAIdeal.sig) → Buf (Elt Ideal) ℓ) (m' : (ℓ : Loc Cert.QkvARefIdeal.nD Cert.QkvARefIdeal.τ Cert.QkvARefIdeal.sig) → Buf (Elt Ideal) ℓ)
    (c : Dev Cert.QkvAIdeal.nD)
    (h : m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0) ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1) ∧ m' ((c.tc : Thread Cert.QkvARefIdeal.nD Cert.QkvARefIdeal.τ).loc Cert.QkvARefIdeal.main_arg2) = m ((c.tc : Thread Cert.QkvAIdeal.nD Cert.QkvAIdeal.τ).loc Cert.QkvAIdeal.main_arg2) ∧ m' ((c.tc : Thread Cert.QkvARefIdeal.nD Cert.QkvARefIdeal.τ).loc Cert.QkvARefIdeal.main_arg3) = m ((c.tc : Thread Cert.QkvAIdeal.nD Cert.QkvAIdeal.τ).loc Cert.QkvAIdeal.main_arg3) ∧ m' ((c.tc : Thread Cert.QkvARefIdeal.nD Cert.QkvARefIdeal.τ).loc Cert.QkvARefIdeal.main_arg4) = m ((c.tc : Thread Cert.QkvAIdeal.nD Cert.QkvAIdeal.τ).loc Cert.QkvAIdeal.main_arg4)) :
    Cert.QkvARefIdeal.Read.val_main_v53 (F := Ideal) (m' ((c.tc : Thread Cert.QkvARefIdeal.nD Cert.QkvARefIdeal.τ).loc Cert.QkvARefIdeal.main_arg0)) (m' ((c.tc : Thread Cert.QkvARefIdeal.nD Cert.QkvARefIdeal.τ).loc Cert.QkvARefIdeal.main_arg1)) (m' ((c.tc : Thread Cert.QkvARefIdeal.nD Cert.QkvARefIdeal.τ).loc Cert.QkvARefIdeal.main_arg2)) (m' ((c.tc : Thread Cert.QkvARefIdeal.nD Cert.QkvARefIdeal.τ).loc Cert.QkvARefIdeal.main_arg4)) = Cert.QkvAIdeal.Pure.REF7 m c := by
  obtain ⟨h0, h1, h2, h3, h4⟩ := h
  rw [h0, h1, h2, h4]

theorem refAt8 (m : (ℓ : Loc Cert.QkvAIdeal.nD Cert.QkvAIdeal.τ Cert.QkvAIdeal.sig) → Buf (Elt Ideal) ℓ) (m' : (ℓ : Loc Cert.QkvARefIdeal.nD Cert.QkvARefIdeal.τ Cert.QkvARefIdeal.sig) → Buf (Elt Ideal) ℓ)
    (c : Dev Cert.QkvAIdeal.nD)
    (h : m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0) ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1) ∧ m' ((c.tc : Thread Cert.QkvARefIdeal.nD Cert.QkvARefIdeal.τ).loc Cert.QkvARefIdeal.main_arg2) = m ((c.tc : Thread Cert.QkvAIdeal.nD Cert.QkvAIdeal.τ).loc Cert.QkvAIdeal.main_arg2) ∧ m' ((c.tc : Thread Cert.QkvARefIdeal.nD Cert.QkvARefIdeal.τ).loc Cert.QkvARefIdeal.main_arg3) = m ((c.tc : Thread Cert.QkvAIdeal.nD Cert.QkvAIdeal.τ).loc Cert.QkvAIdeal.main_arg3) ∧ m' ((c.tc : Thread Cert.QkvARefIdeal.nD Cert.QkvARefIdeal.τ).loc Cert.QkvARefIdeal.main_arg4) = m ((c.tc : Thread Cert.QkvAIdeal.nD Cert.QkvAIdeal.τ).loc Cert.QkvAIdeal.main_arg4)) :
    Cert.QkvARefIdeal.Read.val_main_v54 (F := Ideal) (m' ((c.tc : Thread Cert.QkvARefIdeal.nD Cert.QkvARefIdeal.τ).loc Cert.QkvARefIdeal.main_arg0)) (m' ((c.tc : Thread Cert.QkvARefIdeal.nD Cert.QkvARefIdeal.τ).loc Cert.QkvARefIdeal.main_arg1)) (m' ((c.tc : Thread Cert.QkvARefIdeal.nD Cert.QkvARefIdeal.τ).loc Cert.QkvARefIdeal.main_arg2)) = Cert.QkvAIdeal.Pure.REF8 m c := by
  obtain ⟨h0, h1, h2, h3, h4⟩ := h
  rw [h0, h1, h2]

theorem algebraic : Cert.algebraic_QkvAIdeal_QkvARefIdeal := by
  intro m g m' g' hpre hagree
  refine ⟨fun c => Cert.QkvAIdeal.Pure.REF6 m c, fun c => Cert.QkvAIdeal.Pure.REF7 m c, fun c => Cert.QkvAIdeal.Pure.REF8 m c, ?_, ?_⟩
  · exact (θ_run Cert.QkvAIdeal.defs _ _).mono
      (fun r h c => ⟨((h.1 c).1 6).trans (Cert.QkvAIdeal.Pure.final6 m c), ((h.1 c).1 7).trans (Cert.QkvAIdeal.Pure.final7 m c),
        ((h.1 c).1 8).trans (Cert.QkvAIdeal.Pure.final8 m c), h.2.1 c⟩)
      (Idealize.ShloMosaic.θ_run_and (Cert.QkvAIdeal.Gen.run_main m g) (Cert.QkvAIdeal.Gen.frame m g))
  · exact (θ_run Cert.QkvARefIdeal.defs _ _).mono
      (fun r h c => ⟨((h c).1.trans (Cert.QkvARefIdeal.Read.val_main_v51_eq _ _)).trans (refAt6 m m' c (hagree c)),
        ((h c).2.1.trans (Cert.QkvARefIdeal.Read.val_main_v53_eq _ _ _ _)).trans (refAt7 m m' c (hagree c)),
        ((h c).2.2.1.trans (Cert.QkvARefIdeal.Read.val_main_v54_eq _ _ _)).trans (refAt8 m m' c (hagree c)), (h c).2.2.2⟩)
      (Cert.QkvARefIdeal.Value.run (F := Ideal) m' g')

end Cert.QkvA.Claims
-- ==== Proof.QkvBPure.lean ====
module

public import proofs.«01_k».proof.Proof.Gen.QkvBIdeal.Skeleton
public import proofs.«01_k».proof.Proof.QkvRow

@[expose] public section

set_option maxRecDepth 16384

noncomputable section

open Idealize.ShloMosaic Idealize.ShloMosaic.TcCoe Idealize.SL.Sem

namespace Cert.QkvBIdeal.Pure

open Cert.QkvBIdeal Cert.QkvBIdeal.Gen Cert.Layer

variable (v0 : FVec Ideal S512x1024 .f32) (v1 : FVec Ideal S1x1024 .f32) (v16 : FVec Ideal S1024x1920 .bf16) (v18 : FVec Ideal S256x256 .bf16)
  (g3 : FVec Ideal S1x1152 .f32) (g4 : FVec Ideal S1x384 .f32) (r : Fin 512)

/-- The projection at a channel. -/
theorem pay4_at (c : Fin 1920) :
    k0_pay4 (F := Ideal) v0 v1 v16 (ix2 r c) = proj (rms (fun j => v0 (ix2 r j)) (fun j => v1 (ix2 0 j))) (fun a => v16 (ix2 a c)) := by
  pointwise [k0_pay4, rms, proj]
  try simp only [zero_add]

/-- The queries at a channel, from the projection. -/
theorem q_at (h : Ones fun a b => v18 (ix2 a b)) (c : Fin 1152) :
    k0_pay1 (F := Ideal) (k0_pay5 v0 v1 v16) (k0_pay7 v0 v1 v16 v18) g3 (ix2 r c)
      = head (by omega) (fun c : Fin 1152 => (fun c => k0_pay4 (F := Ideal) v0 v1 v16 (ix2 r c))  ⟨c.val, by omega⟩) c * g3 (ix2 0 c) := by
  have e := unit_of _ (k0_pay4 (F := Ideal) v0 v1 v16 (ix2 r ⟨c.val, by omega⟩)) _ (g3 (ix2 0 c)) (cat1152 (fun c => k0_pay4 (F := Ideal) v0 v1 v16 (ix2 r ⟨c.val, by omega⟩)) _ h c)
  refine Eq.trans ?_ e
  pointwise [k0_pay1, k0_pay7, k0_pay5]

/-- The keys at a channel, from the projection. -/
theorem k_at (h : Ones fun a b => v18 (ix2 a b)) (c : Fin 384) :
    k0_pay2 (F := Ideal) v18 (k0_pay6 v0 v1 v16) g4 (ix2 r c)
      = head (by omega) (fun c : Fin 384 => (fun c => k0_pay4 (F := Ideal) v0 v1 v16 (ix2 r c))  ⟨1152 + c.val, by omega⟩) c * g4 (ix2 0 c) := by
  have e := unit_of _ (k0_pay4 (F := Ideal) v0 v1 v16 (ix2 r ⟨1152 + c.val, by omega⟩)) _ (g4 (ix2 0 c)) (cat384 (fun c => k0_pay4 (F := Ideal) v0 v1 v16 (ix2 r ⟨1152 + c.val, by omega⟩)) _ h c)
  refine Eq.trans ?_ e
  pointwise [k0_pay2, k0_pay6]

/-- The values at a channel, from the projection. -/
theorem v_at (c : Fin 384) :
    k0_pay3 (F := Ideal) (k0_pay4 v0 v1 v16) (ix2 r c) = k0_pay4 (F := Ideal) v0 v1 v16 (ix2 r ⟨1536 + c.val, by omega⟩) := by
  pointwise [k0_pay3]

end Cert.QkvBIdeal.Pure
-- ==== Proof.QkvBOut.lean ====
module

public import proofs.«01_k».proof.Proof.Gen.QkvBIdeal.Frame
public import proofs.«01_k».proof.Proof.QkvBPure
public import Idealize.ShloMosaic.Lib.Pipeline.ValueKit

@[expose] public section

set_option maxRecDepth 16384

noncomputable section

open Idealize.ShloMosaic Idealize.ShloMosaic.TcCoe Idealize.SL.Sem

namespace Cert.QkvBIdeal.Pure

open Cert.QkvBIdeal Cert.QkvBIdeal.Gen Cert.Layer

variable (x0 : FVec Ideal S512x1024 .f32) (x1 : FVec Ideal S1x1024 .f32) (x2 : FVec Ideal S1024x1920 .bf16) (x3 : FVec Ideal S1x1152 .f32) (x4 : FVec Ideal S1x384 .f32)
  (x5 : FVec Ideal S256x256 .bf16) (r : Fin 512)

/-- The queries a grid point stores, from the blocks it reads. -/
theorem out6_at (h : Ones fun a b => x5 (ix2 a b)) (c : Fin 1152) : out0_6 (F := Ideal) x0 x1 x2 x3 x4 x5 (ix2 r c)
    = head (by omega) (fun c : Fin 1152 => (fun c => proj (rms (fun j => x0 (ix2 r j)) (fun j => x1 (ix2 0 j))) (fun a => x2 (ix2 a c)))  ⟨c.val, by omega⟩) c * x3 (ix2 0 c) := by
  have e : ∀ c, _ = _ := pay4_at x0 x1 x2 r
  frame_out
  refine (q_at _ _ _ _ _ r h c).trans ?_
  simp only [e]

/-- The keys a grid point stores, from the blocks it reads. -/
theorem out7_at (h : Ones fun a b => x5 (ix2 a b)) (c : Fin 384) : out0_7 (F := Ideal) x0 x1 x2 x3 x4 x5 (ix2 r c)
    = head (by omega) (fun c : Fin 384 => (fun c => proj (rms (fun j => x0 (ix2 r j)) (fun j => x1 (ix2 0 j))) (fun a => x2 (ix2 a c)))  ⟨1152 + c.val, by omega⟩) c * x4 (ix2 0 c) := by
  have e : ∀ c, _ = _ := pay4_at x0 x1 x2 r
  frame_out
  refine (k_at _ _ _ _ _ r h c).trans ?_
  simp only [e]

/-- The values a grid point stores, from the blocks it reads. -/
theorem out8_at (c : Fin 384) : out0_8 (F := Ideal) x0 x1 x2 x3 x4 x5 (ix2 r c)
    = (fun c => proj (rms (fun j => x0 (ix2 r j)) (fun j => x1 (ix2 0 j))) (fun a => x2 (ix2 a c))) ⟨1536 + c.val, by omega⟩ := by
  frame_out
  exact (v_at _ _ _ r c).trans (pay4_at x0 x1 x2 r _)

end Cert.QkvBIdeal.Pure
-- ==== Proof.QkvBRef.lean ====
module

public import proofs.«01_k».proof.Proof.Gen.QkvBRefIdeal.Read
public import proofs.«01_k».proof.Proof.QkvRow

@[expose] public section

set_option maxRecDepth 16384

noncomputable section

open Idealize.ShloMosaic Idealize.ShloMosaic.TcCoe Idealize.SL.Sem

namespace Cert.QkvBRefIdeal.Pure

open Cert.QkvBRefIdeal Cert.QkvBRefIdeal.Gen Cert.QkvBRefIdeal.Read Cert.Layer

variable (x0 : FVec Ideal S65536x1024 .f32) (x1 : FVec Ideal S2x1024 .f32) (x2 : FVec Ideal S1024x1920 .bf16) (x3 x4 : FVec Ideal S64 .f32) (t : Fin 65536)

/-- The projection at a channel. -/
theorem v16_at (c : Fin 1920) : val_main_v16 (F := Ideal) x0 x1 x2 (ix2 t c)
    = proj (rms (fun j => x0 (ix2 t j)) (fun j => x1 (ix2 1 j))) (fun a => x2 (ix2 a c)) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, proj]

/-- The queries at a channel. -/
theorem v51_at (c : Fin 1152) : val_main_v51 (F := Ideal) x0 x1 x2 x3 (ix2 t c)
    = head (by omega) (fun c : Fin 1152 => (fun c => proj (rms (fun j => x0 (ix2 t j)) (fun j => x1 (ix2 1 j))) (fun a => x2 (ix2 a c)))  ⟨c.val, by omega⟩) c * x3 (ix1 ⟨c.val % 64, by omega⟩) * Ideal.ofBits .f32 0x3E000000#32 := by
  have e : ∀ c, _ = _ := v16_at x0 x1 x2 t
  simp only [← e]
  pointwise [val_main_v51, val_main_v50, val_main_v36, val_main_v35, val_main_v34, val_main_v33, val_main_v32, val_main_v31, val_main_v30, val_main_v29, val_main_v28, val_main_v27, val_main_v26, val_main_v25, val_main_v24, val_main_v23, val_main_v22, val_main_v18, val_main_v17, val_main_cst_2, val_main_cst_3, val_main_cst_4, val_main_cst_5, head, unit]

/-- The keys at a channel. -/
theorem v53_at (c : Fin 384) : val_main_v53 (F := Ideal) x0 x1 x2 x4 (ix2 t c)
    = head (by omega) (fun c : Fin 384 => (fun c => proj (rms (fun j => x0 (ix2 t j)) (fun j => x1 (ix2 1 j))) (fun a => x2 (ix2 a c)))  ⟨1152 + c.val, by omega⟩) c * x4 (ix1 ⟨c.val % 64, by omega⟩) := by
  have e : ∀ c, _ = _ := v16_at x0 x1 x2 t
  simp only [← e]
  pointwise [val_main_v53, val_main_v52, val_main_v49, val_main_v48, val_main_v47, val_main_v46, val_main_v45, val_main_v44, val_main_v43, val_main_v42, val_main_v41, val_main_v40, val_main_v39, val_main_v38, val_main_v37, val_main_v20, val_main_v19, val_main_cst_6, val_main_cst_7, val_main_cst_8, head, unit]

/-- The values at a channel. -/
theorem v54_at (c : Fin 384) : val_main_v54 (F := Ideal) x0 x1 x2 (ix2 t c)
    = (fun c => proj (rms (fun j => x0 (ix2 t j)) (fun j => x1 (ix2 1 j))) (fun a => x2 (ix2 a c))) ⟨1536 + c.val, by omega⟩ := by
  refine Eq.trans ?_ (v16_at x0 x1 x2 t _)
  pointwise [val_main_v54, val_main_v21]

end Cert.QkvBRefIdeal.Pure
-- ==== Proof.QkvBLit.lean ====
module

public import proofs.«01_k».proof.Proof.Gen.QkvBIdeal.Skeleton

@[expose] public section

set_option maxRecDepth 16384

noncomputable section

open Idealize.ShloMosaic Idealize.ShloMosaic.TcCoe Idealize.SL.Sem

/-! The host's table of ones, word by word: eight rows at a time, by evaluation. -/

namespace Cert.QkvBIdeal.Pure

open Cert.QkvBIdeal Cert.QkvBIdeal.Gen

/-- One row of the table: ones where the two channels are of one head. -/
def Row (a : Fin 256) : Prop :=
  ∀ b : Fin 256, lit0 ⟨a.val * 256 + b.val, by omega⟩ = if a.val / 64 = b.val / 64 then 0x3F80#16 else 0x0000#16

/-- Eight rows. -/
def Rows (k : Fin 32) : Prop := ∀ i : Fin 8, Row ⟨k.val * 8 + i.val, by omega⟩

theorem rows0 : Rows 0 := by unfold Rows Row; decide +kernel

theorem rows1 : Rows 1 := by unfold Rows Row; decide +kernel

theorem rows2 : Rows 2 := by unfold Rows Row; decide +kernel

theorem rows3 : Rows 3 := by unfold Rows Row; decide +kernel

theorem rows4 : Rows 4 := by unfold Rows Row; decide +kernel

theorem rows5 : Rows 5 := by unfold Rows Row; decide +kernel

theorem rows6 : Rows 6 := by unfold Rows Row; decide +kernel

theorem rows7 : Rows 7 := by unfold Rows Row; decide +kernel

theorem rows8 : Rows 8 := by unfold Rows Row; decide +kernel

theorem rows9 : Rows 9 := by unfold Rows Row; decide +kernel

theorem rows10 : Rows 10 := by unfold Rows Row; decide +kernel

theorem rows11 : Rows 11 := by unfold Rows Row; decide +kernel

theorem rows12 : Rows 12 := by unfold Rows Row; decide +kernel

theorem rows13 : Rows 13 := by unfold Rows Row; decide +kernel

theorem rows14 : Rows 14 := by unfold Rows Row; decide +kernel

theorem rows15 : Rows 15 := by unfold Rows Row; decide +kernel

theorem rows16 : Rows 16 := by unfold Rows Row; decide +kernel

theorem rows17 : Rows 17 := by unfold Rows Row; decide +kernel

theorem rows18 : Rows 18 := by unfold Rows Row; decide +kernel

theorem rows19 : Rows 19 := by unfold Rows Row; decide +kernel

theorem rows20 : Rows 20 := by unfold Rows Row; decide +kernel

theorem rows21 : Rows 21 := by unfold Rows Row; decide +kernel

theorem rows22 : Rows 22 := by unfold Rows Row; decide +kernel

theorem rows23 : Rows 23 := by unfold Rows Row; decide +kernel

theorem rows24 : Rows 24 := by unfold Rows Row; decide +kernel

theorem rows25 : Rows 25 := by unfold Rows Row; decide +kernel

theorem rows26 : Rows 26 := by unfold Rows Row; decide +kernel

theorem rows27 : Rows 27 := by unfold Rows Row; decide +kernel

theorem rows28 : Rows 28 := by unfold Rows Row; decide +kernel

theorem rows29 : Rows 29 := by unfold Rows Row; decide +kernel

theorem rows30 : Rows 30 := by unfold Rows Row; decide +kernel

theorem rows31 : Rows 31 := by unfold Rows Row; decide +kernel

theorem rows : ∀ k, Rows k := by
  intro k
  fin_cases k
  · exact rows0
  · exact rows1
  · exact rows2
  · exact rows3
  · exact rows4
  · exact rows5
  · exact rows6
  · exact rows7
  · exact rows8
  · exact rows9
  · exact rows10
  · exact rows11
  · exact rows12
  · exact rows13
  · exact rows14
  · exact rows15
  · exact rows16
  · exact rows17
  · exact rows18
  · exact rows19
  · exact rows20
  · exact rows21
  · exact rows22
  · exact rows23
  · exact rows24
  · exact rows25
  · exact rows26
  · exact rows27
  · exact rows28
  · exact rows29
  · exact rows30
  · exact rows31

/-- The table at any two channels. -/
theorem lit_at (a b : Fin 256) : lit0 ⟨a.val * 256 + b.val, by omega⟩ = if a.val / 64 = b.val / 64 then 0x3F80#16 else 0x0000#16 := by
  have e : (⟨a.val / 8 * 8 + a.val % 8, by omega⟩ : Fin 256) = a := Fin.ext (by dsimp only; omega)
  have h : Row ⟨a.val / 8 * 8 + a.val % 8, by omega⟩ := rows ⟨a.val / 8, by omega⟩ ⟨a.val % 8, by omega⟩
  rw [e] at h
  exact h b

end Cert.QkvBIdeal.Pure
-- ==== Proof.QkvBValue.lean ====
module

public import proofs.«01_k».proof.Proof.QkvBOut
public import proofs.«01_k».proof.Proof.QkvBRef
public import proofs.«01_k».proof.Proof.QkvBLit

@[expose] public section

set_option maxRecDepth 16384

noncomputable section

open Idealize.ShloMosaic Idealize.ShloMosaic.TcCoe Idealize.SL.Sem
open Idealize.ShloMosaic.Pipeline (Dat)

namespace Cert.QkvBIdeal.Pure

open Cert.QkvBIdeal Cert.QkvBIdeal.Gen Cert.Layer

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The reference's queries over the kernel's arguments. -/
abbrev REF6 (c : Dev nD) : FVec Ideal S65536x1152 .bf16 :=
  Cert.QkvBRefIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3))

/-- The reference's keys over the kernel's arguments. -/
abbrev REF7 (c : Dev nD) : FVec Ideal S65536x384 .bf16 :=
  Cert.QkvBRefIdeal.Read.val_main_v53 (F := Ideal) (m ((c.tc : Thread nD τ).loc main_arg0)) (m ((c.tc : Thread nD τ).loc main_arg1)) (m ((c.tc : Thread nD τ).loc main_arg2)) (m ((c.tc : Thread nD τ).loc main_arg4))

/-- The reference's values over the kernel's arguments. -/
abbrev REF8 (c : Dev nD) : FVec Ideal S65536x384 .bf16 :=
  Cert.QkvBRefIdeal.Read.val_main_v54 (F := Ideal) (m ((c.tc : Thread nD τ).loc main_arg0)) (m ((c.tc : Thread nD τ).loc main_arg1)) (m ((c.tc : Thread nD τ).loc main_arg2))

theorem rd0 (c : Dev nD) (t : Fin cfg0.N) (r : Fin 512) (q : Fin 65536) (hq : q.val = t.val * 512 + r.val) (j : Fin 1024) :
    (show FVec Ideal S512x1024 .f32 from iblk m c 0 t) (ix2 r j) = (show EReal from m ((c.tc : Thread nD τ).loc main_arg0) (ix2 q j)) := by
  blk_point [iblk, idx t]

theorem rd1 (c : Dev nD) (t : Fin cfg0.N) (b : Fin 1024) :
    (show FVec Ideal S1x1024 .f32 from iblk m c 1 t) (ix2 0 b) = (show EReal from m ((c.tc : Thread nD τ).loc main_arg1) (ix2 1 b)) := by
  blk_point [iblk, idx t]

theorem rd2 (c : Dev nD) (t : Fin cfg0.N) (a : Fin 1024) (b : Fin 1920) :
    (show FVec Ideal S1024x1920 .bf16 from iblk m c 2 t) (ix2 a b) = (show EReal from m ((c.tc : Thread nD τ).loc main_arg2) (ix2 a b)) := by
  blk_point [iblk, idx t]

theorem rd3 (c : Dev nD) (t : Fin cfg0.N) (b : Fin 1152) :
    (show FVec Ideal S1x1152 .f32 from iblk m c 3 t) (ix2 0 b) = (show EReal from m ((c.tc : Thread nD τ).loc main_arg3) (ix1 ⟨b.val % 64, by omega⟩)) * Ideal.ofBits .f32 0x3E000000#32 := by
  blk_point [iblk, idx t]

theorem rd4 (c : Dev nD) (t : Fin cfg0.N) (b : Fin 384) :
    (show FVec Ideal S1x384 .f32 from iblk m c 4 t) (ix2 0 b) = (show EReal from m ((c.tc : Thread nD τ).loc main_arg4) (ix1 ⟨b.val % 64, by omega⟩)) := by
  blk_point [iblk, idx t]

theorem rd5 (c : Dev nD) (t : Fin cfg0.N) (a b : Fin 256) :
    (show FVec Ideal S256x256 .bf16 from iblk m c 5 t) (ix2 a b) = Ideal.ofBits .bf16 (lit0 (S256x256.rowMajor (ix2 a b))) := by
  blk_point [iblk, idx t]

/-- The table's block is ones on the heads' diagonal blocks. -/
theorem ones (c : Dev nD) (t : Fin cfg0.N) : Ones fun a b => (show FVec Ideal S256x256 .bf16 from iblk m c 5 t) (ix2 a b) := by
  intro a b
  refine (rd5 m c t a b).trans ?_
  have hr : @Eq (Fin 65536) (S256x256.rowMajor (ix2 a b)) ⟨a.val * 256 + b.val, by omega⟩ := Fin.ext (Shape.rowMajor_val_two _)
  refine (congrArg (Ideal.ofBits .bf16) ((congrArg lit0 hr).trans (lit_at a b))).trans ?_
  split_ifs
  · exact one_bf16
  · exact zero_bf16

/-- The projection at a channel, from the blocks and from the arguments. -/
theorem y_eq (c : Dev nD) (t : Fin cfg0.N) (r : Fin 512) (q : Fin 65536) (hq : q.val = t.val * 512 + r.val) :
    (fun j : Fin 1920 => proj (rms (fun j => (show FVec Ideal S512x1024 .f32 from iblk m c 0 t) (ix2 r j)) (fun j => (show FVec Ideal S1x1024 .f32 from iblk m c 1 t) (ix2 0 j))) (fun a => (show FVec Ideal S1024x1920 .bf16 from iblk m c 2 t) (ix2 a j)))
      = fun j : Fin 1920 => proj (rms (fun j => (show EReal from m ((c.tc : Thread nD τ).loc main_arg0) (ix2 q j))) (fun j => (show EReal from m ((c.tc : Thread nD τ).loc main_arg1) (ix2 1 j)))) (fun a => (show EReal from m ((c.tc : Thread nD τ).loc main_arg2) (ix2 a j))) :=
  funext fun j => proj_congr (rd0 m c t r q hq) (rd1 m c t) fun a => rd2 m c t a j

theorem point6 (c : Dev nD) (t : Fin cfg0.N) (r : Fin 512) (j : Fin 1152) (q : Fin 65536) (hq : q.val = t.val * 512 + r.val) :
    out0_6 (F := Ideal) (iblk m c 0 t) (iblk m c 1 t) (iblk m c 2 t) (iblk m c 3 t) (iblk m c 4 t) (iblk m c 5 t) (ix2 r j) = REF6 m c (ix2 q j) := by
  refine (out6_at _ _ _ _ _ _ r (ones m c t) j).trans (Eq.trans ?_ (Cert.QkvBRefIdeal.Pure.v51_at _ _ _ _ q j).symm)
  refine (Ideal.mul_congr (congrArg (fun y : Fin 1920 → EReal => head (by omega) (fun c : Fin 1152 => y  ⟨c.val, by omega⟩) j) (y_eq m c t r q hq)) (rd3 m c t j)).trans ?_
  exact (mul_assoc _ _ _).symm

theorem point7 (c : Dev nD) (t : Fin cfg0.N) (r : Fin 512) (j : Fin 384) (q : Fin 65536) (hq : q.val = t.val * 512 + r.val) :
    out0_7 (F := Ideal) (iblk m c 0 t) (iblk m c 1 t) (iblk m c 2 t) (iblk m c 3 t) (iblk m c 4 t) (iblk m c 5 t) (ix2 r j) = REF7 m c (ix2 q j) := by
  refine (out7_at _ _ _ _ _ _ r (ones m c t) j).trans (Eq.trans ?_ (Cert.QkvBRefIdeal.Pure.v53_at _ _ _ _ q j).symm)
  exact Ideal.mul_congr (congrArg (fun y : Fin 1920 → EReal => head (by omega) (fun c : Fin 384 => y  ⟨1152 + c.val, by omega⟩) j) (y_eq m c t r q hq)) (rd4 m c t j)

theorem point8 (c : Dev nD) (t : Fin cfg0.N) (r : Fin 512) (j : Fin 384) (q : Fin 65536) (hq : q.val = t.val * 512 + r.val) :
    out0_8 (F := Ideal) (iblk m c 0 t) (iblk m c 1 t) (iblk m c 2 t) (iblk m c 3 t) (iblk m c 4 t) (iblk m c 5 t) (ix2 r j) = REF8 m c (ix2 q j) := by
  refine (out8_at _ _ _ _ _ _ r j).trans (Eq.trans ?_ (Cert.QkvBRefIdeal.Pure.v54_at _ _ _ q j).symm)
  exact congrFun (y_eq m c t r q hq) _

/-- The kernel's queries are the reference's. -/
theorem final6 (c : Dev nD) : (dats m 0 c).arrAt 6 (cfgs 0).N = REF6 m c := by
  refine (dats m 0 c).arrAt_eq_of_covers 6 _ (by decide +kernel) fun t _ y => ?_
  blk_simp
  rw [after0_6]
  have ht : t.val < 128 := t.isLt
  have hr : ((y 0 : Fin 512)).val < 512 := (y 0 : Fin 512).isLt
  refine (congrArg (out0_6 (F := Ideal) _ _ _ _ _ _) (eq_ix2 (n0 := 512) (n1 := 1152) y)).trans ?_
  refine (point6 m c t (y 0) (y 1) ⟨t.val * 512 + (y 0 : Fin 512).val, by omega⟩ rfl).trans ?_
  blk_ext [idx t]

/-- The kernel's keys are the reference's. -/
theorem final7 (c : Dev nD) : (dats m 0 c).arrAt 7 (cfgs 0).N = REF7 m c := by
  refine (dats m 0 c).arrAt_eq_of_covers 7 _ (by decide +kernel) fun t _ y => ?_
  blk_simp
  rw [after0_7]
  have ht : t.val < 128 := t.isLt
  have hr : ((y 0 : Fin 512)).val < 512 := (y 0 : Fin 512).isLt
  refine (congrArg (out0_7 (F := Ideal) _ _ _ _ _ _) (eq_ix2 (n0 := 512) (n1 := 384) y)).trans ?_
  refine (point7 m c t (y 0) (y 1) ⟨t.val * 512 + (y 0 : Fin 512).val, by omega⟩ rfl).trans ?_
  blk_ext [idx t]

/-- The kernel's values are the reference's. -/
theorem final8 (c : Dev nD) : (dats m 0 c).arrAt 8 (cfgs 0).N = REF8 m c := by
  refine (dats m 0 c).arrAt_eq_of_covers 8 _ (by decide +kernel) fun t _ y => ?_
  blk_simp
  rw [after0_8]
  have ht : t.val < 128 := t.isLt
  have hr : ((y 0 : Fin 512)).val < 512 := (y 0 : Fin 512).isLt
  refine (congrArg (out0_8 (F := Ideal) _ _ _ _ _ _) (eq_ix2 (n0 := 512) (n1 := 384) y)).trans ?_
  refine (point8 m c t (y 0) (y 1) ⟨t.val * 512 + (y 0 : Fin 512).val, by omega⟩ rfl).trans ?_
  blk_ext [idx t]

end Cert.QkvBIdeal.Pure
-- ==== Proof.QkvBClaim.lean ====
module

public import proofs.«01_k».proof.Defs
public import proofs.«01_k».proof.Proof.QkvBValue
public import proofs.«01_k».proof.Proof.Gen.QkvB.Frame
public import Idealize.ShloMosaic.Lib.Claim

@[expose] public section

set_option maxRecDepth 16384

noncomputable section

open Idealize.ShloMosaic Idealize.SL.Sem

namespace Cert.QkvB.Claims

theorem quiescent : Cert.quiescent_QkvB := fun m g _ => Cert.QkvB.Gen.frame m g

theorem quiescentIdeal : Cert.quiescent_QkvBIdeal := fun m g _ => Cert.QkvBIdeal.Gen.frame m g

theorem quiescentRef : Cert.quiescent_QkvBRefIdeal := fun m g _ =>
  (θ_run Cert.QkvBRefIdeal.defs _ _).mono (fun r h => ⟨fun c => (h c).2.2.2,
      Idealize.ShloMosaic.sem_eq_zero_of_no_sems (by decide) r.2⟩)
    (Cert.QkvBRefIdeal.Value.run (F := Ideal) m g)

theorem preserves : Cert.preserves_QkvB_QkvBIdeal := trivial

theorem refAt6 (m : (ℓ : Loc Cert.QkvBIdeal.nD Cert.QkvBIdeal.τ Cert.QkvBIdeal.sig) → Buf (Elt Ideal) ℓ) (m' : (ℓ : Loc Cert.QkvBRefIdeal.nD Cert.QkvBRefIdeal.τ Cert.QkvBRefIdeal.sig) → Buf (Elt Ideal) ℓ)
    (c : Dev Cert.QkvBIdeal.nD)
    (h : m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0) ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1) ∧ m' ((c.tc : Thread Cert.QkvBRefIdeal.nD Cert.QkvBRefIdeal.τ).loc Cert.QkvBRefIdeal.main_arg2) = m ((c.tc : Thread Cert.QkvBIdeal.nD Cert.QkvBIdeal.τ).loc Cert.QkvBIdeal.main_arg2) ∧ m' ((c.tc : Thread Cert.QkvBRefIdeal.nD Cert.QkvBRefIdeal.τ).loc Cert.QkvBRefIdeal.main_arg3) = m ((c.tc : Thread Cert.QkvBIdeal.nD Cert.QkvBIdeal.τ).loc Cert.QkvBIdeal.main_arg3) ∧ m' ((c.tc : Thread Cert.QkvBRefIdeal.nD Cert.QkvBRefIdeal.τ).loc Cert.QkvBRefIdeal.main_arg4) = m ((c.tc : Thread Cert.QkvBIdeal.nD Cert.QkvBIdeal.τ).loc Cert.QkvBIdeal.main_arg4)) :
    Cert.QkvBRefIdeal.Read.val_main_v51 (F := Ideal) (m' ((c.tc : Thread Cert.QkvBRefIdeal.nD Cert.QkvBRefIdeal.τ).loc Cert.QkvBRefIdeal.main_arg0)) (m' ((c.tc : Thread Cert.QkvBRefIdeal.nD Cert.QkvBRefIdeal.τ).loc Cert.QkvBRefIdeal.main_arg1)) (m' ((c.tc : Thread Cert.QkvBRefIdeal.nD Cert.QkvBRefIdeal.τ).loc Cert.QkvBRefIdeal.main_arg2)) (m' ((c.tc : Thread Cert.QkvBRefIdeal.nD Cert.QkvBRefIdeal.τ).loc Cert.QkvBRefIdeal.main_arg3)) = Cert.QkvBIdeal.Pure.REF6 m c := by
  obtain ⟨h0, h1, h2, h3, h4⟩ := h
  rw [h0, h1, h2, h3]

theorem refAt7 (m : (ℓ : Loc Cert.QkvBIdeal.nD Cert.QkvBIdeal.τ Cert.QkvBIdeal.sig) → Buf (Elt Ideal) ℓ) (m' : (ℓ : Loc Cert.QkvBRefIdeal.nD Cert.QkvBRefIdeal.τ Cert.QkvBRefIdeal.sig) → Buf (Elt Ideal) ℓ)
    (c : Dev Cert.QkvBIdeal.nD)
    (h : m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0) ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1) ∧ m' ((c.tc : Thread Cert.QkvBRefIdeal.nD Cert.QkvBRefIdeal.τ).loc Cert.QkvBRefIdeal.main_arg2) = m ((c.tc : Thread Cert.QkvBIdeal.nD Cert.QkvBIdeal.τ).loc Cert.QkvBIdeal.main_arg2) ∧ m' ((c.tc : Thread Cert.QkvBRefIdeal.nD Cert.QkvBRefIdeal.τ).loc Cert.QkvBRefIdeal.main_arg3) = m ((c.tc : Thread Cert.QkvBIdeal.nD Cert.QkvBIdeal.τ).loc Cert.QkvBIdeal.main_arg3) ∧ m' ((c.tc : Thread Cert.QkvBRefIdeal.nD Cert.QkvBRefIdeal.τ).loc Cert.QkvBRefIdeal.main_arg4) = m ((c.tc : Thread Cert.QkvBIdeal.nD Cert.QkvBIdeal.τ).loc Cert.QkvBIdeal.main_arg4)) :
    Cert.QkvBRefIdeal.Read.val_main_v53 (F := Ideal) (m' ((c.tc : Thread Cert.QkvBRefIdeal.nD Cert.QkvBRefIdeal.τ).loc Cert.QkvBRefIdeal.main_arg0)) (m' ((c.tc : Thread Cert.QkvBRefIdeal.nD Cert.QkvBRefIdeal.τ).loc Cert.QkvBRefIdeal.main_arg1)) (m' ((c.tc : Thread Cert.QkvBRefIdeal.nD Cert.QkvBRefIdeal.τ).loc Cert.QkvBRefIdeal.main_arg2)) (m' ((c.tc : Thread Cert.QkvBRefIdeal.nD Cert.QkvBRefIdeal.τ).loc Cert.QkvBRefIdeal.main_arg4)) = Cert.QkvBIdeal.Pure.REF7 m c := by
  obtain ⟨h0, h1, h2, h3, h4⟩ := h
  rw [h0, h1, h2, h4]

theorem refAt8 (m : (ℓ : Loc Cert.QkvBIdeal.nD Cert.QkvBIdeal.τ Cert.QkvBIdeal.sig) → Buf (Elt Ideal) ℓ) (m' : (ℓ : Loc Cert.QkvBRefIdeal.nD Cert.QkvBRefIdeal.τ Cert.QkvBRefIdeal.sig) → Buf (Elt Ideal) ℓ)
    (c : Dev Cert.QkvBIdeal.nD)
    (h : m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0) ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1) ∧ m' ((c.tc : Thread Cert.QkvBRefIdeal.nD Cert.QkvBRefIdeal.τ).loc Cert.QkvBRefIdeal.main_arg2) = m ((c.tc : Thread Cert.QkvBIdeal.nD Cert.QkvBIdeal.τ).loc Cert.QkvBIdeal.main_arg2) ∧ m' ((c.tc : Thread Cert.QkvBRefIdeal.nD Cert.QkvBRefIdeal.τ).loc Cert.QkvBRefIdeal.main_arg3) = m ((c.tc : Thread Cert.QkvBIdeal.nD Cert.QkvBIdeal.τ).loc Cert.QkvBIdeal.main_arg3) ∧ m' ((c.tc : Thread Cert.QkvBRefIdeal.nD Cert.QkvBRefIdeal.τ).loc Cert.QkvBRefIdeal.main_arg4) = m ((c.tc : Thread Cert.QkvBIdeal.nD Cert.QkvBIdeal.τ).loc Cert.QkvBIdeal.main_arg4)) :
    Cert.QkvBRefIdeal.Read.val_main_v54 (F := Ideal) (m' ((c.tc : Thread Cert.QkvBRefIdeal.nD Cert.QkvBRefIdeal.τ).loc Cert.QkvBRefIdeal.main_arg0)) (m' ((c.tc : Thread Cert.QkvBRefIdeal.nD Cert.QkvBRefIdeal.τ).loc Cert.QkvBRefIdeal.main_arg1)) (m' ((c.tc : Thread Cert.QkvBRefIdeal.nD Cert.QkvBRefIdeal.τ).loc Cert.QkvBRefIdeal.main_arg2)) = Cert.QkvBIdeal.Pure.REF8 m c := by
  obtain ⟨h0, h1, h2, h3, h4⟩ := h
  rw [h0, h1, h2]

theorem algebraic : Cert.algebraic_QkvBIdeal_QkvBRefIdeal := by
  intro m g m' g' hpre hagree
  refine ⟨fun c => Cert.QkvBIdeal.Pure.REF6 m c, fun c => Cert.QkvBIdeal.Pure.REF7 m c, fun c => Cert.QkvBIdeal.Pure.REF8 m c, ?_, ?_⟩
  · exact (θ_run Cert.QkvBIdeal.defs _ _).mono
      (fun r h c => ⟨((h.1 c).1 6).trans (Cert.QkvBIdeal.Pure.final6 m c), ((h.1 c).1 7).trans (Cert.QkvBIdeal.Pure.final7 m c),
        ((h.1 c).1 8).trans (Cert.QkvBIdeal.Pure.final8 m c), h.2.1 c⟩)
      (Idealize.ShloMosaic.θ_run_and (Cert.QkvBIdeal.Gen.run_main m g) (Cert.QkvBIdeal.Gen.frame m g))
  · exact (θ_run Cert.QkvBRefIdeal.defs _ _).mono
      (fun r h c => ⟨((h c).1.trans (Cert.QkvBRefIdeal.Read.val_main_v51_eq _ _)).trans (refAt6 m m' c (hagree c)),
        ((h c).2.1.trans (Cert.QkvBRefIdeal.Read.val_main_v53_eq _ _ _ _)).trans (refAt7 m m' c (hagree c)),
        ((h c).2.2.1.trans (Cert.QkvBRefIdeal.Read.val_main_v54_eq _ _ _)).trans (refAt8 m m' c (hagree c)), (h c).2.2.2⟩)
      (Cert.QkvBRefIdeal.Value.run (F := Ideal) m' g')

end Cert.QkvB.Claims
-- ==== Proof.lean ====
module

public import proofs.«01_k».proof.Defs
public import proofs.«01_k».proof.Proof.Gen.PostA
public import proofs.«01_k».proof.Proof.Gen.PostA.Skeleton
public import proofs.«01_k».proof.Proof.Gen.PostA.Launch
public import proofs.«01_k».proof.Proof.Gen.PostA.Points
public import proofs.«01_k».proof.Proof.Gen.PostA.Frame
public import proofs.«01_k».proof.Proof.Gen.PostAIdeal
public import proofs.«01_k».proof.Proof.Gen.PostAIdeal.Skeleton
public import proofs.«01_k».proof.Proof.Gen.PostAIdeal.Launch
public import proofs.«01_k».proof.Proof.Gen.PostAIdeal.Points
public import proofs.«01_k».proof.Proof.Gen.PostAIdeal.Frame
public import proofs.«01_k».proof.Proof.Gen.PostARefIdeal
public import proofs.«01_k».proof.Proof.Gen.PostAIdeal.Value
public import proofs.«01_k».proof.Proof.Gen.PostARefIdeal.Run
public import proofs.«01_k».proof.Proof.Gen.PostARefIdeal.Read
public import proofs.«01_k».proof.Proof.PostAClaim
public import proofs.«01_k».proof.Proof.Gen.PostB
public import proofs.«01_k».proof.Proof.Gen.PostB.Skeleton
public import proofs.«01_k».proof.Proof.Gen.PostB.Launch
public import proofs.«01_k».proof.Proof.Gen.PostB.Points
public import proofs.«01_k».proof.Proof.Gen.PostB.Frame
public import proofs.«01_k».proof.Proof.Gen.PostBIdeal
public import proofs.«01_k».proof.Proof.Gen.PostBIdeal.Skeleton
public import proofs.«01_k».proof.Proof.Gen.PostBIdeal.Launch
public import proofs.«01_k».proof.Proof.Gen.PostBIdeal.Points
public import proofs.«01_k».proof.Proof.Gen.PostBIdeal.Frame
public import proofs.«01_k».proof.Proof.Gen.PostBRefIdeal
public import proofs.«01_k».proof.Proof.Gen.PostBIdeal.Value
public import proofs.«01_k».proof.Proof.Gen.PostBRefIdeal.Run
public import proofs.«01_k».proof.Proof.Gen.PostBRefIdeal.Read
public import proofs.«01_k».proof.Proof.PostBClaim
public import proofs.«01_k».proof.Proof.Gen.PostBS
public import proofs.«01_k».proof.Proof.Gen.PostBS.Skeleton
public import proofs.«01_k».proof.Proof.Gen.PostBS.Launch
public import proofs.«01_k».proof.Proof.Gen.PostBS.Points
public import proofs.«01_k».proof.Proof.Gen.PostBS.Frame
public import proofs.«01_k».proof.Proof.Gen.PostBSIdeal
public import proofs.«01_k».proof.Proof.Gen.PostBSIdeal.Skeleton
public import proofs.«01_k».proof.Proof.Gen.PostBSIdeal.Launch
public import proofs.«01_k».proof.Proof.Gen.PostBSIdeal.Points
public import proofs.«01_k».proof.Proof.Gen.PostBSIdeal.Frame
public import proofs.«01_k».proof.Proof.Gen.PostBSRefIdeal
public import proofs.«01_k».proof.Proof.Gen.PostBSIdeal.Value
public import proofs.«01_k».proof.Proof.Gen.PostBSRefIdeal.Run
public import proofs.«01_k».proof.Proof.Gen.PostBSRefIdeal.Read
public import proofs.«01_k».proof.Proof.PostBSClaim
public import proofs.«01_k».proof.Proof.Gen.QkvA
public import proofs.«01_k».proof.Proof.Gen.QkvA.Skeleton
public import proofs.«01_k».proof.Proof.Gen.QkvA.Launch
public import proofs.«01_k».proof.Proof.Gen.QkvA.Points
public import proofs.«01_k».proof.Proof.Gen.QkvA.Frame
public import proofs.«01_k».proof.Proof.Gen.QkvAIdeal
public import proofs.«01_k».proof.Proof.Gen.QkvAIdeal.Skeleton
public import proofs.«01_k».proof.Proof.Gen.QkvAIdeal.Launch
public import proofs.«01_k».proof.Proof.Gen.QkvAIdeal.Points
public import proofs.«01_k».proof.Proof.Gen.QkvAIdeal.Frame
public import proofs.«01_k».proof.Proof.Gen.QkvARefIdeal
public import proofs.«01_k».proof.Proof.Gen.QkvAIdeal.Value
public import proofs.«01_k».proof.Proof.Gen.QkvARefIdeal.Run
public import proofs.«01_k».proof.Proof.Gen.QkvARefIdeal.Read
public import proofs.«01_k».proof.Proof.QkvAClaim
public import proofs.«01_k».proof.Proof.Gen.QkvB
public import proofs.«01_k».proof.Proof.Gen.QkvB.Skeleton
public import proofs.«01_k».proof.Proof.Gen.QkvB.Launch
public import proofs.«01_k».proof.Proof.Gen.QkvB.Points
public import proofs.«01_k».proof.Proof.Gen.QkvB.Frame
public import proofs.«01_k».proof.Proof.Gen.QkvBIdeal
public import proofs.«01_k».proof.Proof.Gen.QkvBIdeal.Skeleton
public import proofs.«01_k».proof.Proof.Gen.QkvBIdeal.Launch
public import proofs.«01_k».proof.Proof.Gen.QkvBIdeal.Points
public import proofs.«01_k».proof.Proof.Gen.QkvBIdeal.Frame
public import proofs.«01_k».proof.Proof.Gen.QkvBRefIdeal
public import proofs.«01_k».proof.Proof.Gen.QkvBIdeal.Value
public import proofs.«01_k».proof.Proof.Gen.QkvBRefIdeal.Run
public import proofs.«01_k».proof.Proof.Gen.QkvBRefIdeal.Read
public import proofs.«01_k».proof.Proof.QkvBClaim
public import proofs.«01_k».proof.Proof.Gen.Pre_greatest_lse_finite
public import proofs.«01_k».proof.Proof.Gen.Pre_greatest_lse_finite_sample
public import Idealize.ShloMosaic.Adequacy
public import Idealize.ShloMosaic.Init

@[expose] public section

noncomputable section

namespace Cert.Proof

open Idealize.ShloMosaic Idealize.SL.Sem

theorem claim : Cert.Claim := ⟨Cert.PostA.Gen.facts, Cert.PostAIdeal.Gen.facts, Cert.PostARefIdeal.Gen.facts, Cert.PostB.Gen.facts, Cert.PostBIdeal.Gen.facts, Cert.PostBRefIdeal.Gen.facts, Cert.PostBS.Gen.facts, Cert.PostBSIdeal.Gen.facts, Cert.PostBSRefIdeal.Gen.facts, Cert.QkvA.Gen.facts, Cert.QkvAIdeal.Gen.facts, Cert.QkvARefIdeal.Gen.facts, Cert.QkvB.Gen.facts, Cert.QkvBIdeal.Gen.facts, Cert.QkvBRefIdeal.Gen.facts, Cert.Pre_greatest_lse_finite.Gen.facts, Cert.Pre_greatest_lse_finite_sample.Gen.facts,
  Cert.PostA.Claims.quiescent,
  Cert.PostA.Claims.quiescentIdeal,
  Cert.PostA.Claims.quiescentRef,
  Cert.PostB.Claims.quiescent,
  Cert.PostB.Claims.quiescentIdeal,
  Cert.PostB.Claims.quiescentIdealPre,
  Cert.PostB.Claims.quiescentRef,
  Cert.PostB.Claims.quiescentRefPre,
  Cert.PostBS.Claims.quiescent,
  Cert.PostBS.Claims.quiescentIdeal,
  Cert.PostBS.Claims.quiescentIdealPre,
  Cert.PostBS.Claims.quiescentRef,
  Cert.PostBS.Claims.quiescentRefPre,
  Cert.QkvA.Claims.quiescent,
  Cert.QkvA.Claims.quiescentIdeal,
  Cert.QkvA.Claims.quiescentRef,
  Cert.QkvB.Claims.quiescent,
  Cert.QkvB.Claims.quiescentIdeal,
  Cert.QkvB.Claims.quiescentRef,
  Cert.PostA.Claims.preserves,
  Cert.PostA.Claims.algebraic,
  Cert.PostB.Claims.preserves,
  Cert.PostB.Claims.algebraic,
  Cert.PostBS.Claims.preserves,
  Cert.PostBS.Claims.algebraic,
  Cert.QkvA.Claims.preserves,
  Cert.QkvA.Claims.algebraic,
  Cert.QkvB.Claims.preserves,
  Cert.QkvB.Claims.algebraic⟩

end Cert.Proof

end
